-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2560x4096 : Shape := ⟨3, ![8, 2560, 4096]⟩
abbrev S4096x11008 : Shape := ⟨2, ![4096, 11008]⟩
abbrev S2048x11008 : Shape := ⟨2, ![2048, 11008]⟩
abbrev S128x11008 : Shape := ⟨2, ![128, 11008]⟩
abbrev S4096x64 : Shape := ⟨2, ![4096, 64]⟩
abbrev S64x11008 : Shape := ⟨2, ![64, 11008]⟩
abbrev S2x2048x11008 : Shape := ⟨3, ![2, 2048, 11008]⟩
abbrev S2x64x11008 : Shape := ⟨3, ![2, 64, 11008]⟩
abbrev S43x2x2048x256 : Shape := ⟨4, ![43, 2, 2048, 256]⟩
abbrev S2x2048x256 : Shape := ⟨3, ![2, 2048, 256]⟩
abbrev S2048x256 : Shape := ⟨2, ![2048, 256]⟩
abbrev S2x64x256 : Shape := ⟨3, ![2, 64, 256]⟩
abbrev S1x2x2048x256 : Shape := ⟨4, ![1, 2, 2048, 256]⟩
abbrev S32x256 : Shape := ⟨2, ![32, 256]⟩
abbrev S8x256 : Shape := ⟨2, ![8, 256]⟩
abbrev S1x1x256 : Shape := ⟨3, ![1, 1, 256]⟩
abbrev S1x256 : Shape := ⟨2, ![1, 256]⟩
abbrev S1x32x256 : Shape := ⟨3, ![1, 32, 256]⟩
abbrev S1x1x32x256 : Shape := ⟨4, ![1, 1, 32, 256]⟩
abbrev S43x4096x256 : Shape := ⟨3, ![43, 4096, 256]⟩
abbrev S64x43x256 : Shape := ⟨3, ![64, 43, 256]⟩
abbrev S43x64x256 : Shape := ⟨3, ![43, 64, 256]⟩
abbrev S20480x4096 : Shape := ⟨2, ![20480, 4096]⟩
abbrev S20x1x1024 : Shape := ⟨3, ![20, 1, 1024]⟩
abbrev S20480x64 : Shape := ⟨2, ![20480, 64]⟩
abbrev S1024x4096 : Shape := ⟨2, ![1024, 4096]⟩
abbrev S1x4096x256 : Shape := ⟨3, ![1, 4096, 256]⟩
abbrev S1x64x256 : Shape := ⟨3, ![1, 64, 256]⟩
abbrev S1x1x1024 : Shape := ⟨3, ![1, 1, 1024]⟩
abbrev S1024x64 : Shape := ⟨2, ![1024, 64]⟩
abbrev S64x1024 : Shape := ⟨2, ![64, 1024]⟩
abbrev S1024x128 : Shape := ⟨2, ![1024, 128]⟩
abbrev S64x4096 : Shape := ⟨2, ![64, 4096]⟩
abbrev S64x256 : Shape := ⟨2, ![64, 256]⟩
abbrev S4096x256 : Shape := ⟨2, ![4096, 256]⟩
abbrev S1024x256 : Shape := ⟨2, ![1024, 256]⟩
abbrev S128x1024 : Shape := ⟨2, ![128, 1024]⟩
abbrev S1024 : Shape := ⟨1, ![1024]⟩
abbrev S1x1024 : Shape := ⟨2, ![1, 1024]⟩
abbrev S8x2560 : Shape := ⟨2, ![8, 2560]⟩
abbrev S8x2560x64 : Shape := ⟨3, ![8, 2560, 64]⟩

abbrev nBuf : Space → Nat
  | .hbm => 23
  | .vmem => 29
  | .smem => 0
  | _ => 0

abbrev bufTy : (tb : Table) → Fin (tcTables nBuf tb) → BufTy
  | .hbm, ⟨0, _⟩ => ⟨S8x2560x4096, .bf16⟩
  | .hbm, ⟨1, _⟩ => ⟨S4096x11008, .bf16⟩
  | .hbm, ⟨2, _⟩ => ⟨S2048x11008, .i8⟩
  | .hbm, ⟨3, _⟩ => ⟨S128x11008, .bf16⟩
  | .hbm, ⟨4, _⟩ => ⟨S128x11008, .bf16⟩
  | .hbm, ⟨5, _⟩ => ⟨S4096x64, .bf16⟩
  | .hbm, ⟨6, _⟩ => ⟨S64x11008, .bf16⟩
  | .hbm, ⟨7, _⟩ => ⟨S2x2048x11008, .bf16⟩
  | .hbm, ⟨8, _⟩ => ⟨S2x64x11008, .bf16⟩
  | .hbm, ⟨9, _⟩ => ⟨S2x64x11008, .bf16⟩
  | .hbm, ⟨10, _⟩ => ⟨S43x2x2048x256, .bf16⟩
  | .hbm, ⟨11, _⟩ => ⟨S43x4096x256, .bf16⟩
  | .hbm, ⟨12, _⟩ => ⟨S64x43x256, .bf16⟩
  | .hbm, ⟨13, _⟩ => ⟨S43x64x256, .bf16⟩
  | .hbm, ⟨14, _⟩ => ⟨S20480x4096, .bf16⟩
  | .hbm, ⟨15, _⟩ => ⟨S20x1x1024, .f32⟩
  | .hbm, ⟨16, _⟩ => ⟨S20480x64, .f32⟩
  | .hbm, ⟨17, _⟩ => ⟨S4096x64, .f32⟩
  | .hbm, ⟨18, _⟩ => ⟨S43x64x256, .f32⟩
  | .hbm, ⟨19, _⟩ => ⟨S64x43x256, .f32⟩
  | .hbm, ⟨20, _⟩ => ⟨S64x11008, .f32⟩
  | .hbm, ⟨21, _⟩ => ⟨S8x2560, .f32⟩
  | .hbm, ⟨22, _⟩ => ⟨S8x2560x64, .f32⟩
  | .local _ .vmem, ⟨0, _⟩ => ⟨S2x2048x256, .bf16⟩
  | .local _ .vmem, ⟨1, _⟩ => ⟨S2x2048x256, .bf16⟩
  | .local _ .vmem, ⟨2, _⟩ => ⟨S2048x256, .i8⟩
  | .local _ .vmem, ⟨3, _⟩ => ⟨S2048x256, .i8⟩
  | .local _ .vmem, ⟨4, _⟩ => ⟨S2x64x256, .bf16⟩
  | .local _ .vmem, ⟨5, _⟩ => ⟨S2x64x256, .bf16⟩
  | .local _ .vmem, ⟨6, _⟩ => ⟨S2x64x256, .bf16⟩
  | .local _ .vmem, ⟨7, _⟩ => ⟨S2x64x256, .bf16⟩
  | .local _ .vmem, ⟨8, _⟩ => ⟨S1x2x2048x256, .bf16⟩
  | .local _ .vmem, ⟨9, _⟩ => ⟨S1x2x2048x256, .bf16⟩
  | .local _ .vmem, ⟨10, _⟩ => ⟨S1024x4096, .bf16⟩
  | .local _ .vmem, ⟨11, _⟩ => ⟨S1024x4096, .bf16⟩
  | .local _ .vmem, ⟨12, _⟩ => ⟨S1x4096x256, .bf16⟩
  | .local _ .vmem, ⟨13, _⟩ => ⟨S1x4096x256, .bf16⟩
  | .local _ .vmem, ⟨14, _⟩ => ⟨S4096x64, .bf16⟩
  | .local _ .vmem, ⟨15, _⟩ => ⟨S1x64x256, .bf16⟩
  | .local _ .vmem, ⟨16, _⟩ => ⟨S1x64x256, .bf16⟩
  | .local _ .vmem, ⟨17, _⟩ => ⟨S1x1x1024, .f32⟩
  | .local _ .vmem, ⟨18, _⟩ => ⟨S1x1x1024, .f32⟩
  | .local _ .vmem, ⟨19, _⟩ => ⟨S1024x64, .f32⟩
  | .local _ .vmem, ⟨20, _⟩ => ⟨S1024x64, .f32⟩
  | .local _ .vmem, ⟨21, _⟩ => ⟨S4096x64, .f32⟩
  | .local _ .vmem, ⟨22, _⟩ => ⟨S43x64x256, .f32⟩
  | .local _ .vmem, ⟨23, _⟩ => ⟨S1024x64, .bf16⟩
  | .local _ .vmem, ⟨24, _⟩ => ⟨S64x1024, .bf16⟩
  | .local _ .vmem, ⟨25, _⟩ => ⟨S1024x128, .f32⟩
  | .local _ .vmem, ⟨26, _⟩ => ⟨S64x1024, .f32⟩
  | .local _ .vmem, ⟨27, _⟩ => ⟨S64x4096, .f32⟩
  | .local _ .vmem, ⟨28, _⟩ => ⟨S43x64x256, .f32⟩
  | _, _ => ⟨S8x2560x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc1_scratch4 : Ref sig .tc := ⟨.vmem, 27, rfl⟩
abbrev cc1_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem7_0 : DmaSem sig := 22

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![20, 43], ![false, false]⟩

def k1_cond2 (i : grid1.Coords) : BitVec 1 :=
  let arg0 : BitVec 32 := BitVec.ofNat 32 (i 0).val
  let c0_i32_23 : BitVec 32 := 0#32
  let v31 : BitVec 1 := Scalar.cmpi .eq arg0 c0_i32_23
  let v32 : BitVec 32 := Scalar.extui v31
  let c0_i32_24 : BitVec 32 := 0#32
  let v33 : BitVec 1 := Scalar.cmpi .ne v32 c0_i32_24
  v33

def k1_off1 (i : grid1.Coords) : Fin 3 → Nat :=
  let arg1 : BitVec 32 := BitVec.ofNat 32 (i 1).val
  let v40 : Index := Scalar.indexCast arg1
  let c0_28 : Index := 0#32
  let c0_29 : Index := 0#32
  ![v40.toNat, 0, 0]
def k1_cond3 (i : grid1.Coords) : BitVec 1 :=
  let arg0 : BitVec 32 := BitVec.ofNat 32 (i 0).val
  let c0_i32_25 : BitVec 32 := 0#32
  let v34 : BitVec 1 := Scalar.cmpi .sgt arg0 c0_i32_25
  let v35 : BitVec 32 := Scalar.extui v34
  let c0_i32_26 : BitVec 32 := 0#32
  let v36 : BitVec 1 := Scalar.cmpi .ne v35 c0_i32_26
  v36

def k1_off2 (i : grid1.Coords) : Fin 3 → Nat :=
  let arg1 : BitVec 32 := BitVec.ofNat 32 (i 1).val
  let v40 : Index := Scalar.indexCast arg1
  let c0_28 : Index := 0#32
  let c0_29 : Index := 0#32
  ![v40.toNat, 0, 0]
def k1_cond4 (i : grid1.Coords) : BitVec 1 :=
  let arg1 : BitVec 32 := BitVec.ofNat 32 (i 1).val
  let c42_i32 : BitVec 32 := 42#32
  let v37 : BitVec 1 := Scalar.cmpi .eq arg1 c42_i32
  let v38 : BitVec 32 := Scalar.extui v37
  let c0_i32_27 : BitVec 32 := 0#32
  let v39 : BitVec 1 := Scalar.cmpi .ne v38 c0_i32_27
  v39

def k1_cond7 (i : grid1.Coords) : BitVec 1 :=
  let arg0 : BitVec 32 := BitVec.ofNat 32 (i 0).val
  let c19_i32 : BitVec 32 := 19#32
  let v60 : BitVec 1 := Scalar.cmpi .eq arg0 c19_i32
  let v61 : BitVec 32 := Scalar.extui v60
  let c0_i32_45 : BitVec 32 := 0#32
  let v62 : BitVec 1 := Scalar.cmpi .ne v61 c0_i32_45
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4096x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S4096x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S43x64x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]
-- ==== ReferenceIdeal.lean ====
abbrev S8x2560x4096 : Shape := ⟨3, ![8, 2560, 4096]⟩
abbrev S4096x11008 : Shape := ⟨2, ![4096, 11008]⟩
abbrev S2048x11008 : Shape := ⟨2, ![2048, 11008]⟩
abbrev S128x11008 : Shape := ⟨2, ![128, 11008]⟩
abbrev S4096x64 : Shape := ⟨2, ![4096, 64]⟩
abbrev S64x11008 : Shape := ⟨2, ![64, 11008]⟩
abbrev S_ : Shape := ⟨0, ![]⟩
abbrev S64x32x11008 : Shape := ⟨3, ![64, 32, 11008]⟩
abbrev S8x2560x2048 : Shape := ⟨3, ![8, 2560, 2048]⟩
abbrev S8x2560x11008 : Shape := ⟨3, ![8, 2560, 11008]⟩
abbrev S8x2560x64 : Shape := ⟨3, ![8, 2560, 64]⟩
abbrev S8x2560 : Shape := ⟨2, ![8, 2560]⟩

abbrev nBuf : Space → Nat
  | .hbm => 59
  | .vmem => 0
  | .smem => 0
  | _ => 0

abbrev bufTy : (tb : Table) → Fin (tcTables nBuf tb) → BufTy
  | .hbm, ⟨0, _⟩ => ⟨S8x2560x4096, .bf16⟩
  | .hbm, ⟨1, _⟩ => ⟨S4096x11008, .bf16⟩
  | .hbm, ⟨2, _⟩ => ⟨S2048x11008, .i8⟩
  | .hbm, ⟨3, _⟩ => ⟨S128x11008, .bf16⟩
  | .hbm, ⟨4, _⟩ => ⟨S128x11008, .bf16⟩
  | .hbm, ⟨5, _⟩ => ⟨S4096x64, .bf16⟩
  | .hbm, ⟨6, _⟩ => ⟨S64x11008, .bf16⟩
  | .hbm, ⟨7, _⟩ => ⟨S2048x11008, .i32⟩
  | .hbm, ⟨8, _⟩ => ⟨S_, .i32⟩
  | .hbm, ⟨9, _⟩ => ⟨S2048x11008, .i32⟩
  | .hbm, ⟨10, _⟩ => ⟨S2048x11008, .i32⟩
  | .hbm, ⟨11, _⟩ => ⟨S_, .i32⟩
  | .hbm, ⟨12, _⟩ => ⟨S2048x11008, .i32⟩
  | .hbm, ⟨13, _⟩ => ⟨S2048x11008, .i32⟩
  | .hbm, ⟨14, _⟩ => ⟨S2048x11008, .bf16⟩
  | .hbm, ⟨15, _⟩ => ⟨S64x11008, .bf16⟩
  | .hbm, ⟨16, _⟩ => ⟨S64x11008, .bf16⟩
  | .hbm, ⟨17, _⟩ => ⟨S2048x11008, .bf16⟩
  | .hbm, ⟨18, _⟩ => ⟨S64x32x11008, .bf16⟩
  | .hbm, ⟨19, _⟩ => ⟨S2048x11008, .bf16⟩
  | .hbm, ⟨20, _⟩ => ⟨S64x32x11008, .bf16⟩
  | .hbm, ⟨21, _⟩ => ⟨S2048x11008, .bf16⟩
  | .hbm, ⟨22, _⟩ => ⟨S2048x11008, .bf16⟩
  | .hbm, ⟨23, _⟩ => ⟨S2048x11008, .bf16⟩
  | .hbm, ⟨24, _⟩ => ⟨S2048x11008, .bf16⟩
  | .hbm, ⟨25, _⟩ => ⟨S2048x11008, .bf16⟩
  | .hbm, ⟨26, _⟩ => ⟨S64x11008, .bf16⟩
  | .hbm, ⟨27, _⟩ => ⟨S64x11008, .bf16⟩
  | .hbm, ⟨28, _⟩ => ⟨S2048x11008, .bf16⟩
  | .hbm, ⟨29, _⟩ => ⟨S64x32x11008, .bf16⟩
  | .hbm, ⟨30, _⟩ => ⟨S2048x11008, .bf16⟩
  | .hbm, ⟨31, _⟩ => ⟨S64x32x11008, .bf16⟩
  | .hbm, ⟨32, _⟩ => ⟨S2048x11008, .bf16⟩
  | .hbm, ⟨33, _⟩ => ⟨S2048x11008, .bf16⟩
  | .hbm, ⟨34, _⟩ => ⟨S2048x11008, .bf16⟩
  | .hbm, ⟨35, _⟩ => ⟨S2048x11008, .bf16⟩
  | .hbm, ⟨36, _⟩ => ⟨S8x2560x2048, .bf16⟩
  | .hbm, ⟨37, _⟩ => ⟨S8x2560x11008, .f32⟩
  | .hbm, ⟨38, _⟩ => ⟨S8x2560x2048, .bf16⟩
  | .hbm, ⟨39, _⟩ => ⟨S8x2560x11008, .f32⟩
  | .hbm, ⟨40, _⟩ => ⟨S8x2560x11008, .f32⟩
  | .hbm, ⟨41, _⟩ => ⟨S8x2560x64, .f32⟩
  | .hbm, ⟨42, _⟩ => ⟨S8x2560x64, .bf16⟩
  | .hbm, ⟨43, _⟩ => ⟨S8x2560x11008, .f32⟩
  | .hbm, ⟨44, _⟩ => ⟨S8x2560x11008, .f32⟩
  | .hbm, ⟨45, _⟩ => ⟨S8x2560x11008, .f32⟩
  | .hbm, ⟨46, _⟩ => ⟨S_, .f32⟩
  | .hbm, ⟨47, _⟩ => ⟨S8x2560, .f32⟩
  | .hbm, ⟨48, _⟩ => ⟨S8x2560x11008, .bf16⟩
  | .hbm, ⟨49, _⟩ => ⟨S8x2560x64, .f32⟩
  | .hbm, ⟨50, _⟩ => ⟨S8x2560x64, .bf16⟩
  | .hbm, ⟨51, _⟩ => ⟨S4096x64, .f32⟩
  | .hbm, ⟨52, _⟩ => ⟨S_, .f32⟩
  | .hbm, ⟨53, _⟩ => ⟨S4096x64, .f32⟩
  | .hbm, ⟨54, _⟩ => ⟨S4096x64, .f32⟩
  | .hbm, ⟨55, _⟩ => ⟨S64x11008, .f32⟩
  | .hbm, ⟨56, _⟩ => ⟨S_, .f32⟩
  | .hbm, ⟨57, _⟩ => ⟨S64x11008, .f32⟩
  | .hbm, ⟨58, _⟩ => ⟨S64x11008, .f32⟩
  | _, _ => ⟨S8x2560x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Kernel.Err.lean ====
/- The first kernel of the program (the weight error): what its body leaves in the output block, and its obligation at every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Err

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_weight_error` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S32x256.size inb_S2048x256_S32x256_0_0
abbrev r0_1 : Rect S2x64x256 := Rect.unit (s := S2x64x256) ![0, 0, 0] S1x1x256.size inb_S2x64x256_S1x1x256_0_0_0
abbrev r0_2 : Rect S2x2048x256 := Rect.unit (s := S2x2048x256) ![0, 0, 0] S1x32x256.size inb_S2x2048x256_S1x32x256_0_0_0
abbrev r0_3 : Rect S1x2x2048x256 := Rect.unit (s := S1x2x2048x256) ![0, 0, 0, 0] S1x1x32x256.size inb_S1x2x2048x256_S1x1x32x256_0_0_0_0
abbrev r0_4 : Rect S2x64x256 := Rect.unit (s := S2x64x256) ![1, 0, 0] S1x1x256.size inb_S2x64x256_S1x1x256_1_0_0
abbrev r0_5 : Rect S2x2048x256 := Rect.unit (s := S2x2048x256) ![1, 0, 0] S1x32x256.size inb_S2x2048x256_S1x32x256_1_0_0
abbrev r0_6 : Rect S1x2x2048x256 := Rect.unit (s := S1x2x2048x256) ![0, 1, 0, 0] S1x1x32x256.size inb_S1x2x2048x256_S1x1x32x256_0_1_0_0
abbrev r0_7 : Rect S2048x256 := Rect.unit (s := S2048x256) ![32, 0] S32x256.size inb_S2048x256_S32x256_32_0
abbrev r0_8 : Rect S2x64x256 := Rect.unit (s := S2x64x256) ![0, 1, 0] S1x1x256.size inb_S2x64x256_S1x1x256_0_1_0
abbrev r0_9 : Rect S2x2048x256 := Rect.unit (s := S2x2048x256) ![0, 32, 0] S1x32x256.size inb_S2x2048x256_S1x32x256_0_32_0
abbrev r0_10 : Rect S1x2x2048x256 := Rect.unit (s := S1x2x2048x256) ![0, 0, 32, 0] S1x1x32x256.size inb_S1x2x2048x256_S1x1x32x256_0_0_32_0
abbrev r0_11 : Rect S2x64x256 := Rect.unit (s := S2x64x256) ![1, 1, 0] S1x1x256.size inb_S2x64x256_S1x1x256_1_1_0
abbrev r0_12 : Rect S2x2048x256 := Rect.unit (s := S2x2048x256) ![1, 32, 0] S1x32x256.size inb_S2x2048x256_S1x32x256_1_32_0
abbrev r0_13 : Rect S1x2x2048x256 := Rect.unit (s := S1x2x2048x256) ![0, 1, 32, 0] S1x1x32x256.size inb_S1x2x2048x256_S1x1x32x256_0_1_32_0
abbrev r0_14 : Rect S2048x256 := Rect.unit (s := S2048x256) ![64, 0] S32x256.size inb_S2048x256_S32x256_64_0
abbrev r0_15 : Rect S2x64x256 := Rect.unit (s := S2x64x256) ![0, 2, 0] S1x1x256.size inb_S2x64x256_S1x1x256_0_2_0
abbrev r0_16 : Rect S2x2048x256 := Rect.unit (s := S2x2048x256) ![0, 64, 0] S1x32x256.size inb_S2x2048x256_S1x32x256_0_64_0
abbrev r0_17 : Rect S1x2x2048x256 := Rect.unit (s := S1x2x2048x256) ![0, 0, 64, 0] S1x1x32x256.size inb_S1x2x2048x256_S1x1x32x256_0_0_64_0
abbrev r0_18 : Rect S2x64x256 := Rect.unit (s := S2x64x256) ![1, 2, 0] S1x1x256.size inb_S2x64x256_S1x1x256_1_2_0
abbrev r0_19 : Rect S2x2048x256 := Rect.unit (s := S2x2048x256) ![1, 64, 0] S1x32x256.size inb_S2x2048x256_S1x32x256_1_64_0
abbrev r0_20 : Rect S1x2x2048x256 := Rect.unit (s := S1x2x2048x256) ![0, 1, 64, 0] S1x1x32x256.size inb_S1x2x2048x256_S1x1x32x256_0_1_64_0
abbrev r0_21 : Rect S2048x256 := Rect.unit (s := S2048x256) ![96, 0] S32x256.size inb_S2048x256_S32x256_96_0
abbrev r0_22 : Rect S2x64x256 := Rect.unit (s := S2x64x256) ![0, 3, 0] S1x1x256.size inb_S2x64x256_S1x1x256_0_3_0
abbrev r0_23 : Rect S2x2048x256 := Rect.unit (s := S2x2048x256) ![0, 96, 0] S1x32x256.size inb_S2x2048x256_S1x32x256_0_96_0
abbrev r0_24 : Rect S1x2x2048x256 := Rect.unit (s := S1x2x2048x256) ![0, 0, 96, 0] S1x1x32x256.size inb_S1x2x2048x256_S1x1x32x256_0_0_96_0
abbrev r0_25 : Rect S2x64x256 := Rect.unit (s := S2x64x256) ![1, 3, 0] S1x1x256.size inb_S2x64x256_S1x1x256_1_3_0
abbrev r0_26 : Rect S2x2048x256 := Rect.unit (s := S2x2048x256) ![1, 96, 0] S1x32x256.size inb_S2x2048x256_S1x32x256_1_96_0
abbrev r0_27 : Rect S1x2x2048x256 := Rect.unit (s := S1x2x2048x256) ![0, 1, 96, 0] S1x1x32x256.size inb_S1x2x2048x256_S1x1x32x256_0_1_96_0
abbrev r0_28 : Rect S2048x256 := Rect.unit (s := S2048x256) ![128, 0] S32x256.size inb_S2048x256_S32x256_128_0
abbrev r0_29 : Rect S2x64x256 := Rect.unit (s := S2x64x256) ![0, 4, 0] S1x1x256.size inb_S2x64x256_S1x1x256_0_4_0
abbrev r0_30 : Rect S2x2048x256 := Rect.unit (s := S2x2048x256) ![0, 128, 0] S1x32x256.size inb_S2x2048x256_S1x32x256_0_128_0
abbrev r0_31 : Rect S1x2x2048x256 := Rect.unit (s := S1x2x2048x256) ![0, 0, 128, 0] S1x1x32x256.size inb_S1x2x2048x256_S1x1x32x256_0_0_128_0
abbrev r0_32 : Rect S2x64x256 := Rect.unit (s := S2x64x256) ![1, 4, 0] S1x1x256.size inb_S2x64x256_S1x1x256_1_4_0
abbrev r0_33 : Rect S2x2048x256 := Rect.unit (s := S2x2048x256) ![1, 128, 0] S1x32x256.size inb_S2x2048x256_S1x32x256_1_128_0
abbrev r0_34 : Rect S1x2x2048x256 := Rect.unit (s := S1x2x2048x256) ![0, 1, 128, 0] S1x1x32x256.size inb_S1x2x2048x256_S1x1x32x256_0_1_128_0
abbrev r0_35 : Rect S2048x256 := Rect.unit (s := S2048x256) ![160, 0] S32x256.size inb_S2048x256_S32x256_160_0
abbrev r0_36 : Rect S2x64x256 := Rect.unit (s := S2x64x256) ![0, 5, 0] S1x1x256.size inb_S2x64x256_S1x1x256_0_5_0
abbrev r0_37 : Rect S2x2048x256 := Rect.unit (s := S2x2048x256) ![0, 160, 0] S1x32x256.size inb_S2x2048x256_S1x32x256_0_160_0
abbrev r0_38 : Rect S1x2x2048x256 := Rect.unit (s := S1x2x2048x256) ![0, 0, 160, 0] S1x1x32x256.size inb_S1x2x2048x256_S1x1x32x256_0_0_160_0
abbrev r0_39 : Rect S2x64x256 := Rect.unit (s := S2x64x256) ![1, 5, 0] S1x1x256.size inb_S2x64x256_S1x1x256_1_5_0
abbrev r0_40 : Rect S2x2048x256 := Rect.unit (s := S2x2048x256) ![1, 160, 0] S1x32x256.size inb_S2x2048x256_S1x32x256_1_160_0
abbrev r0_41 : Rect S1x2x2048x256 := Rect.unit (s := S1x2x2048x256) ![0, 1, 160, 0] S1x1x32x256.size inb_S1x2x2048x256_S1x1x32x256_0_1_160_0
abbrev r0_42 : Rect S2048x256 := Rect.unit (s := S2048x256) ![192, 0] S32x256.size inb_S2048x256_S32x256_192_0
abbrev r0_43 : Rect S2x64x256 := Rect.unit (s := S2x64x256) ![0, 6, 0] S1x1x256.size inb_S2x64x256_S1x1x256_0_6_0
abbrev r0_44 : Rect S2x2048x256 := Rect.unit (s := S2x2048x256) ![0, 192, 0] S1x32x256.size inb_S2x2048x256_S1x32x256_0_192_0
abbrev r0_45 : Rect S1x2x2048x256 := Rect.unit (s := S1x2x2048x256) ![0, 0, 192, 0] S1x1x32x256.size inb_S1x2x2048x256_S1x1x32x256_0_0_192_0
abbrev r0_46 : Rect S2x64x256 := Rect.unit (s := S2x64x256) ![1, 6, 0] S1x1x256.size inb_S2x64x256_S1x1x256_1_6_0
abbrev r0_47 : Rect S2x2048x256 := Rect.unit (s := S2x2048x256) ![1, 192, 0] S1x32x256.size inb_S2x2048x256_S1x32x256_1_192_0
abbrev r0_48 : Rect S1x2x2048x256 := Rect.unit (s := S1x2x2048x256) ![0, 1, 192, 0] S1x1x32x256.size inb_S1x2x2048x256_S1x1x32x256_0_1_192_0
abbrev r0_49 : Rect S2048x256 := Rect.unit (s := S2048x256) ![224, 0] S32x256.size inb_S2048x256_S32x256_224_0
abbrev r0_50 : Rect S2x64x256 := Rect.unit (s := S2x64x256) ![0, 7, 0] S1x1x256.size inb_S2x64x256_S1x1x256_0_7_0
abbrev r0_51 : Rect S2x2048x256 := Rect.unit (s := S2x2048x256) ![0, 224, 0] S1x32x256.size inb_S2x2048x256_S1x32x256_0_224_0
abbrev r0_52 : Rect S1x2x2048x256 := Rect.unit (s := S1x2x2048x256) ![0, 0, 224, 0] S1x1x32x256.size inb_S1x2x2048x256_S1x1x32x256_0_0_224_0
abbrev r0_53 : Rect S2x64x256 := Rect.unit (s := S2x64x256) ![1, 7, 0] S1x1x256.size inb_S2x64x256_S1x1x256_1_7_0
abbrev r0_54 : Rect S2x2048x256 := Rect.unit (s := S2x2048x256) ![1, 224, 0] S1x32x256.size inb_S2x2048x256_S1x32x256_1_224_0
abbrev r0_55 : Rect S1x2x2048x256 := Rect.unit (s := S1x2x2048x256) ![0, 1, 224, 0] S1x1x32x256.size inb_S1x2x2048x256_S1x1x32x256_0_1_224_0
abbrev r0_56 : Rect S2048x256 := Rect.unit (s := S2048x256) ![256, 0] S32x256.size inb_S2048x256_S32x256_256_0
abbrev r0_57 : Rect S2x64x256 := Rect.unit (s := S2x64x256) ![0, 8, 0] S1x1x256.size inb_S2x64x256_S1x1x256_0_8_0
abbrev r0_58 : Rect S2x2048x256 := Rect.unit (s := S2x2048x256) ![0, 256, 0] S1x32x256.size inb_S2x2048x256_S1x32x256_0_256_0
abbrev r0_59 : Rect S1x2x2048x256 := Rect.unit (s := S1x2x2048x256) ![0, 0, 256, 0] S1x1x32x256.size inb_S1x2x2048x256_S1x1x32x256_0_0_256_0
abbrev r0_60 : Rect S2x64x256 := Rect.unit (s := S2x64x256) ![1, 8, 0] S1x1x256.size inb_S2x64x256_S1x1x256_1_8_0
abbrev r0_61 : Rect S2x2048x256 := Rect.unit (s := S2x2048x256) ![1, 256, 0] S1x32x256.size inb_S2x2048x256_S1x32x256_1_256_0
abbrev r0_62 : Rect S1x2x2048x256 := Rect.unit (s := S1x2x2048x256) ![0, 1, 256, 0] S1x1x32x256.size inb_S1x2x2048x256_S1x1x32x256_0_1_256_0
abbrev r0_63 : Rect S2048x256 := Rect.unit (s := S2048x256) ![288, 0] S32x256.size inb_S2048x256_S32x256_288_0
abbrev r0_64 : Rect S2x64x256 := Rect.unit (s := S2x64x256) ![0, 9, 0] S1x1x256.size inb_S2x64x256_S1x1x256_0_9_0
abbrev r0_65 : Rect S2x2048x256 := Rect.unit (s := S2x2048x256) ![0, 288, 0] S1x32x256.size inb_S2x2048x256_S1x32x256_0_288_0
abbrev r0_66 : Rect S1x2x2048x256 := Rect.unit (s := S1x2x2048x256) ![0, 0, 288, 0] S1x1x32x256.size inb_S1x2x2048x256_S1x1x32x256_0_0_288_0
abbrev r0_67 : Rect S2x64x256 := Rect.unit (s := S2x64x256) ![1, 9, 0] S1x1x256.size inb_S2x64x256_S1x1x256_1_9_0
abbrev r0_68 : Rect S2x2048x256 := Rect.unit (s := S2x2048x256) ![1, 288, 0] S1x32x256.size inb_S2x2048x256_S1x32x256_1_288_0
abbrev r0_69 : Rect S1x2x2048x256 := Rect.unit (s := S1x2x2048x256) ![0, 1, 288, 0] S1x1x32x256.size inb_S1x2x2048x256_S1x1x32x256_0_1_288_0
abbrev r0_70 : Rect S2048x256 := Rect.unit (s := S2048x256) ![320, 0] S32x256.size inb_S2048x256_S32x256_320_0
abbrev r0_71 : Rect S2x64x256 := Rect.unit (s := S2x64x256) ![0, 10, 0] S1x1x256.size inb_S2x64x256_S1x1x256_0_10_0
abbrev r0_72 : Rect S2x2048x256 := Rect.unit (s := S2x2048x256) ![0, 320, 0] S1x32x256.size inb_S2x2048x256_S1x32x256_0_320_0
abbrev r0_73 : Rect S1x2x2048x256 := Rect.unit (s := S1x2x2048x256) ![0, 0, 320, 0] S1x1x32x256.size inb_S1x2x2048x256_S1x1x32x256_0_0_320_0
abbrev r0_74 : Rect S2x64x256 := Rect.unit (s := S2x64x256) ![1, 10, 0] S1x1x256.size inb_S2x64x256_S1x1x256_1_10_0
abbrev r0_75 : Rect S2x2048x256 := Rect.unit (s := S2x2048x256) ![1, 320, 0] S1x32x256.size inb_S2x2048x256_S1x32x256_1_320_0
abbrev r0_76 : Rect S1x2x2048x256 := Rect.unit (s := S1x2x2048x256) ![0, 1, 320, 0] S1x1x32x256.size inb_S1x2x2048x256_S1x1x32x256_0_1_320_0
abbrev r0_77 : Rect S2048x256 := Rect.unit (s := S2048x256) ![352, 0] S32x256.size inb_S2048x256_S32x256_352_0
abbrev r0_78 : Rect S2x64x256 := Rect.unit (s := S2x64x256) ![0, 11, 0] S1x1x256.size inb_S2x64x256_S1x1x256_0_11_0
abbrev r0_79 : Rect S2x2048x256 := Rect.unit (s := S2x2048x256) ![0, 352, 0] S1x32x256.size inb_S2x2048x256_S1x32x256_0_352_0
abbrev r0_80 : Rect S1x2x2048x256 := Rect.unit (s := S1x2x2048x256) ![0, 0, 352, 0] S1x1x32x256.size inb_S1x2x2048x256_S1x1x32x256_0_0_352_0
abbrev r0_81 : Rect S2x64x256 := Rect.unit (s := S2x64x256) ![1, 11, 0] S1x1x256.size inb_S2x64x256_S1x1x256_1_11_0
abbrev r0_82 : Rect S2x2048x256 := Rect.unit (s := S2x2048x256) ![1, 352, 0] S1x32x256.size inb_S2x2048x256_S1x32x256_1_352_0
abbrev r0_83 : Rect S1x2x2048x256 := Rect.unit (s := S1x2x2048x256) ![0, 1, 352, 0] S1x1x32x256.size inb_S1x2x2048x256_S1x1x32x256_0_1_352_0
abbrev r0_84 : Rect S2048x256 := Rect.unit (s := S2048x256) ![384, 0] S32x256.size inb_S2048x256_S32x256_384_0
abbrev r0_85 : Rect S2x64x256 := Rect.unit (s := S2x64x256) ![0, 12, 0] S1x1x256.size inb_S2x64x256_S1x1x256_0_12_0
abbrev r0_86 : Rect S2x2048x256 := Rect.unit (s := S2x2048x256) ![0, 384, 0] S1x32x256.size inb_S2x2048x256_S1x32x256_0_384_0
abbrev r0_87 : Rect S1x2x2048x256 := Rect.unit (s := S1x2x2048x256) ![0, 0, 384, 0] S1x1x32x256.size inb_S1x2x2048x256_S1x1x32x256_0_0_384_0
abbrev r0_88 : Rect S2x64x256 := Rect.unit (s := S2x64x256) ![1, 12, 0] S1x1x256.size inb_S2x64x256_S1x1x256_1_12_0
abbrev r0_89 : Rect S2x2048x256 := Rect.unit (s := S2x2048x256) ![1, 384, 0] S1x32x256.size inb_S2x2048x256_S1x32x256_1_384_0
abbrev r0_90 : Rect S1x2x2048x256 := Rect.unit (s := S1x2x2048x256) ![0, 1, 384, 0] S1x1x32x256.size inb_S1x2x2048x256_S1x1x32x256_0_1_384_0
abbrev r0_91 : Rect S2048x256 := Rect.unit (s := S2048x256) ![416, 0] S32x256.size inb_S2048x256_S32x256_416_0
abbrev r0_92 : Rect S2x64x256 := Rect.unit (s := S2x64x256) ![0, 13, 0] S1x1x256.size inb_S2x64x256_S1x1x256_0_13_0
abbrev r0_93 : Rect S2x2048x256 := Rect.unit (s := S2x2048x256) ![0, 416, 0] S1x32x256.size inb_S2x2048x256_S1x32x256_0_416_0
abbrev r0_94 : Rect S1x2x2048x256 := Rect.unit (s := S1x2x2048x256) ![0, 0, 416, 0] S1x1x32x256.size inb_S1x2x2048x256_S1x1x32x256_0_0_416_0
abbrev r0_95 : Rect S2x64x256 := Rect.unit (s := S2x64x256) ![1, 13, 0] S1x1x256.size inb_S2x64x256_S1x1x256_1_13_0
abbrev r0_96 : Rect S2x2048x256 := Rect.unit (s := S2x2048x256) ![1, 416, 0] S1x32x256.size inb_S2x2048x256_S1x32x256_1_416_0
abbrev r0_97 : Rect S1x2x2048x256 := Rect.unit (s := S1x2x2048x256) ![0, 1, 416, 0] S1x1x32x256.size inb_S1x2x2048x256_S1x1x32x256_0_1_416_0
abbrev r0_98 : Rect S2048x256 := Rect.unit (s := S2048x256) ![448, 0] S32x256.size inb_S2048x256_S32x256_448_0
abbrev r0_99 : Rect S2x64x256 := Rect.unit (s := S2x64x256) ![0, 14, 0] S1x1x256.size inb_S2x64x256_S1x1x256_0_14_0
abbrev r0_100 : Rect S2x2048x256 := Rect.unit (s := S2x2048x256) ![0, 448, 0] S1x32x256.size inb_S2x2048x256_S1x32x256_0_448_0
abbrev r0_101 : Rect S1x2x2048x256 := Rect.unit (s := S1x2x2048x256) ![0, 0, 448, 0] S1x1x32x256.size inb_S1x2x2048x256_S1x1x32x256_0_0_448_0
abbrev r0_102 : Rect S2x64x256 := Rect.unit (s := S2x64x256) ![1, 14, 0] S1x1x256.size inb_S2x64x256_S1x1x256_1_14_0
abbrev r0_103 : Rect S2x2048x256 := Rect.unit (s := S2x2048x256) ![1, 448, 0] S1x32x256.size inb_S2x2048x256_S1x32x256_1_448_0
abbrev r0_104 : Rect S1x2x2048x256 := Rect.unit (s := S1x2x2048x256) ![0, 1, 448, 0] S1x1x32x256.size inb_S1x2x2048x256_S1x1x32x256_0_1_448_0
abbrev r0_105 : Rect S2048x256 := Rect.unit (s := S2048x256) ![480, 0] S32x256.size inb_S2048x256_S32x256_480_0
abbrev r0_106 : Rect S2x64x256 := Rect.unit (s := S2x64x256) ![0, 15, 0] S1x1x256.size inb_S2x64x256_S1x1x256_0_15_0
abbrev r0_107 : Rect S2x2048x256 := Rect.unit (s := S2x2048x256) ![0, 480, 0] S1x32x256.size inb_S2x2048x256_S1x32x256_0_480_0
abbrev r0_108 : Rect S1x2x2048x256 := Rect.unit (s := S1x2x2048x256) ![0, 0, 480, 0] S1x1x32x256.size inb_S1x2x2048x256_S1x1x32x256_0_0_480_0
abbrev r0_109 : Rect S2x64x256 := Rect.unit (s := S2x64x256) ![1, 15, 0] S1x1x256.size inb_S2x64x256_S1x1x256_1_15_0
abbrev r0_110 : Rect S2x2048x256 := Rect.unit (s := S2x2048x256) ![1, 480, 0] S1x32x256.size inb_S2x2048x256_S1x32x256_1_480_0
abbrev r0_111 : Rect S1x2x2048x256 := Rect.unit (s := S1x2x2048x256) ![0, 1, 480, 0] S1x1x32x256.size inb_S1x2x2048x256_S1x1x32x256_0_1_480_0
abbrev r0_112 : Rect S2048x256 := Rect.unit (s := S2048x256) ![512, 0] S32x256.size inb_S2048x256_S32x256_512_0
abbrev r0_113 : Rect S2x64x256 := Rect.unit (s := S2x64x256) ![0, 16, 0] S1x1x256.size inb_S2x64x256_S1x1x256_0_16_0
abbrev r0_114 : Rect S2x2048x256 := Rect.unit (s := S2x2048x256) ![0, 512, 0] S1x32x256.size inb_S2x2048x256_S1x32x256_0_512_0
abbrev r0_115 : Rect S1x2x2048x256 := Rect.unit (s := S1x2x2048x256) ![0, 0, 512, 0] S1x1x32x256.size inb_S1x2x2048x256_S1x1x32x256_0_0_512_0
abbrev r0_116 : Rect S2x64x256 := Rect.unit (s := S2x64x256) ![1, 16, 0] S1x1x256.size inb_S2x64x256_S1x1x256_1_16_0
abbrev r0_117 : Rect S2x2048x256 := Rect.unit (s := S2x2048x256) ![1, 512, 0] S1x32x256.size inb_S2x2048x256_S1x32x256_1_512_0
abbrev r0_118 : Rect S1x2x2048x256 := Rect.unit (s := S1x2x2048x256) ![0, 1, 512, 0] S1x1x32x256.size inb_S1x2x2048x256_S1x1x32x256_0_1_512_0
abbrev r0_119 : Rect S2048x256 := Rect.unit (s := S2048x256) ![544, 0] S32x256.size inb_S2048x256_S32x256_544_0
abbrev r0_120 : Rect S2x64x256 := Rect.unit (s := S2x64x256) ![0, 17, 0] S1x1x256.size inb_S2x64x256_S1x1x256_0_17_0
abbrev r0_121 : Rect S2x2048x256 := Rect.unit (s := S2x2048x256) ![0, 544, 0] S1x32x256.size inb_S2x2048x256_S1x32x256_0_544_0
abbrev r0_122 : Rect S1x2x2048x256 := Rect.unit (s := S1x2x2048x256) ![0, 0, 544, 0] S1x1x32x256.size inb_S1x2x2048x256_S1x1x32x256_0_0_544_0
abbrev r0_123 : Rect S2x64x256 := Rect.unit (s := S2x64x256) ![1, 17, 0] S1x1x256.size inb_S2x64x256_S1x1x256_1_17_0
abbrev r0_124 : Rect S2x2048x256 := Rect.unit (s := S2x2048x256) ![1, 544, 0] S1x32x256.size inb_S2x2048x256_S1x32x256_1_544_0
abbrev r0_125 : Rect S1x2x2048x256 := Rect.unit (s := S1x2x2048x256) ![0, 1, 544, 0] S1x1x32x256.size inb_S1x2x2048x256_S1x1x32x256_0_1_544_0
abbrev r0_126 : Rect S2048x256 := Rect.unit (s := S2048x256) ![576, 0] S32x256.size inb_S2048x256_S32x256_576_0
abbrev r0_127 : Rect S2x64x256 := Rect.unit (s := S2x64x256) ![0, 18, 0] S1x1x256.size inb_S2x64x256_S1x1x256_0_18_0
abbrev r0_128 : Rect S2x2048x256 := Rect.unit (s := S2x2048x256) ![0, 576, 0] S1x32x256.size inb_S2x2048x256_S1x32x256_0_576_0
abbrev r0_129 : Rect S1x2x2048x256 := Rect.unit (s := S1x2x2048x256) ![0, 0, 576, 0] S1x1x32x256.size inb_S1x2x2048x256_S1x1x32x256_0_0_576_0
abbrev r0_130 : Rect S2x64x256 := Rect.unit (s := S2x64x256) ![1, 18, 0] S1x1x256.size inb_S2x64x256_S1x1x256_1_18_0
abbrev r0_131 : Rect S2x2048x256 := Rect.unit (s := S2x2048x256) ![1, 576, 0] S1x32x256.size inb_S2x2048x256_S1x32x256_1_576_0
abbrev r0_132 : Rect S1x2x2048x256 := Rect.unit (s := S1x2x2048x256) ![0, 1, 576, 0] S1x1x32x256.size inb_S1x2x2048x256_S1x1x32x256_0_1_576_0
abbrev r0_133 : Rect S2048x256 := Rect.unit (s := S2048x256) ![608, 0] S32x256.size inb_S2048x256_S32x256_608_0
abbrev r0_134 : Rect S2x64x256 := Rect.unit (s := S2x64x256) ![0, 19, 0] S1x1x256.size inb_S2x64x256_S1x1x256_0_19_0
abbrev r0_135 : Rect S2x2048x256 := Rect.unit (s := S2x2048x256) ![0, 608, 0] S1x32x256.size inb_S2x2048x256_S1x32x256_0_608_0
abbrev r0_136 : Rect S1x2x2048x256 := Rect.unit (s := S1x2x2048x256) ![0, 0, 608, 0] S1x1x32x256.size inb_S1x2x2048x256_S1x1x32x256_0_0_608_0
abbrev r0_137 : Rect S2x64x256 := Rect.unit (s := S2x64x256) ![1, 19, 0] S1x1x256.size inb_S2x64x256_S1x1x256_1_19_0
abbrev r0_138 : Rect S2x2048x256 := Rect.unit (s := S2x2048x256) ![1, 608, 0] S1x32x256.size inb_S2x2048x256_S1x32x256_1_608_0
abbrev r0_139 : Rect S1x2x2048x256 := Rect.unit (s := S1x2x2048x256) ![0, 1, 608, 0] S1x1x32x256.size inb_S1x2x2048x256_S1x1x32x256_0_1_608_0
abbrev r0_140 : Rect S2048x256 := Rect.unit (s := S2048x256) ![640, 0] S32x256.size inb_S2048x256_S32x256_640_0
abbrev r0_141 : Rect S2x64x256 := Rect.unit (s := S2x64x256) ![0, 20, 0] S1x1x256.size inb_S2x64x256_S1x1x256_0_20_0
abbrev r0_142 : Rect S2x2048x256 := Rect.unit (s := S2x2048x256) ![0, 640, 0] S1x32x256.size inb_S2x2048x256_S1x32x256_0_640_0
abbrev r0_143 : Rect S1x2x2048x256 := Rect.unit (s := S1x2x2048x256) ![0, 0, 640, 0] S1x1x32x256.size inb_S1x2x2048x256_S1x1x32x256_0_0_640_0
abbrev r0_144 : Rect S2x64x256 := Rect.unit (s := S2x64x256) ![1, 20, 0] S1x1x256.size inb_S2x64x256_S1x1x256_1_20_0
abbrev r0_145 : Rect S2x2048x256 := Rect.unit (s := S2x2048x256) ![1, 640, 0] S1x32x256.size inb_S2x2048x256_S1x32x256_1_640_0
abbrev r0_146 : Rect S1x2x2048x256 := Rect.unit (s := S1x2x2048x256) ![0, 1, 640, 0] S1x1x32x256.size inb_S1x2x2048x256_S1x1x32x256_0_1_640_0
abbrev r0_147 : Rect S2048x256 := Rect.unit (s := S2048x256) ![672, 0] S32x256.size inb_S2048x256_S32x256_672_0
abbrev r0_148 : Rect S2x64x256 := Rect.unit (s := S2x64x256) ![0, 21, 0] S1x1x256.size inb_S2x64x256_S1x1x256_0_21_0
abbrev r0_149 : Rect S2x2048x256 := Rect.unit (s := S2x2048x256) ![0, 672, 0] S1x32x256.size inb_S2x2048x256_S1x32x256_0_672_0
abbrev r0_150 : Rect S1x2x2048x256 := Rect.unit (s := S1x2x2048x256) ![0, 0, 672, 0] S1x1x32x256.size inb_S1x2x2048x256_S1x1x32x256_0_0_672_0
abbrev r0_151 : Rect S2x64x256 := Rect.unit (s := S2x64x256) ![1, 21, 0] S1x1x256.size inb_S2x64x256_S1x1x256_1_21_0
abbrev r0_152 : Rect S2x2048x256 := Rect.unit (s := S2x2048x256) ![1, 672, 0] S1x32x256.size inb_S2x2048x256_S1x32x256_1_672_0
abbrev r0_153 : Rect S1x2x2048x256 := Rect.unit (s := S1x2x2048x256) ![0, 1, 672, 0] S1x1x32x256.size inb_S1x2x2048x256_S1x1x32x256_0_1_672_0
abbrev r0_154 : Rect S2048x256 := Rect.unit (s := S2048x256) ![704, 0] S32x256.size inb_S2048x256_S32x256_704_0
abbrev r0_155 : Rect S2x64x256 := Rect.unit (s := S2x64x256) ![0, 22, 0] S1x1x256.size inb_S2x64x256_S1x1x256_0_22_0
abbrev r0_156 : Rect S2x2048x256 := Rect.unit (s := S2x2048x256) ![0, 704, 0] S1x32x256.size inb_S2x2048x256_S1x32x256_0_704_0
abbrev r0_157 : Rect S1x2x2048x256 := Rect.unit (s := S1x2x2048x256) ![0, 0, 704, 0] S1x1x32x256.size inb_S1x2x2048x256_S1x1x32x256_0_0_704_0
abbrev r0_158 : Rect S2x64x256 := Rect.unit (s := S2x64x256) ![1, 22, 0] S1x1x256.size inb_S2x64x256_S1x1x256_1_22_0
abbrev r0_159 : Rect S2x2048x256 := Rect.unit (s := S2x2048x256) ![1, 704, 0] S1x32x256.size inb_S2x2048x256_S1x32x256_1_704_0
abbrev r0_160 : Rect S1x2x2048x256 := Rect.unit (s := S1x2x2048x256) ![0, 1, 704, 0] S1x1x32x256.size inb_S1x2x2048x256_S1x1x32x256_0_1_704_0
abbrev r0_161 : Rect S2048x256 := Rect.unit (s := S2048x256) ![736, 0] S32x256.size inb_S2048x256_S32x256_736_0
abbrev r0_162 : Rect S2x64x256 := Rect.unit (s := S2x64x256) ![0, 23, 0] S1x1x256.size inb_S2x64x256_S1x1x256_0_23_0
abbrev r0_163 : Rect S2x2048x256 := Rect.unit (s := S2x2048x256) ![0, 736, 0] S1x32x256.size inb_S2x2048x256_S1x32x256_0_736_0
abbrev r0_164 : Rect S1x2x2048x256 := Rect.unit (s := S1x2x2048x256) ![0, 0, 736, 0] S1x1x32x256.size inb_S1x2x2048x256_S1x1x32x256_0_0_736_0
abbrev r0_165 : Rect S2x64x256 := Rect.unit (s := S2x64x256) ![1, 23, 0] S1x1x256.size inb_S2x64x256_S1x1x256_1_23_0
abbrev r0_166 : Rect S2x2048x256 := Rect.unit (s := S2x2048x256) ![1, 736, 0] S1x32x256.size inb_S2x2048x256_S1x32x256_1_736_0
abbrev r0_167 : Rect S1x2x2048x256 := Rect.unit (s := S1x2x2048x256) ![0, 1, 736, 0] S1x1x32x256.size inb_S1x2x2048x256_S1x1x32x256_0_1_736_0
abbrev r0_168 : Rect S2048x256 := Rect.unit (s := S2048x256) ![768, 0] S32x256.size inb_S2048x256_S32x256_768_0
abbrev r0_169 : Rect S2x64x256 := Rect.unit (s := S2x64x256) ![0, 24, 0] S1x1x256.size inb_S2x64x256_S1x1x256_0_24_0
abbrev r0_170 : Rect S2x2048x256 := Rect.unit (s := S2x2048x256) ![0, 768, 0] S1x32x256.size inb_S2x2048x256_S1x32x256_0_768_0
abbrev r0_171 : Rect S1x2x2048x256 := Rect.unit (s := S1x2x2048x256) ![0, 0, 768, 0] S1x1x32x256.size inb_S1x2x2048x256_S1x1x32x256_0_0_768_0
abbrev r0_172 : Rect S2x64x256 := Rect.unit (s := S2x64x256) ![1, 24, 0] S1x1x256.size inb_S2x64x256_S1x1x256_1_24_0
abbrev r0_173 : Rect S2x2048x256 := Rect.unit (s := S2x2048x256) ![1, 768, 0] S1x32x256.size inb_S2x2048x256_S1x32x256_1_768_0
abbrev r0_174 : Rect S1x2x2048x256 := Rect.unit (s := S1x2x2048x256) ![0, 1, 768, 0] S1x1x32x256.size inb_S1x2x2048x256_S1x1x32x256_0_1_768_0
abbrev r0_175 : Rect S2048x256 := Rect.unit (s := S2048x256) ![800, 0] S32x256.size inb_S2048x256_S32x256_800_0
abbrev r0_176 : Rect S2x64x256 := Rect.unit (s := S2x64x256) ![0, 25, 0] S1x1x256.size inb_S2x64x256_S1x1x256_0_25_0
abbrev r0_177 : Rect S2x2048x256 := Rect.unit (s := S2x2048x256) ![0, 800, 0] S1x32x256.size inb_S2x2048x256_S1x32x256_0_800_0
abbrev r0_178 : Rect S1x2x2048x256 := Rect.unit (s := S1x2x2048x256) ![0, 0, 800, 0] S1x1x32x256.size inb_S1x2x2048x256_S1x1x32x256_0_0_800_0
abbrev r0_179 : Rect S2x64x256 := Rect.unit (s := S2x64x256) ![1, 25, 0] S1x1x256.size inb_S2x64x256_S1x1x256_1_25_0
abbrev r0_180 : Rect S2x2048x256 := Rect.unit (s := S2x2048x256) ![1, 800, 0] S1x32x256.size inb_S2x2048x256_S1x32x256_1_800_0
abbrev r0_181 : Rect S1x2x2048x256 := Rect.unit (s := S1x2x2048x256) ![0, 1, 800, 0] S1x1x32x256.size inb_S1x2x2048x256_S1x1x32x256_0_1_800_0
abbrev r0_182 : Rect S2048x256 := Rect.unit (s := S2048x256) ![832, 0] S32x256.size inb_S2048x256_S32x256_832_0
abbrev r0_183 : Rect S2x64x256 := Rect.unit (s := S2x64x256) ![0, 26, 0] S1x1x256.size inb_S2x64x256_S1x1x256_0_26_0
abbrev r0_184 : Rect S2x2048x256 := Rect.unit (s := S2x2048x256) ![0, 832, 0] S1x32x256.size inb_S2x2048x256_S1x32x256_0_832_0
abbrev r0_185 : Rect S1x2x2048x256 := Rect.unit (s := S1x2x2048x256) ![0, 0, 832, 0] S1x1x32x256.size inb_S1x2x2048x256_S1x1x32x256_0_0_832_0
abbrev r0_186 : Rect S2x64x256 := Rect.unit (s := S2x64x256) ![1, 26, 0] S1x1x256.size inb_S2x64x256_S1x1x256_1_26_0
abbrev r0_187 : Rect S2x2048x256 := Rect.unit (s := S2x2048x256) ![1, 832, 0] S1x32x256.size inb_S2x2048x256_S1x32x256_1_832_0
abbrev r0_188 : Rect S1x2x2048x256 := Rect.unit (s := S1x2x2048x256) ![0, 1, 832, 0] S1x1x32x256.size inb_S1x2x2048x256_S1x1x32x256_0_1_832_0
abbrev r0_189 : Rect S2048x256 := Rect.unit (s := S2048x256) ![864, 0] S32x256.size inb_S2048x256_S32x256_864_0
abbrev r0_190 : Rect S2x64x256 := Rect.unit (s := S2x64x256) ![0, 27, 0] S1x1x256.size inb_S2x64x256_S1x1x256_0_27_0
abbrev r0_191 : Rect S2x2048x256 := Rect.unit (s := S2x2048x256) ![0, 864, 0] S1x32x256.size inb_S2x2048x256_S1x32x256_0_864_0
abbrev r0_192 : Rect S1x2x2048x256 := Rect.unit (s := S1x2x2048x256) ![0, 0, 864, 0] S1x1x32x256.size inb_S1x2x2048x256_S1x1x32x256_0_0_864_0
abbrev r0_193 : Rect S2x64x256 := Rect.unit (s := S2x64x256) ![1, 27, 0] S1x1x256.size inb_S2x64x256_S1x1x256_1_27_0
abbrev r0_194 : Rect S2x2048x256 := Rect.unit (s := S2x2048x256) ![1, 864, 0] S1x32x256.size inb_S2x2048x256_S1x32x256_1_864_0
abbrev r0_195 : Rect S1x2x2048x256 := Rect.unit (s := S1x2x2048x256) ![0, 1, 864, 0] S1x1x32x256.size inb_S1x2x2048x256_S1x1x32x256_0_1_864_0
abbrev r0_196 : Rect S2048x256 := Rect.unit (s := S2048x256) ![896, 0] S32x256.size inb_S2048x256_S32x256_896_0
abbrev r0_197 : Rect S2x64x256 := Rect.unit (s := S2x64x256) ![0, 28, 0] S1x1x256.size inb_S2x64x256_S1x1x256_0_28_0
abbrev r0_198 : Rect S2x2048x256 := Rect.unit (s := S2x2048x256) ![0, 896, 0] S1x32x256.size inb_S2x2048x256_S1x32x256_0_896_0
abbrev r0_199 : Rect S1x2x2048x256 := Rect.unit (s := S1x2x2048x256) ![0, 0, 896, 0] S1x1x32x256.size inb_S1x2x2048x256_S1x1x32x256_0_0_896_0
abbrev r0_200 : Rect S2x64x256 := Rect.unit (s := S2x64x256) ![1, 28, 0] S1x1x256.size inb_S2x64x256_S1x1x256_1_28_0
abbrev r0_201 : Rect S2x2048x256 := Rect.unit (s := S2x2048x256) ![1, 896, 0] S1x32x256.size inb_S2x2048x256_S1x32x256_1_896_0
abbrev r0_202 : Rect S1x2x2048x256 := Rect.unit (s := S1x2x2048x256) ![0, 1, 896, 0] S1x1x32x256.size inb_S1x2x2048x256_S1x1x32x256_0_1_896_0
abbrev r0_203 : Rect S2048x256 := Rect.unit (s := S2048x256) ![928, 0] S32x256.size inb_S2048x256_S32x256_928_0
abbrev r0_204 : Rect S2x64x256 := Rect.unit (s := S2x64x256) ![0, 29, 0] S1x1x256.size inb_S2x64x256_S1x1x256_0_29_0
abbrev r0_205 : Rect S2x2048x256 := Rect.unit (s := S2x2048x256) ![0, 928, 0] S1x32x256.size inb_S2x2048x256_S1x32x256_0_928_0
abbrev r0_206 : Rect S1x2x2048x256 := Rect.unit (s := S1x2x2048x256) ![0, 0, 928, 0] S1x1x32x256.size inb_S1x2x2048x256_S1x1x32x256_0_0_928_0
abbrev r0_207 : Rect S2x64x256 := Rect.unit (s := S2x64x256) ![1, 29, 0] S1x1x256.size inb_S2x64x256_S1x1x256_1_29_0
abbrev r0_208 : Rect S2x2048x256 := Rect.unit (s := S2x2048x256) ![1, 928, 0] S1x32x256.size inb_S2x2048x256_S1x32x256_1_928_0
abbrev r0_209 : Rect S1x2x2048x256 := Rect.unit (s := S1x2x2048x256) ![0, 1, 928, 0] S1x1x32x256.size inb_S1x2x2048x256_S1x1x32x256_0_1_928_0
abbrev r0_210 : Rect S2048x256 := Rect.unit (s := S2048x256) ![960, 0] S32x256.size inb_S2048x256_S32x256_960_0
abbrev r0_211 : Rect S2x64x256 := Rect.unit (s := S2x64x256) ![0, 30, 0] S1x1x256.size inb_S2x64x256_S1x1x256_0_30_0
abbrev r0_212 : Rect S2x2048x256 := Rect.unit (s := S2x2048x256) ![0, 960, 0] S1x32x256.size inb_S2x2048x256_S1x32x256_0_960_0
abbrev r0_213 : Rect S1x2x2048x256 := Rect.unit (s := S1x2x2048x256) ![0, 0, 960, 0] S1x1x32x256.size inb_S1x2x2048x256_S1x1x32x256_0_0_960_0
abbrev r0_214 : Rect S2x64x256 := Rect.unit (s := S2x64x256) ![1, 30, 0] S1x1x256.size inb_S2x64x256_S1x1x256_1_30_0
abbrev r0_215 : Rect S2x2048x256 := Rect.unit (s := S2x2048x256) ![1, 960, 0] S1x32x256.size inb_S2x2048x256_S1x32x256_1_960_0
abbrev r0_216 : Rect S1x2x2048x256 := Rect.unit (s := S1x2x2048x256) ![0, 1, 960, 0] S1x1x32x256.size inb_S1x2x2048x256_S1x1x32x256_0_1_960_0
abbrev r0_217 : Rect S2048x256 := Rect.unit (s := S2048x256) ![992, 0] S32x256.size inb_S2048x256_S32x256_992_0
abbrev r0_218 : Rect S2x64x256 := Rect.unit (s := S2x64x256) ![0, 31, 0] S1x1x256.size inb_S2x64x256_S1x1x256_0_31_0
abbrev r0_219 : Rect S2x2048x256 := Rect.unit (s := S2x2048x256) ![0, 992, 0] S1x32x256.size inb_S2x2048x256_S1x32x256_0_992_0
abbrev r0_220 : Rect S1x2x2048x256 := Rect.unit (s := S1x2x2048x256) ![0, 0, 992, 0] S1x1x32x256.size inb_S1x2x2048x256_S1x1x32x256_0_0_992_0
abbrev r0_221 : Rect S2x64x256 := Rect.unit (s := S2x64x256) ![1, 31, 0] S1x1x256.size inb_S2x64x256_S1x1x256_1_31_0
abbrev r0_222 : Rect S2x2048x256 := Rect.unit (s := S2x2048x256) ![1, 992, 0] S1x32x256.size inb_S2x2048x256_S1x32x256_1_992_0
abbrev r0_223 : Rect S1x2x2048x256 := Rect.unit (s := S1x2x2048x256) ![0, 1, 992, 0] S1x1x32x256.size inb_S1x2x2048x256_S1x1x32x256_0_1_992_0
abbrev r0_224 : Rect S2048x256 := Rect.unit (s := S2048x256) ![1024, 0] S32x256.size inb_S2048x256_S32x256_1024_0
abbrev r0_225 : Rect S2x64x256 := Rect.unit (s := S2x64x256) ![0, 32, 0] S1x1x256.size inb_S2x64x256_S1x1x256_0_32_0
abbrev r0_226 : Rect S2x2048x256 := Rect.unit (s := S2x2048x256) ![0, 1024, 0] S1x32x256.size inb_S2x2048x256_S1x32x256_0_1024_0
abbrev r0_227 : Rect S1x2x2048x256 := Rect.unit (s := S1x2x2048x256) ![0, 0, 1024, 0] S1x1x32x256.size inb_S1x2x2048x256_S1x1x32x256_0_0_1024_0
abbrev r0_228 : Rect S2x64x256 := Rect.unit (s := S2x64x256) ![1, 32, 0] S1x1x256.size inb_S2x64x256_S1x1x256_1_32_0
abbrev r0_229 : Rect S2x2048x256 := Rect.unit (s := S2x2048x256) ![1, 1024, 0] S1x32x256.size inb_S2x2048x256_S1x32x256_1_1024_0
abbrev r0_230 : Rect S1x2x2048x256 := Rect.unit (s := S1x2x2048x256) ![0, 1, 1024, 0] S1x1x32x256.size inb_S1x2x2048x256_S1x1x32x256_0_1_1024_0
abbrev r0_231 : Rect S2048x256 := Rect.unit (s := S2048x256) ![1056, 0] S32x256.size inb_S2048x256_S32x256_1056_0
abbrev r0_232 : Rect S2x64x256 := Rect.unit (s := S2x64x256) ![0, 33, 0] S1x1x256.size inb_S2x64x256_S1x1x256_0_33_0
abbrev r0_233 : Rect S2x2048x256 := Rect.unit (s := S2x2048x256) ![0, 1056, 0] S1x32x256.size inb_S2x2048x256_S1x32x256_0_1056_0
abbrev r0_234 : Rect S1x2x2048x256 := Rect.unit (s := S1x2x2048x256) ![0, 0, 1056, 0] S1x1x32x256.size inb_S1x2x2048x256_S1x1x32x256_0_0_1056_0
abbrev r0_235 : Rect S2x64x256 := Rect.unit (s := S2x64x256) ![1, 33, 0] S1x1x256.size inb_S2x64x256_S1x1x256_1_33_0
abbrev r0_236 : Rect S2x2048x256 := Rect.unit (s := S2x2048x256) ![1, 1056, 0] S1x32x256.size inb_S2x2048x256_S1x32x256_1_1056_0
abbrev r0_237 : Rect S1x2x2048x256 := Rect.unit (s := S1x2x2048x256) ![0, 1, 1056, 0] S1x1x32x256.size inb_S1x2x2048x256_S1x1x32x256_0_1_1056_0
abbrev r0_238 : Rect S2048x256 := Rect.unit (s := S2048x256) ![1088, 0] S32x256.size inb_S2048x256_S32x256_1088_0
abbrev r0_239 : Rect S2x64x256 := Rect.unit (s := S2x64x256) ![0, 34, 0] S1x1x256.size inb_S2x64x256_S1x1x256_0_34_0
abbrev r0_240 : Rect S2x2048x256 := Rect.unit (s := S2x2048x256) ![0, 1088, 0] S1x32x256.size inb_S2x2048x256_S1x32x256_0_1088_0
abbrev r0_241 : Rect S1x2x2048x256 := Rect.unit (s := S1x2x2048x256) ![0, 0, 1088, 0] S1x1x32x256.size inb_S1x2x2048x256_S1x1x32x256_0_0_1088_0
abbrev r0_242 : Rect S2x64x256 := Rect.unit (s := S2x64x256) ![1, 34, 0] S1x1x256.size inb_S2x64x256_S1x1x256_1_34_0
abbrev r0_243 : Rect S2x2048x256 := Rect.unit (s := S2x2048x256) ![1, 1088, 0] S1x32x256.size inb_S2x2048x256_S1x32x256_1_1088_0
abbrev r0_244 : Rect S1x2x2048x256 := Rect.unit (s := S1x2x2048x256) ![0, 1, 1088, 0] S1x1x32x256.size inb_S1x2x2048x256_S1x1x32x256_0_1_1088_0
abbrev r0_245 : Rect S2048x256 := Rect.unit (s := S2048x256) ![1120, 0] S32x256.size inb_S2048x256_S32x256_1120_0
abbrev r0_246 : Rect S2x64x256 := Rect.unit (s := S2x64x256) ![0, 35, 0] S1x1x256.size inb_S2x64x256_S1x1x256_0_35_0
abbrev r0_247 : Rect S2x2048x256 := Rect.unit (s := S2x2048x256) ![0, 1120, 0] S1x32x256.size inb_S2x2048x256_S1x32x256_0_1120_0
abbrev r0_248 : Rect S1x2x2048x256 := Rect.unit (s := S1x2x2048x256) ![0, 0, 1120, 0] S1x1x32x256.size inb_S1x2x2048x256_S1x1x32x256_0_0_1120_0
abbrev r0_249 : Rect S2x64x256 := Rect.unit (s := S2x64x256) ![1, 35, 0] S1x1x256.size inb_S2x64x256_S1x1x256_1_35_0
abbrev r0_250 : Rect S2x2048x256 := Rect.unit (s := S2x2048x256) ![1, 1120, 0] S1x32x256.size inb_S2x2048x256_S1x32x256_1_1120_0
abbrev r0_251 : Rect S1x2x2048x256 := Rect.unit (s := S1x2x2048x256) ![0, 1, 1120, 0] S1x1x32x256.size inb_S1x2x2048x256_S1x1x32x256_0_1_1120_0
abbrev r0_252 : Rect S2048x256 := Rect.unit (s := S2048x256) ![1152, 0] S32x256.size inb_S2048x256_S32x256_1152_0
abbrev r0_253 : Rect S2x64x256 := Rect.unit (s := S2x64x256) ![0, 36, 0] S1x1x256.size inb_S2x64x256_S1x1x256_0_36_0
abbrev r0_254 : Rect S2x2048x256 := Rect.unit (s := S2x2048x256) ![0, 1152, 0] S1x32x256.size inb_S2x2048x256_S1x32x256_0_1152_0
abbrev r0_255 : Rect S1x2x2048x256 := Rect.unit (s := S1x2x2048x256) ![0, 0, 1152, 0] S1x1x32x256.size inb_S1x2x2048x256_S1x1x32x256_0_0_1152_0
abbrev r0_256 : Rect S2x64x256 := Rect.unit (s := S2x64x256) ![1, 36, 0] S1x1x256.size inb_S2x64x256_S1x1x256_1_36_0
abbrev r0_257 : Rect S2x2048x256 := Rect.unit (s := S2x2048x256) ![1, 1152, 0] S1x32x256.size inb_S2x2048x256_S1x32x256_1_1152_0
abbrev r0_258 : Rect S1x2x2048x256 := Rect.unit (s := S1x2x2048x256) ![0, 1, 1152, 0] S1x1x32x256.size inb_S1x2x2048x256_S1x1x32x256_0_1_1152_0
abbrev r0_259 : Rect S2048x256 := Rect.unit (s := S2048x256) ![1184, 0] S32x256.size inb_S2048x256_S32x256_1184_0
abbrev r0_260 : Rect S2x64x256 := Rect.unit (s := S2x64x256) ![0, 37, 0] S1x1x256.size inb_S2x64x256_S1x1x256_0_37_0
abbrev r0_261 : Rect S2x2048x256 := Rect.unit (s := S2x2048x256) ![0, 1184, 0] S1x32x256.size inb_S2x2048x256_S1x32x256_0_1184_0
abbrev r0_262 : Rect S1x2x2048x256 := Rect.unit (s := S1x2x2048x256) ![0, 0, 1184, 0] S1x1x32x256.size inb_S1x2x2048x256_S1x1x32x256_0_0_1184_0
abbrev r0_263 : Rect S2x64x256 := Rect.unit (s := S2x64x256) ![1, 37, 0] S1x1x256.size inb_S2x64x256_S1x1x256_1_37_0
abbrev r0_264 : Rect S2x2048x256 := Rect.unit (s := S2x2048x256) ![1, 1184, 0] S1x32x256.size inb_S2x2048x256_S1x32x256_1_1184_0
abbrev r0_265 : Rect S1x2x2048x256 := Rect.unit (s := S1x2x2048x256) ![0, 1, 1184, 0] S1x1x32x256.size inb_S1x2x2048x256_S1x1x32x256_0_1_1184_0
abbrev r0_266 : Rect S2048x256 := Rect.unit (s := S2048x256) ![1216, 0] S32x256.size inb_S2048x256_S32x256_1216_0
abbrev r0_267 : Rect S2x64x256 := Rect.unit (s := S2x64x256) ![0, 38, 0] S1x1x256.size inb_S2x64x256_S1x1x256_0_38_0
abbrev r0_268 : Rect S2x2048x256 := Rect.unit (s := S2x2048x256) ![0, 1216, 0] S1x32x256.size inb_S2x2048x256_S1x32x256_0_1216_0
abbrev r0_269 : Rect S1x2x2048x256 := Rect.unit (s := S1x2x2048x256) ![0, 0, 1216, 0] S1x1x32x256.size inb_S1x2x2048x256_S1x1x32x256_0_0_1216_0
abbrev r0_270 : Rect S2x64x256 := Rect.unit (s := S2x64x256) ![1, 38, 0] S1x1x256.size inb_S2x64x256_S1x1x256_1_38_0
abbrev r0_271 : Rect S2x2048x256 := Rect.unit (s := S2x2048x256) ![1, 1216, 0] S1x32x256.size inb_S2x2048x256_S1x32x256_1_1216_0
abbrev r0_272 : Rect S1x2x2048x256 := Rect.unit (s := S1x2x2048x256) ![0, 1, 1216, 0] S1x1x32x256.size inb_S1x2x2048x256_S1x1x32x256_0_1_1216_0
abbrev r0_273 : Rect S2048x256 := Rect.unit (s := S2048x256) ![1248, 0] S32x256.size inb_S2048x256_S32x256_1248_0
abbrev r0_274 : Rect S2x64x256 := Rect.unit (s := S2x64x256) ![0, 39, 0] S1x1x256.size inb_S2x64x256_S1x1x256_0_39_0
abbrev r0_275 : Rect S2x2048x256 := Rect.unit (s := S2x2048x256) ![0, 1248, 0] S1x32x256.size inb_S2x2048x256_S1x32x256_0_1248_0
abbrev r0_276 : Rect S1x2x2048x256 := Rect.unit (s := S1x2x2048x256) ![0, 0, 1248, 0] S1x1x32x256.size inb_S1x2x2048x256_S1x1x32x256_0_0_1248_0
abbrev r0_277 : Rect S2x64x256 := Rect.unit (s := S2x64x256) ![1, 39, 0] S1x1x256.size inb_S2x64x256_S1x1x256_1_39_0
abbrev r0_278 : Rect S2x2048x256 := Rect.unit (s := S2x2048x256) ![1, 1248, 0] S1x32x256.size inb_S2x2048x256_S1x32x256_1_1248_0
abbrev r0_279 : Rect S1x2x2048x256 := Rect.unit (s := S1x2x2048x256) ![0, 1, 1248, 0] S1x1x32x256.size inb_S1x2x2048x256_S1x1x32x256_0_1_1248_0
abbrev r0_280 : Rect S2048x256 := Rect.unit (s := S2048x256) ![1280, 0] S32x256.size inb_S2048x256_S32x256_1280_0
abbrev r0_281 : Rect S2x64x256 := Rect.unit (s := S2x64x256) ![0, 40, 0] S1x1x256.size inb_S2x64x256_S1x1x256_0_40_0
abbrev r0_282 : Rect S2x2048x256 := Rect.unit (s := S2x2048x256) ![0, 1280, 0] S1x32x256.size inb_S2x2048x256_S1x32x256_0_1280_0
abbrev r0_283 : Rect S1x2x2048x256 := Rect.unit (s := S1x2x2048x256) ![0, 0, 1280, 0] S1x1x32x256.size inb_S1x2x2048x256_S1x1x32x256_0_0_1280_0
abbrev r0_284 : Rect S2x64x256 := Rect.unit (s := S2x64x256) ![1, 40, 0] S1x1x256.size inb_S2x64x256_S1x1x256_1_40_0
abbrev r0_285 : Rect S2x2048x256 := Rect.unit (s := S2x2048x256) ![1, 1280, 0] S1x32x256.size inb_S2x2048x256_S1x32x256_1_1280_0
abbrev r0_286 : Rect S1x2x2048x256 := Rect.unit (s := S1x2x2048x256) ![0, 1, 1280, 0] S1x1x32x256.size inb_S1x2x2048x256_S1x1x32x256_0_1_1280_0
abbrev r0_287 : Rect S2048x256 := Rect.unit (s := S2048x256) ![1312, 0] S32x256.size inb_S2048x256_S32x256_1312_0
abbrev r0_288 : Rect S2x64x256 := Rect.unit (s := S2x64x256) ![0, 41, 0] S1x1x256.size inb_S2x64x256_S1x1x256_0_41_0
abbrev r0_289 : Rect S2x2048x256 := Rect.unit (s := S2x2048x256) ![0, 1312, 0] S1x32x256.size inb_S2x2048x256_S1x32x256_0_1312_0
abbrev r0_290 : Rect S1x2x2048x256 := Rect.unit (s := S1x2x2048x256) ![0, 0, 1312, 0] S1x1x32x256.size inb_S1x2x2048x256_S1x1x32x256_0_0_1312_0
abbrev r0_291 : Rect S2x64x256 := Rect.unit (s := S2x64x256) ![1, 41, 0] S1x1x256.size inb_S2x64x256_S1x1x256_1_41_0
abbrev r0_292 : Rect S2x2048x256 := Rect.unit (s := S2x2048x256) ![1, 1312, 0] S1x32x256.size inb_S2x2048x256_S1x32x256_1_1312_0
abbrev r0_293 : Rect S1x2x2048x256 := Rect.unit (s := S1x2x2048x256) ![0, 1, 1312, 0] S1x1x32x256.size inb_S1x2x2048x256_S1x1x32x256_0_1_1312_0
abbrev r0_294 : Rect S2048x256 := Rect.unit (s := S2048x256) ![1344, 0] S32x256.size inb_S2048x256_S32x256_1344_0
abbrev r0_295 : Rect S2x64x256 := Rect.unit (s := S2x64x256) ![0, 42, 0] S1x1x256.size inb_S2x64x256_S1x1x256_0_42_0
abbrev r0_296 : Rect S2x2048x256 := Rect.unit (s := S2x2048x256) ![0, 1344, 0] S1x32x256.size inb_S2x2048x256_S1x32x256_0_1344_0
abbrev r0_297 : Rect S1x2x2048x256 := Rect.unit (s := S1x2x2048x256) ![0, 0, 1344, 0] S1x1x32x256.size inb_S1x2x2048x256_S1x1x32x256_0_0_1344_0
abbrev r0_298 : Rect S2x64x256 := Rect.unit (s := S2x64x256) ![1, 42, 0] S1x1x256.size inb_S2x64x256_S1x1x256_1_42_0
abbrev r0_299 : Rect S2x2048x256 := Rect.unit (s := S2x2048x256) ![1, 1344, 0] S1x32x256.size inb_S2x2048x256_S1x32x256_1_1344_0
abbrev r0_300 : Rect S1x2x2048x256 := Rect.unit (s := S1x2x2048x256) ![0, 1, 1344, 0] S1x1x32x256.size inb_S1x2x2048x256_S1x1x32x256_0_1_1344_0
abbrev r0_301 : Rect S2048x256 := Rect.unit (s := S2048x256) ![1376, 0] S32x256.size inb_S2048x256_S32x256_1376_0
abbrev r0_302 : Rect S2x64x256 := Rect.unit (s := S2x64x256) ![0, 43, 0] S1x1x256.size inb_S2x64x256_S1x1x256_0_43_0
abbrev r0_303 : Rect S2x2048x256 := Rect.unit (s := S2x2048x256) ![0, 1376, 0] S1x32x256.size inb_S2x2048x256_S1x32x256_0_1376_0
abbrev r0_304 : Rect S1x2x2048x256 := Rect.unit (s := S1x2x2048x256) ![0, 0, 1376, 0] S1x1x32x256.size inb_S1x2x2048x256_S1x1x32x256_0_0_1376_0
abbrev r0_305 : Rect S2x64x256 := Rect.unit (s := S2x64x256) ![1, 43, 0] S1x1x256.size inb_S2x64x256_S1x1x256_1_43_0
abbrev r0_306 : Rect S2x2048x256 := Rect.unit (s := S2x2048x256) ![1, 1376, 0] S1x32x256.size inb_S2x2048x256_S1x32x256_1_1376_0
abbrev r0_307 : Rect S1x2x2048x256 := Rect.unit (s := S1x2x2048x256) ![0, 1, 1376, 0] S1x1x32x256.size inb_S1x2x2048x256_S1x1x32x256_0_1_1376_0
abbrev r0_308 : Rect S2048x256 := Rect.unit (s := S2048x256) ![1408, 0] S32x256.size inb_S2048x256_S32x256_1408_0
abbrev r0_309 : Rect S2x64x256 := Rect.unit (s := S2x64x256) ![0, 44, 0] S1x1x256.size inb_S2x64x256_S1x1x256_0_44_0
abbrev r0_310 : Rect S2x2048x256 := Rect.unit (s := S2x2048x256) ![0, 1408, 0] S1x32x256.size inb_S2x2048x256_S1x32x256_0_1408_0
abbrev r0_311 : Rect S1x2x2048x256 := Rect.unit (s := S1x2x2048x256) ![0, 0, 1408, 0] S1x1x32x256.size inb_S1x2x2048x256_S1x1x32x256_0_0_1408_0
abbrev r0_312 : Rect S2x64x256 := Rect.unit (s := S2x64x256) ![1, 44, 0] S1x1x256.size inb_S2x64x256_S1x1x256_1_44_0
abbrev r0_313 : Rect S2x2048x256 := Rect.unit (s := S2x2048x256) ![1, 1408, 0] S1x32x256.size inb_S2x2048x256_S1x32x256_1_1408_0
abbrev r0_314 : Rect S1x2x2048x256 := Rect.unit (s := S1x2x2048x256) ![0, 1, 1408, 0] S1x1x32x256.size inb_S1x2x2048x256_S1x1x32x256_0_1_1408_0
abbrev r0_315 : Rect S2048x256 := Rect.unit (s := S2048x256) ![1440, 0] S32x256.size inb_S2048x256_S32x256_1440_0
abbrev r0_316 : Rect S2x64x256 := Rect.unit (s := S2x64x256) ![0, 45, 0] S1x1x256.size inb_S2x64x256_S1x1x256_0_45_0
abbrev r0_317 : Rect S2x2048x256 := Rect.unit (s := S2x2048x256) ![0, 1440, 0] S1x32x256.size inb_S2x2048x256_S1x32x256_0_1440_0
abbrev r0_318 : Rect S1x2x2048x256 := Rect.unit (s := S1x2x2048x256) ![0, 0, 1440, 0] S1x1x32x256.size inb_S1x2x2048x256_S1x1x32x256_0_0_1440_0
abbrev r0_319 : Rect S2x64x256 := Rect.unit (s := S2x64x256) ![1, 45, 0] S1x1x256.size inb_S2x64x256_S1x1x256_1_45_0
abbrev r0_320 : Rect S2x2048x256 := Rect.unit (s := S2x2048x256) ![1, 1440, 0] S1x32x256.size inb_S2x2048x256_S1x32x256_1_1440_0
abbrev r0_321 : Rect S1x2x2048x256 := Rect.unit (s := S1x2x2048x256) ![0, 1, 1440, 0] S1x1x32x256.size inb_S1x2x2048x256_S1x1x32x256_0_1_1440_0
abbrev r0_322 : Rect S2048x256 := Rect.unit (s := S2048x256) ![1472, 0] S32x256.size inb_S2048x256_S32x256_1472_0
abbrev r0_323 : Rect S2x64x256 := Rect.unit (s := S2x64x256) ![0, 46, 0] S1x1x256.size inb_S2x64x256_S1x1x256_0_46_0
abbrev r0_324 : Rect S2x2048x256 := Rect.unit (s := S2x2048x256) ![0, 1472, 0] S1x32x256.size inb_S2x2048x256_S1x32x256_0_1472_0
abbrev r0_325 : Rect S1x2x2048x256 := Rect.unit (s := S1x2x2048x256) ![0, 0, 1472, 0] S1x1x32x256.size inb_S1x2x2048x256_S1x1x32x256_0_0_1472_0
abbrev r0_326 : Rect S2x64x256 := Rect.unit (s := S2x64x256) ![1, 46, 0] S1x1x256.size inb_S2x64x256_S1x1x256_1_46_0
abbrev r0_327 : Rect S2x2048x256 := Rect.unit (s := S2x2048x256) ![1, 1472, 0] S1x32x256.size inb_S2x2048x256_S1x32x256_1_1472_0
abbrev r0_328 : Rect S1x2x2048x256 := Rect.unit (s := S1x2x2048x256) ![0, 1, 1472, 0] S1x1x32x256.size inb_S1x2x2048x256_S1x1x32x256_0_1_1472_0
abbrev r0_329 : Rect S2048x256 := Rect.unit (s := S2048x256) ![1504, 0] S32x256.size inb_S2048x256_S32x256_1504_0
abbrev r0_330 : Rect S2x64x256 := Rect.unit (s := S2x64x256) ![0, 47, 0] S1x1x256.size inb_S2x64x256_S1x1x256_0_47_0
abbrev r0_331 : Rect S2x2048x256 := Rect.unit (s := S2x2048x256) ![0, 1504, 0] S1x32x256.size inb_S2x2048x256_S1x32x256_0_1504_0
abbrev r0_332 : Rect S1x2x2048x256 := Rect.unit (s := S1x2x2048x256) ![0, 0, 1504, 0] S1x1x32x256.size inb_S1x2x2048x256_S1x1x32x256_0_0_1504_0
abbrev r0_333 : Rect S2x64x256 := Rect.unit (s := S2x64x256) ![1, 47, 0] S1x1x256.size inb_S2x64x256_S1x1x256_1_47_0
abbrev r0_334 : Rect S2x2048x256 := Rect.unit (s := S2x2048x256) ![1, 1504, 0] S1x32x256.size inb_S2x2048x256_S1x32x256_1_1504_0
abbrev r0_335 : Rect S1x2x2048x256 := Rect.unit (s := S1x2x2048x256) ![0, 1, 1504, 0] S1x1x32x256.size inb_S1x2x2048x256_S1x1x32x256_0_1_1504_0
abbrev r0_336 : Rect S2048x256 := Rect.unit (s := S2048x256) ![1536, 0] S32x256.size inb_S2048x256_S32x256_1536_0
abbrev r0_337 : Rect S2x64x256 := Rect.unit (s := S2x64x256) ![0, 48, 0] S1x1x256.size inb_S2x64x256_S1x1x256_0_48_0
abbrev r0_338 : Rect S2x2048x256 := Rect.unit (s := S2x2048x256) ![0, 1536, 0] S1x32x256.size inb_S2x2048x256_S1x32x256_0_1536_0
abbrev r0_339 : Rect S1x2x2048x256 := Rect.unit (s := S1x2x2048x256) ![0, 0, 1536, 0] S1x1x32x256.size inb_S1x2x2048x256_S1x1x32x256_0_0_1536_0
abbrev r0_340 : Rect S2x64x256 := Rect.unit (s := S2x64x256) ![1, 48, 0] S1x1x256.size inb_S2x64x256_S1x1x256_1_48_0
abbrev r0_341 : Rect S2x2048x256 := Rect.unit (s := S2x2048x256) ![1, 1536, 0] S1x32x256.size inb_S2x2048x256_S1x32x256_1_1536_0
abbrev r0_342 : Rect S1x2x2048x256 := Rect.unit (s := S1x2x2048x256) ![0, 1, 1536, 0] S1x1x32x256.size inb_S1x2x2048x256_S1x1x32x256_0_1_1536_0
abbrev r0_343 : Rect S2048x256 := Rect.unit (s := S2048x256) ![1568, 0] S32x256.size inb_S2048x256_S32x256_1568_0
abbrev r0_344 : Rect S2x64x256 := Rect.unit (s := S2x64x256) ![0, 49, 0] S1x1x256.size inb_S2x64x256_S1x1x256_0_49_0
abbrev r0_345 : Rect S2x2048x256 := Rect.unit (s := S2x2048x256) ![0, 1568, 0] S1x32x256.size inb_S2x2048x256_S1x32x256_0_1568_0
abbrev r0_346 : Rect S1x2x2048x256 := Rect.unit (s := S1x2x2048x256) ![0, 0, 1568, 0] S1x1x32x256.size inb_S1x2x2048x256_S1x1x32x256_0_0_1568_0
abbrev r0_347 : Rect S2x64x256 := Rect.unit (s := S2x64x256) ![1, 49, 0] S1x1x256.size inb_S2x64x256_S1x1x256_1_49_0
abbrev r0_348 : Rect S2x2048x256 := Rect.unit (s := S2x2048x256) ![1, 1568, 0] S1x32x256.size inb_S2x2048x256_S1x32x256_1_1568_0
abbrev r0_349 : Rect S1x2x2048x256 := Rect.unit (s := S1x2x2048x256) ![0, 1, 1568, 0] S1x1x32x256.size inb_S1x2x2048x256_S1x1x32x256_0_1_1568_0
abbrev r0_350 : Rect S2048x256 := Rect.unit (s := S2048x256) ![1600, 0] S32x256.size inb_S2048x256_S32x256_1600_0
abbrev r0_351 : Rect S2x64x256 := Rect.unit (s := S2x64x256) ![0, 50, 0] S1x1x256.size inb_S2x64x256_S1x1x256_0_50_0
abbrev r0_352 : Rect S2x2048x256 := Rect.unit (s := S2x2048x256) ![0, 1600, 0] S1x32x256.size inb_S2x2048x256_S1x32x256_0_1600_0
abbrev r0_353 : Rect S1x2x2048x256 := Rect.unit (s := S1x2x2048x256) ![0, 0, 1600, 0] S1x1x32x256.size inb_S1x2x2048x256_S1x1x32x256_0_0_1600_0
abbrev r0_354 : Rect S2x64x256 := Rect.unit (s := S2x64x256) ![1, 50, 0] S1x1x256.size inb_S2x64x256_S1x1x256_1_50_0
abbrev r0_355 : Rect S2x2048x256 := Rect.unit (s := S2x2048x256) ![1, 1600, 0] S1x32x256.size inb_S2x2048x256_S1x32x256_1_1600_0
abbrev r0_356 : Rect S1x2x2048x256 := Rect.unit (s := S1x2x2048x256) ![0, 1, 1600, 0] S1x1x32x256.size inb_S1x2x2048x256_S1x1x32x256_0_1_1600_0
abbrev r0_357 : Rect S2048x256 := Rect.unit (s := S2048x256) ![1632, 0] S32x256.size inb_S2048x256_S32x256_1632_0
abbrev r0_358 : Rect S2x64x256 := Rect.unit (s := S2x64x256) ![0, 51, 0] S1x1x256.size inb_S2x64x256_S1x1x256_0_51_0
abbrev r0_359 : Rect S2x2048x256 := Rect.unit (s := S2x2048x256) ![0, 1632, 0] S1x32x256.size inb_S2x2048x256_S1x32x256_0_1632_0
abbrev r0_360 : Rect S1x2x2048x256 := Rect.unit (s := S1x2x2048x256) ![0, 0, 1632, 0] S1x1x32x256.size inb_S1x2x2048x256_S1x1x32x256_0_0_1632_0
abbrev r0_361 : Rect S2x64x256 := Rect.unit (s := S2x64x256) ![1, 51, 0] S1x1x256.size inb_S2x64x256_S1x1x256_1_51_0
abbrev r0_362 : Rect S2x2048x256 := Rect.unit (s := S2x2048x256) ![1, 1632, 0] S1x32x256.size inb_S2x2048x256_S1x32x256_1_1632_0
abbrev r0_363 : Rect S1x2x2048x256 := Rect.unit (s := S1x2x2048x256) ![0, 1, 1632, 0] S1x1x32x256.size inb_S1x2x2048x256_S1x1x32x256_0_1_1632_0
abbrev r0_364 : Rect S2048x256 := Rect.unit (s := S2048x256) ![1664, 0] S32x256.size inb_S2048x256_S32x256_1664_0
abbrev r0_365 : Rect S2x64x256 := Rect.unit (s := S2x64x256) ![0, 52, 0] S1x1x256.size inb_S2x64x256_S1x1x256_0_52_0
abbrev r0_366 : Rect S2x2048x256 := Rect.unit (s := S2x2048x256) ![0, 1664, 0] S1x32x256.size inb_S2x2048x256_S1x32x256_0_1664_0
abbrev r0_367 : Rect S1x2x2048x256 := Rect.unit (s := S1x2x2048x256) ![0, 0, 1664, 0] S1x1x32x256.size inb_S1x2x2048x256_S1x1x32x256_0_0_1664_0
abbrev r0_368 : Rect S2x64x256 := Rect.unit (s := S2x64x256) ![1, 52, 0] S1x1x256.size inb_S2x64x256_S1x1x256_1_52_0
abbrev r0_369 : Rect S2x2048x256 := Rect.unit (s := S2x2048x256) ![1, 1664, 0] S1x32x256.size inb_S2x2048x256_S1x32x256_1_1664_0
abbrev r0_370 : Rect S1x2x2048x256 := Rect.unit (s := S1x2x2048x256) ![0, 1, 1664, 0] S1x1x32x256.size inb_S1x2x2048x256_S1x1x32x256_0_1_1664_0
abbrev r0_371 : Rect S2048x256 := Rect.unit (s := S2048x256) ![1696, 0] S32x256.size inb_S2048x256_S32x256_1696_0
abbrev r0_372 : Rect S2x64x256 := Rect.unit (s := S2x64x256) ![0, 53, 0] S1x1x256.size inb_S2x64x256_S1x1x256_0_53_0
abbrev r0_373 : Rect S2x2048x256 := Rect.unit (s := S2x2048x256) ![0, 1696, 0] S1x32x256.size inb_S2x2048x256_S1x32x256_0_1696_0
abbrev r0_374 : Rect S1x2x2048x256 := Rect.unit (s := S1x2x2048x256) ![0, 0, 1696, 0] S1x1x32x256.size inb_S1x2x2048x256_S1x1x32x256_0_0_1696_0
abbrev r0_375 : Rect S2x64x256 := Rect.unit (s := S2x64x256) ![1, 53, 0] S1x1x256.size inb_S2x64x256_S1x1x256_1_53_0
abbrev r0_376 : Rect S2x2048x256 := Rect.unit (s := S2x2048x256) ![1, 1696, 0] S1x32x256.size inb_S2x2048x256_S1x32x256_1_1696_0
abbrev r0_377 : Rect S1x2x2048x256 := Rect.unit (s := S1x2x2048x256) ![0, 1, 1696, 0] S1x1x32x256.size inb_S1x2x2048x256_S1x1x32x256_0_1_1696_0
abbrev r0_378 : Rect S2048x256 := Rect.unit (s := S2048x256) ![1728, 0] S32x256.size inb_S2048x256_S32x256_1728_0
abbrev r0_379 : Rect S2x64x256 := Rect.unit (s := S2x64x256) ![0, 54, 0] S1x1x256.size inb_S2x64x256_S1x1x256_0_54_0
abbrev r0_380 : Rect S2x2048x256 := Rect.unit (s := S2x2048x256) ![0, 1728, 0] S1x32x256.size inb_S2x2048x256_S1x32x256_0_1728_0
abbrev r0_381 : Rect S1x2x2048x256 := Rect.unit (s := S1x2x2048x256) ![0, 0, 1728, 0] S1x1x32x256.size inb_S1x2x2048x256_S1x1x32x256_0_0_1728_0
abbrev r0_382 : Rect S2x64x256 := Rect.unit (s := S2x64x256) ![1, 54, 0] S1x1x256.size inb_S2x64x256_S1x1x256_1_54_0
abbrev r0_383 : Rect S2x2048x256 := Rect.unit (s := S2x2048x256) ![1, 1728, 0] S1x32x256.size inb_S2x2048x256_S1x32x256_1_1728_0
abbrev r0_384 : Rect S1x2x2048x256 := Rect.unit (s := S1x2x2048x256) ![0, 1, 1728, 0] S1x1x32x256.size inb_S1x2x2048x256_S1x1x32x256_0_1_1728_0
abbrev r0_385 : Rect S2048x256 := Rect.unit (s := S2048x256) ![1760, 0] S32x256.size inb_S2048x256_S32x256_1760_0
abbrev r0_386 : Rect S2x64x256 := Rect.unit (s := S2x64x256) ![0, 55, 0] S1x1x256.size inb_S2x64x256_S1x1x256_0_55_0
abbrev r0_387 : Rect S2x2048x256 := Rect.unit (s := S2x2048x256) ![0, 1760, 0] S1x32x256.size inb_S2x2048x256_S1x32x256_0_1760_0
abbrev r0_388 : Rect S1x2x2048x256 := Rect.unit (s := S1x2x2048x256) ![0, 0, 1760, 0] S1x1x32x256.size inb_S1x2x2048x256_S1x1x32x256_0_0_1760_0
abbrev r0_389 : Rect S2x64x256 := Rect.unit (s := S2x64x256) ![1, 55, 0] S1x1x256.size inb_S2x64x256_S1x1x256_1_55_0
abbrev r0_390 : Rect S2x2048x256 := Rect.unit (s := S2x2048x256) ![1, 1760, 0] S1x32x256.size inb_S2x2048x256_S1x32x256_1_1760_0
abbrev r0_391 : Rect S1x2x2048x256 := Rect.unit (s := S1x2x2048x256) ![0, 1, 1760, 0] S1x1x32x256.size inb_S1x2x2048x256_S1x1x32x256_0_1_1760_0
abbrev r0_392 : Rect S2048x256 := Rect.unit (s := S2048x256) ![1792, 0] S32x256.size inb_S2048x256_S32x256_1792_0
abbrev r0_393 : Rect S2x64x256 := Rect.unit (s := S2x64x256) ![0, 56, 0] S1x1x256.size inb_S2x64x256_S1x1x256_0_56_0
abbrev r0_394 : Rect S2x2048x256 := Rect.unit (s := S2x2048x256) ![0, 1792, 0] S1x32x256.size inb_S2x2048x256_S1x32x256_0_1792_0
abbrev r0_395 : Rect S1x2x2048x256 := Rect.unit (s := S1x2x2048x256) ![0, 0, 1792, 0] S1x1x32x256.size inb_S1x2x2048x256_S1x1x32x256_0_0_1792_0
abbrev r0_396 : Rect S2x64x256 := Rect.unit (s := S2x64x256) ![1, 56, 0] S1x1x256.size inb_S2x64x256_S1x1x256_1_56_0
abbrev r0_397 : Rect S2x2048x256 := Rect.unit (s := S2x2048x256) ![1, 1792, 0] S1x32x256.size inb_S2x2048x256_S1x32x256_1_1792_0
abbrev r0_398 : Rect S1x2x2048x256 := Rect.unit (s := S1x2x2048x256) ![0, 1, 1792, 0] S1x1x32x256.size inb_S1x2x2048x256_S1x1x32x256_0_1_1792_0
abbrev r0_399 : Rect S2048x256 := Rect.unit (s := S2048x256) ![1824, 0] S32x256.size inb_S2048x256_S32x256_1824_0
abbrev r0_400 : Rect S2x64x256 := Rect.unit (s := S2x64x256) ![0, 57, 0] S1x1x256.size inb_S2x64x256_S1x1x256_0_57_0
abbrev r0_401 : Rect S2x2048x256 := Rect.unit (s := S2x2048x256) ![0, 1824, 0] S1x32x256.size inb_S2x2048x256_S1x32x256_0_1824_0
abbrev r0_402 : Rect S1x2x2048x256 := Rect.unit (s := S1x2x2048x256) ![0, 0, 1824, 0] S1x1x32x256.size inb_S1x2x2048x256_S1x1x32x256_0_0_1824_0
abbrev r0_403 : Rect S2x64x256 := Rect.unit (s := S2x64x256) ![1, 57, 0] S1x1x256.size inb_S2x64x256_S1x1x256_1_57_0
abbrev r0_404 : Rect S2x2048x256 := Rect.unit (s := S2x2048x256) ![1, 1824, 0] S1x32x256.size inb_S2x2048x256_S1x32x256_1_1824_0
abbrev r0_405 : Rect S1x2x2048x256 := Rect.unit (s := S1x2x2048x256) ![0, 1, 1824, 0] S1x1x32x256.size inb_S1x2x2048x256_S1x1x32x256_0_1_1824_0
abbrev r0_406 : Rect S2048x256 := Rect.unit (s := S2048x256) ![1856, 0] S32x256.size inb_S2048x256_S32x256_1856_0
abbrev r0_407 : Rect S2x64x256 := Rect.unit (s := S2x64x256) ![0, 58, 0] S1x1x256.size inb_S2x64x256_S1x1x256_0_58_0
abbrev r0_408 : Rect S2x2048x256 := Rect.unit (s := S2x2048x256) ![0, 1856, 0] S1x32x256.size inb_S2x2048x256_S1x32x256_0_1856_0
abbrev r0_409 : Rect S1x2x2048x256 := Rect.unit (s := S1x2x2048x256) ![0, 0, 1856, 0] S1x1x32x256.size inb_S1x2x2048x256_S1x1x32x256_0_0_1856_0
abbrev r0_410 : Rect S2x64x256 := Rect.unit (s := S2x64x256) ![1, 58, 0] S1x1x256.size inb_S2x64x256_S1x1x256_1_58_0
abbrev r0_411 : Rect S2x2048x256 := Rect.unit (s := S2x2048x256) ![1, 1856, 0] S1x32x256.size inb_S2x2048x256_S1x32x256_1_1856_0
abbrev r0_412 : Rect S1x2x2048x256 := Rect.unit (s := S1x2x2048x256) ![0, 1, 1856, 0] S1x1x32x256.size inb_S1x2x2048x256_S1x1x32x256_0_1_1856_0
abbrev r0_413 : Rect S2048x256 := Rect.unit (s := S2048x256) ![1888, 0] S32x256.size inb_S2048x256_S32x256_1888_0
abbrev r0_414 : Rect S2x64x256 := Rect.unit (s := S2x64x256) ![0, 59, 0] S1x1x256.size inb_S2x64x256_S1x1x256_0_59_0
abbrev r0_415 : Rect S2x2048x256 := Rect.unit (s := S2x2048x256) ![0, 1888, 0] S1x32x256.size inb_S2x2048x256_S1x32x256_0_1888_0
abbrev r0_416 : Rect S1x2x2048x256 := Rect.unit (s := S1x2x2048x256) ![0, 0, 1888, 0] S1x1x32x256.size inb_S1x2x2048x256_S1x1x32x256_0_0_1888_0
abbrev r0_417 : Rect S2x64x256 := Rect.unit (s := S2x64x256) ![1, 59, 0] S1x1x256.size inb_S2x64x256_S1x1x256_1_59_0
abbrev r0_418 : Rect S2x2048x256 := Rect.unit (s := S2x2048x256) ![1, 1888, 0] S1x32x256.size inb_S2x2048x256_S1x32x256_1_1888_0
abbrev r0_419 : Rect S1x2x2048x256 := Rect.unit (s := S1x2x2048x256) ![0, 1, 1888, 0] S1x1x32x256.size inb_S1x2x2048x256_S1x1x32x256_0_1_1888_0
abbrev r0_420 : Rect S2048x256 := Rect.unit (s := S2048x256) ![1920, 0] S32x256.size inb_S2048x256_S32x256_1920_0
abbrev r0_421 : Rect S2x64x256 := Rect.unit (s := S2x64x256) ![0, 60, 0] S1x1x256.size inb_S2x64x256_S1x1x256_0_60_0
abbrev r0_422 : Rect S2x2048x256 := Rect.unit (s := S2x2048x256) ![0, 1920, 0] S1x32x256.size inb_S2x2048x256_S1x32x256_0_1920_0
abbrev r0_423 : Rect S1x2x2048x256 := Rect.unit (s := S1x2x2048x256) ![0, 0, 1920, 0] S1x1x32x256.size inb_S1x2x2048x256_S1x1x32x256_0_0_1920_0
abbrev r0_424 : Rect S2x64x256 := Rect.unit (s := S2x64x256) ![1, 60, 0] S1x1x256.size inb_S2x64x256_S1x1x256_1_60_0
abbrev r0_425 : Rect S2x2048x256 := Rect.unit (s := S2x2048x256) ![1, 1920, 0] S1x32x256.size inb_S2x2048x256_S1x32x256_1_1920_0
abbrev r0_426 : Rect S1x2x2048x256 := Rect.unit (s := S1x2x2048x256) ![0, 1, 1920, 0] S1x1x32x256.size inb_S1x2x2048x256_S1x1x32x256_0_1_1920_0
abbrev r0_427 : Rect S2048x256 := Rect.unit (s := S2048x256) ![1952, 0] S32x256.size inb_S2048x256_S32x256_1952_0
abbrev r0_428 : Rect S2x64x256 := Rect.unit (s := S2x64x256) ![0, 61, 0] S1x1x256.size inb_S2x64x256_S1x1x256_0_61_0
abbrev r0_429 : Rect S2x2048x256 := Rect.unit (s := S2x2048x256) ![0, 1952, 0] S1x32x256.size inb_S2x2048x256_S1x32x256_0_1952_0
abbrev r0_430 : Rect S1x2x2048x256 := Rect.unit (s := S1x2x2048x256) ![0, 0, 1952, 0] S1x1x32x256.size inb_S1x2x2048x256_S1x1x32x256_0_0_1952_0
abbrev r0_431 : Rect S2x64x256 := Rect.unit (s := S2x64x256) ![1, 61, 0] S1x1x256.size inb_S2x64x256_S1x1x256_1_61_0
abbrev r0_432 : Rect S2x2048x256 := Rect.unit (s := S2x2048x256) ![1, 1952, 0] S1x32x256.size inb_S2x2048x256_S1x32x256_1_1952_0
abbrev r0_433 : Rect S1x2x2048x256 := Rect.unit (s := S1x2x2048x256) ![0, 1, 1952, 0] S1x1x32x256.size inb_S1x2x2048x256_S1x1x32x256_0_1_1952_0
abbrev r0_434 : Rect S2048x256 := Rect.unit (s := S2048x256) ![1984, 0] S32x256.size inb_S2048x256_S32x256_1984_0
abbrev r0_435 : Rect S2x64x256 := Rect.unit (s := S2x64x256) ![0, 62, 0] S1x1x256.size inb_S2x64x256_S1x1x256_0_62_0
abbrev r0_436 : Rect S2x2048x256 := Rect.unit (s := S2x2048x256) ![0, 1984, 0] S1x32x256.size inb_S2x2048x256_S1x32x256_0_1984_0
abbrev r0_437 : Rect S1x2x2048x256 := Rect.unit (s := S1x2x2048x256) ![0, 0, 1984, 0] S1x1x32x256.size inb_S1x2x2048x256_S1x1x32x256_0_0_1984_0
abbrev r0_438 : Rect S2x64x256 := Rect.unit (s := S2x64x256) ![1, 62, 0] S1x1x256.size inb_S2x64x256_S1x1x256_1_62_0
abbrev r0_439 : Rect S2x2048x256 := Rect.unit (s := S2x2048x256) ![1, 1984, 0] S1x32x256.size inb_S2x2048x256_S1x32x256_1_1984_0
abbrev r0_440 : Rect S1x2x2048x256 := Rect.unit (s := S1x2x2048x256) ![0, 1, 1984, 0] S1x1x32x256.size inb_S1x2x2048x256_S1x1x32x256_0_1_1984_0
abbrev r0_441 : Rect S2048x256 := Rect.unit (s := S2048x256) ![2016, 0] S32x256.size inb_S2048x256_S32x256_2016_0
abbrev r0_442 : Rect S2x64x256 := Rect.unit (s := S2x64x256) ![0, 63, 0] S1x1x256.size inb_S2x64x256_S1x1x256_0_63_0
abbrev r0_443 : Rect S2x2048x256 := Rect.unit (s := S2x2048x256) ![0, 2016, 0] S1x32x256.size inb_S2x2048x256_S1x32x256_0_2016_0
abbrev r0_444 : Rect S1x2x2048x256 := Rect.unit (s := S1x2x2048x256) ![0, 0, 2016, 0] S1x1x32x256.size inb_S1x2x2048x256_S1x1x32x256_0_0_2016_0
abbrev r0_445 : Rect S2x64x256 := Rect.unit (s := S2x64x256) ![1, 63, 0] S1x1x256.size inb_S2x64x256_S1x1x256_1_63_0
abbrev r0_446 : Rect S2x2048x256 := Rect.unit (s := S2x2048x256) ![1, 2016, 0] S1x32x256.size inb_S2x2048x256_S1x32x256_1_2016_0
abbrev r0_447 : Rect S1x2x2048x256 := Rect.unit (s := S1x2x2048x256) ![0, 1, 2016, 0] S1x1x32x256.size inb_S1x2x2048x256_S1x1x32x256_0_1_2016_0

/-! ## What the body leaves in each output window's buffer -/

/-! ### Values of the body that the stores' payloads, spelt out, would write more than once

    Each is a vector the body binds (often a part call's result), stated over the input windows' blocks and
    numbered on from the skeleton's payload functions (`k0_pay359` …, after `k0_pay358`), so that
    `out0_W` and the values after it name it instead of spelling it out (`unfold_out out0_W` opens a canon
    with them, `unfold_payloads` opens them with the payloads); the comment after each is the printed function's
    name for the value (a count appended where that name is bound again). -/

def k0_pay359 (x0 : Vec F S2x2048x256 .bf16) (x1 : Vec F S2048x256 .i8) (x2 : Vec F S2x64x256 .bf16) (x3 : Vec F S2x64x256 .bf16) : IVec S8x256 32 :=
  k0_pay102 (View.ld x1 r0_126) -- `v721`
def k0_pay360 (x0 : Vec F S2x2048x256 .bf16) (x1 : Vec F S2048x256 .i8) (x2 : Vec F S2x64x256 .bf16) (x3 : Vec F S2x64x256 .bf16) : IVec S8x256 32 :=
  k0_pay228 (View.ld x1 r0_287) -- `v1641`
def k0_pay361 (x0 : Vec F S2x2048x256 .bf16) (x1 : Vec F S2048x256 .i8) (x2 : Vec F S2x64x256 .bf16) (x3 : Vec F S2x64x256 .bf16) : IVec S8x256 32 :=
  k0_pay306 (View.ld x1 r0_385) -- `v2201`

/-- Window 4's staging buffer after the body, from the input windows' blocks: its 128 stores as pieces, LAST
    FIRST (Lib/Pipeline/FrameBody.lean `View.canon`; the payloads are the skeleton's and the values stated above). -/
def out0_4 (x0 : Vec F S2x2048x256 .bf16) (x1 : Vec F S2048x256 .i8) (x2 : Vec F S2x64x256 .bf16) (x3 : Vec F S2x64x256 .bf16) : Vec F S1x2x2048x256 .bf16 :=
  View.canon [⟨r0_447, k0_pay1 (k0_pay356 (View.ld x0 r0_446)) (k0_pay357 (k0_pay352 (View.ld x1 r0_441)) (View.ld x3 r0_445)) (k0_pay358 (View.ld x2 r0_445))⟩,
    ⟨r0_444, k0_pay355 (k0_pay353 (View.ld x1 r0_441)) (k0_pay354 (View.ld x3 r0_442)) (View.ld x2 r0_442) (View.ld x0 r0_443)⟩,
    ⟨r0_440, k0_pay350 (k0_pay345 (View.ld x1 r0_434)) (View.ld x3 r0_438) (View.ld x2 r0_438) (View.ld x0 r0_439)⟩,
    ⟨r0_437, k0_pay349 (k0_pay346 (View.ld x0 r0_436)) (k0_pay347 (View.ld x1 r0_434) (View.ld x3 r0_435)) (k0_pay348 (View.ld x2 r0_435))⟩,
    ⟨r0_433, k0_pay343 (k0_pay342 (View.ld x1 r0_427)) (View.ld x3 r0_431) (View.ld x2 r0_431) (View.ld x0 r0_432)⟩,
    ⟨r0_430, k0_pay341 (View.ld x1 r0_427) (View.ld x3 r0_428) (View.ld x2 r0_428) (View.ld x0 r0_429)⟩,
    ⟨r0_426, k0_pay339 (k0_pay336 (View.ld x1 r0_420)) (k0_pay337 (View.ld x3 r0_424)) (k0_pay338 (View.ld x2 r0_424)) (View.ld x0 r0_425)⟩,
    ⟨r0_423, k0_pay335 (View.ld x1 r0_420) (View.ld x3 r0_421) (View.ld x2 r0_421) (View.ld x0 r0_422)⟩,
    ⟨r0_419, k0_pay333 (k0_pay330 (View.ld x1 r0_413)) k0_pay331 (View.ld x3 r0_417) (View.ld x2 r0_417) (View.ld x0 r0_418)⟩,
    ⟨r0_416, k0_pay332 (k0_pay329 (View.ld x1 r0_413)) (View.ld x3 r0_414) (View.ld x2 r0_414) (View.ld x0 r0_415)⟩,
    ⟨r0_412, k0_pay327 (k0_pay322 (View.ld x1 r0_406)) (View.ld x3 r0_410) (View.ld x2 r0_410) (View.ld x0 r0_411)⟩,
    ⟨r0_409, k0_pay326 (k0_pay323 (View.ld x1 r0_406)) (k0_pay324 (View.ld x3 r0_407)) (k0_pay325 (View.ld x2 r0_407)) (View.ld x0 r0_408)⟩,
    ⟨r0_405, k0_pay320 (k0_pay317 (View.ld x1 r0_399)) (View.ld x3 r0_403) (View.ld x2 r0_403) (View.ld x0 r0_404)⟩,
    ⟨r0_402, k0_pay319 (k0_pay318 (View.ld x1 r0_399) (View.ld x3 r0_400) (View.ld x2 r0_400) (View.ld x0 r0_401))⟩,
    ⟨r0_398, k0_pay315 (k0_pay313 (View.ld x1 r0_392)) (k0_pay314 (View.ld x3 r0_396)) (View.ld x2 r0_396) (View.ld x0 r0_397)⟩,
    ⟨r0_395, k0_pay312 (View.ld x1 r0_392) (View.ld x3 r0_393) (View.ld x2 r0_393) (View.ld x0 r0_394)⟩,
    ⟨r0_391, k0_pay310 (k0_pay308 (View.ld x0 r0_390)) (k0_pay309 (k0_pay361 x0 x1 x2 x3) (View.ld x3 r0_389) (View.ld x2 r0_389))⟩,
    ⟨r0_388, k0_pay307 (k0_pay361 x0 x1 x2 x3) (View.ld x3 r0_386) (View.ld x2 r0_386) (View.ld x0 r0_387)⟩,
    ⟨r0_384, k0_pay305 (k0_pay302 (View.ld x1 r0_378)) (View.ld x3 r0_382) (View.ld x2 r0_382) (View.ld x0 r0_383)⟩,
    ⟨r0_381, k0_pay304 (k0_pay303 (View.ld x1 r0_378)) (View.ld x3 r0_379) (View.ld x2 r0_379) (View.ld x0 r0_380)⟩,
    ⟨r0_377, k0_pay300 (k0_pay294 (View.ld x1 r0_371)) (View.ld x3 r0_375) (View.ld x2 r0_375) (View.ld x0 r0_376)⟩,
    ⟨r0_374, k0_pay299 (k0_pay295 (View.ld x1 r0_371)) (k0_pay296 (View.ld x3 r0_372)) (k0_pay297 (View.ld x2 r0_372)) (k0_pay298 (View.ld x0 r0_373))⟩,
    ⟨r0_370, k0_pay292 (k0_pay290 (View.ld x1 r0_364)) (View.ld x3 r0_368) (View.ld x2 r0_368) (View.ld x0 r0_369)⟩,
    ⟨r0_367, k0_pay291 (View.ld x1 r0_364) (View.ld x3 r0_365) (View.ld x2 r0_365) (View.ld x0 r0_366)⟩,
    ⟨r0_363, k0_pay288 (k0_pay285 (View.ld x1 r0_357)) (k0_pay286 (View.ld x3 r0_361)) (k0_pay287 (View.ld x2 r0_361)) (View.ld x0 r0_362)⟩,
    ⟨r0_360, k0_pay284 (View.ld x1 r0_357) (View.ld x3 r0_358) (View.ld x2 r0_358) (View.ld x0 r0_359)⟩,
    ⟨r0_356, k0_pay282 (k0_pay281 (k0_pay277 (View.ld x1 r0_350)) k0_pay279 (View.ld x3 r0_354) (View.ld x2 r0_354) (View.ld x0 r0_355))⟩,
    ⟨r0_353, k0_pay280 (k0_pay278 (View.ld x1 r0_350)) (View.ld x3 r0_351) (View.ld x2 r0_351) (View.ld x0 r0_352)⟩,
    ⟨r0_349, k0_pay276 (k0_pay272 (View.ld x1 r0_343)) (View.ld x3 r0_347) (View.ld x2 r0_347) (View.ld x0 r0_348)⟩,
    ⟨r0_346, k0_pay275 (k0_pay273 (View.ld x1 r0_343)) (k0_pay274 (View.ld x3 r0_344)) (View.ld x2 r0_344) (View.ld x0 r0_345)⟩,
    ⟨r0_342, k0_pay270 (k0_pay267 (View.ld x1 r0_336)) (View.ld x3 r0_340) (View.ld x2 r0_340) (View.ld x0 r0_341)⟩,
    ⟨r0_339, k0_pay269 (k0_pay268 (View.ld x1 r0_336) (View.ld x3 r0_337) (View.ld x2 r0_337) (View.ld x0 r0_338))⟩,
    ⟨r0_335, k0_pay265 (k0_pay264 (View.ld x1 r0_329)) (View.ld x3 r0_333) (View.ld x2 r0_333) (View.ld x0 r0_334)⟩,
    ⟨r0_332, k0_pay263 (View.ld x1 r0_329) (View.ld x3 r0_330) (View.ld x2 r0_330) (View.ld x0 r0_331)⟩,
    ⟨r0_328, k0_pay261 (k0_pay257 (View.ld x1 r0_322)) (k0_pay258 (View.ld x2 r0_326)) (k0_pay259 (View.ld x0 r0_327)) (k0_pay260 (View.ld x3 r0_326))⟩,
    ⟨r0_325, k0_pay256 (View.ld x1 r0_322) (View.ld x3 r0_323) (View.ld x2 r0_323) (View.ld x0 r0_324)⟩,
    ⟨r0_321, k0_pay254 (k0_pay251 (View.ld x1 r0_315)) (View.ld x3 r0_319) (View.ld x2 r0_319) (View.ld x0 r0_320)⟩,
    ⟨r0_318, k0_pay253 (k0_pay252 (View.ld x1 r0_315)) (View.ld x3 r0_316) (View.ld x2 r0_316) (View.ld x0 r0_317)⟩,
    ⟨r0_314, k0_pay249 (k0_pay244 (View.ld x1 r0_308)) (View.ld x3 r0_312) (View.ld x2 r0_312) (View.ld x0 r0_313)⟩,
    ⟨r0_311, k0_pay248 (k0_pay245 (View.ld x1 r0_308)) (k0_pay246 (View.ld x3 r0_309)) (k0_pay247 (View.ld x2 r0_309)) (View.ld x0 r0_310)⟩,
    ⟨r0_307, k0_pay242 (k0_pay239 (View.ld x1 r0_301)) (View.ld x3 r0_305) (View.ld x2 r0_305) (View.ld x0 r0_306)⟩,
    ⟨r0_304, k0_pay241 (k0_pay240 (View.ld x1 r0_301) (View.ld x3 r0_302) (View.ld x2 r0_302) (View.ld x0 r0_303))⟩,
    ⟨r0_300, k0_pay237 (k0_pay235 (View.ld x1 r0_294)) (k0_pay236 (View.ld x3 r0_298)) (View.ld x2 r0_298) (View.ld x0 r0_299)⟩,
    ⟨r0_297, k0_pay234 (View.ld x1 r0_294) (View.ld x3 r0_295) (View.ld x2 r0_295) (View.ld x0 r0_296)⟩,
    ⟨r0_293, k0_pay232 (k0_pay231 (k0_pay360 x0 x1 x2 x3) (View.ld x3 r0_291) (View.ld x2 r0_291) (View.ld x0 r0_292))⟩,
    ⟨r0_290, k0_pay230 (k0_pay360 x0 x1 x2 x3) k0_pay229 (View.ld x3 r0_288) (View.ld x2 r0_288) (View.ld x0 r0_289)⟩,
    ⟨r0_286, k0_pay227 (k0_pay224 (View.ld x1 r0_280)) (View.ld x3 r0_284) (View.ld x2 r0_284) (View.ld x0 r0_285)⟩,
    ⟨r0_283, k0_pay226 (k0_pay225 (View.ld x1 r0_280)) (View.ld x3 r0_281) (View.ld x2 r0_281) (View.ld x0 r0_282)⟩,
    ⟨r0_279, k0_pay222 (k0_pay217 (View.ld x1 r0_273)) (View.ld x3 r0_277) (View.ld x2 r0_277) (View.ld x0 r0_278)⟩,
    ⟨r0_276, k0_pay221 (k0_pay218 (View.ld x2 r0_274)) (k0_pay219 (View.ld x0 r0_275)) (k0_pay220 (View.ld x1 r0_273) (View.ld x3 r0_274))⟩,
    ⟨r0_272, k0_pay215 (k0_pay214 (View.ld x1 r0_266)) (View.ld x3 r0_270) (View.ld x2 r0_270) (View.ld x0 r0_271)⟩,
    ⟨r0_269, k0_pay213 (View.ld x1 r0_266) (View.ld x3 r0_267) (View.ld x2 r0_267) (View.ld x0 r0_268)⟩,
    ⟨r0_265, k0_pay211 (k0_pay208 (View.ld x1 r0_259)) (k0_pay209 (View.ld x3 r0_263)) (k0_pay210 (View.ld x2 r0_263)) (View.ld x0 r0_264)⟩,
    ⟨r0_262, k0_pay207 (View.ld x1 r0_259) (View.ld x3 r0_260) (View.ld x2 r0_260) (View.ld x0 r0_261)⟩,
    ⟨r0_258, k0_pay205 (k0_pay204 (k0_pay202 (View.ld x1 r0_252)) 252645135#32 (View.ld x3 r0_256) (View.ld x2 r0_256) (View.ld x0 r0_257))⟩,
    ⟨r0_255, k0_pay203 (k0_pay201 (View.ld x1 r0_252)) (View.ld x3 r0_253) (View.ld x2 r0_253) (View.ld x0 r0_254)⟩,
    ⟨r0_251, k0_pay199 (k0_pay195 (View.ld x1 r0_245)) (View.ld x3 r0_249) (View.ld x2 r0_249) (View.ld x0 r0_250)⟩,
    ⟨r0_248, k0_pay198 (k0_pay196 (View.ld x1 r0_245)) (k0_pay197 (View.ld x3 r0_246)) (View.ld x2 r0_246) (View.ld x0 r0_247)⟩,
    ⟨r0_244, k0_pay193 (k0_pay190 (View.ld x1 r0_238)) (View.ld x3 r0_242) (View.ld x2 r0_242) (View.ld x0 r0_243)⟩,
    ⟨r0_241, k0_pay192 (k0_pay191 (View.ld x1 r0_238) (View.ld x3 r0_239) (View.ld x2 r0_239) (View.ld x0 r0_240))⟩,
    ⟨r0_237, k0_pay188 (k0_pay186 (View.ld x1 r0_231)) (k0_pay187 (View.ld x3 r0_235)) (View.ld x2 r0_235) (View.ld x0 r0_236)⟩,
    ⟨r0_234, k0_pay185 (View.ld x1 r0_231) (View.ld x3 r0_232) (View.ld x2 r0_232) (View.ld x0 r0_233)⟩,
    ⟨r0_230, k0_pay183 (k0_pay180 (View.ld x0 r0_229)) (k0_pay181 (View.ld x1 r0_224) (View.ld x3 r0_228)) (k0_pay182 (View.ld x2 r0_228))⟩,
    ⟨r0_227, k0_pay179 (View.ld x1 r0_224) (View.ld x3 r0_225) (View.ld x2 r0_225) (View.ld x0 r0_226)⟩,
    ⟨r0_223, k0_pay177 (k0_pay174 (View.ld x1 r0_217)) (View.ld x3 r0_221) (View.ld x2 r0_221) (View.ld x0 r0_222)⟩,
    ⟨r0_220, k0_pay176 (k0_pay175 (View.ld x1 r0_217)) (View.ld x3 r0_218) (View.ld x2 r0_218) (View.ld x0 r0_219)⟩,
    ⟨r0_216, k0_pay172 (k0_pay167 (View.ld x1 r0_210)) (View.ld x3 r0_214) (View.ld x2 r0_214) (View.ld x0 r0_215)⟩,
    ⟨r0_213, k0_pay171 (k0_pay168 (View.ld x1 r0_210)) (k0_pay169 (View.ld x3 r0_211)) (k0_pay170 (View.ld x2 r0_211)) (View.ld x0 r0_212)⟩,
    ⟨r0_209, k0_pay165 (k0_pay163 (View.ld x1 r0_203)) (View.ld x3 r0_207) (View.ld x2 r0_207) (View.ld x0 r0_208)⟩,
    ⟨r0_206, k0_pay164 (View.ld x1 r0_203) (View.ld x3 r0_204) (View.ld x2 r0_204) (View.ld x0 r0_205)⟩,
    ⟨r0_202, k0_pay161 (k0_pay158 (View.ld x1 r0_196)) (k0_pay159 (View.ld x3 r0_200)) (k0_pay160 (View.ld x2 r0_200)) (View.ld x0 r0_201)⟩,
    ⟨r0_199, k0_pay157 (View.ld x1 r0_196) (View.ld x3 r0_197) (View.ld x2 r0_197) (View.ld x0 r0_198)⟩,
    ⟨r0_195, k0_pay155 (k0_pay154 (k0_pay151 (View.ld x1 r0_189)) 4#32 (View.ld x3 r0_193) (View.ld x2 r0_193) (View.ld x0 r0_194))⟩,
    ⟨r0_192, k0_pay153 (k0_pay152 (View.ld x1 r0_189)) (View.ld x3 r0_190) (View.ld x2 r0_190) (View.ld x0 r0_191)⟩,
    ⟨r0_188, k0_pay150 (k0_pay146 (View.ld x1 r0_182)) (View.ld x3 r0_186) (View.ld x2 r0_186) (View.ld x0 r0_187)⟩,
    ⟨r0_185, k0_pay149 (k0_pay147 (View.ld x1 r0_182)) (k0_pay148 (View.ld x3 r0_183)) (View.ld x2 r0_183) (View.ld x0 r0_184)⟩,
    ⟨r0_181, k0_pay144 (k0_pay140 (View.ld x1 r0_175)) (View.ld x3 r0_179) (View.ld x2 r0_179) (View.ld x0 r0_180)⟩,
    ⟨r0_178, k0_pay143 (k0_pay141 (View.ld x0 r0_177)) (k0_pay142 (View.ld x1 r0_175) (View.ld x3 r0_176) (View.ld x2 r0_176))⟩,
    ⟨r0_174, k0_pay138 (k0_pay137 (View.ld x1 r0_168)) (View.ld x3 r0_172) (View.ld x2 r0_172) (View.ld x0 r0_173)⟩,
    ⟨r0_171, k0_pay136 (View.ld x1 r0_168) (View.ld x3 r0_169) (View.ld x2 r0_169) (View.ld x0 r0_170)⟩,
    ⟨r0_167, k0_pay134 (k0_pay130 (View.ld x1 r0_161)) (k0_pay131 (View.ld x3 r0_165)) (k0_pay132 (View.ld x2 r0_165)) (k0_pay133 (View.ld x0 r0_166))⟩,
    ⟨r0_164, k0_pay129 (View.ld x1 r0_161) (View.ld x3 r0_162) (View.ld x2 r0_162) (View.ld x0 r0_163)⟩,
    ⟨r0_160, k0_pay127 (k0_pay125 (View.ld x1 r0_154)) (View.ld x3 r0_158) (View.ld x2 r0_158) (View.ld x0 r0_159)⟩,
    ⟨r0_157, k0_pay126 (k0_pay124 (View.ld x1 r0_154)) (View.ld x3 r0_155) (View.ld x2 r0_155) (View.ld x0 r0_156)⟩,
    ⟨r0_153, k0_pay122 (k0_pay117 (View.ld x1 r0_147)) (View.ld x3 r0_151) (View.ld x2 r0_151) (View.ld x0 r0_152)⟩,
    ⟨r0_150, k0_pay121 (k0_pay118 (View.ld x1 r0_147)) (k0_pay119 (View.ld x3 r0_148)) (k0_pay120 (View.ld x2 r0_148)) (View.ld x0 r0_149)⟩,
    ⟨r0_146, k0_pay115 (k0_pay112 (View.ld x1 r0_140)) (View.ld x3 r0_144) (View.ld x2 r0_144) (View.ld x0 r0_145)⟩,
    ⟨r0_143, k0_pay114 (k0_pay113 (View.ld x1 r0_140) (View.ld x3 r0_141) (View.ld x2 r0_141) (View.ld x0 r0_142))⟩,
    ⟨r0_139, k0_pay110 (k0_pay108 (View.ld x1 r0_133)) (k0_pay109 (View.ld x3 r0_137)) (View.ld x2 r0_137) (View.ld x0 r0_138)⟩,
    ⟨r0_136, k0_pay107 (View.ld x1 r0_133) (View.ld x3 r0_134) (View.ld x2 r0_134) (View.ld x0 r0_135)⟩,
    ⟨r0_132, k0_pay105 (k0_pay104 (k0_pay359 x0 x1 x2 x3) (View.ld x3 r0_130) (View.ld x2 r0_130) (View.ld x0 r0_131))⟩,
    ⟨r0_129, k0_pay103 (k0_pay359 x0 x1 x2 x3) 252645135#32 (View.ld x3 r0_127) (View.ld x2 r0_127) (View.ld x0 r0_128)⟩,
    ⟨r0_125, k0_pay101 (k0_pay98 (View.ld x1 r0_119)) (View.ld x3 r0_123) (View.ld x2 r0_123) (View.ld x0 r0_124)⟩,
    ⟨r0_122, k0_pay100 (k0_pay99 (View.ld x1 r0_119)) (View.ld x3 r0_120) (View.ld x2 r0_120) (View.ld x0 r0_121)⟩,
    ⟨r0_118, k0_pay96 (k0_pay90 (View.ld x1 r0_112)) (View.ld x3 r0_116) (View.ld x2 r0_116) (View.ld x0 r0_117)⟩,
    ⟨r0_115, k0_pay95 (k0_pay91 (View.ld x1 r0_112)) (k0_pay92 (View.ld x2 r0_113)) (k0_pay93 (View.ld x0 r0_114)) (k0_pay94 (View.ld x3 r0_113))⟩,
    ⟨r0_111, k0_pay88 (k0_pay87 (View.ld x1 r0_105)) (View.ld x3 r0_109) (View.ld x2 r0_109) (View.ld x0 r0_110)⟩,
    ⟨r0_108, k0_pay86 (View.ld x1 r0_105) (View.ld x3 r0_106) (View.ld x2 r0_106) (View.ld x0 r0_107)⟩,
    ⟨r0_104, k0_pay84 (k0_pay81 (View.ld x1 r0_98)) (k0_pay82 (View.ld x3 r0_102)) (k0_pay83 (View.ld x2 r0_102)) (View.ld x0 r0_103)⟩,
    ⟨r0_101, k0_pay80 (View.ld x1 r0_98) (View.ld x3 r0_99) (View.ld x2 r0_99) (View.ld x0 r0_100)⟩,
    ⟨r0_97, k0_pay78 (k0_pay77 (k0_pay75 (View.ld x1 r0_91)) (View.ld x3 r0_95) (View.ld x2 r0_95) (View.ld x0 r0_96))⟩,
    ⟨r0_94, k0_pay76 (k0_pay74 (View.ld x1 r0_91)) (View.ld x3 r0_92) (View.ld x2 r0_92) (View.ld x0 r0_93)⟩,
    ⟨r0_90, k0_pay72 (k0_pay68 (View.ld x1 r0_84)) (View.ld x3 r0_88) (View.ld x2 r0_88) (View.ld x0 r0_89)⟩,
    ⟨r0_87, k0_pay71 (k0_pay69 (View.ld x1 r0_84)) (k0_pay70 (View.ld x3 r0_85)) (View.ld x2 r0_85) (View.ld x0 r0_86)⟩,
    ⟨r0_83, k0_pay66 (k0_pay63 (View.ld x1 r0_77)) (View.ld x3 r0_81) (View.ld x2 r0_81) (View.ld x0 r0_82)⟩,
    ⟨r0_80, k0_pay65 (k0_pay64 (View.ld x1 r0_77) (View.ld x3 r0_78) (View.ld x2 r0_78) (View.ld x0 r0_79))⟩,
    ⟨r0_76, k0_pay61 (k0_pay60 (View.ld x1 r0_70)) (View.ld x3 r0_74) (View.ld x2 r0_74) (View.ld x0 r0_75)⟩,
    ⟨r0_73, k0_pay59 (View.ld x1 r0_70) (View.ld x3 r0_71) (View.ld x2 r0_71) (View.ld x0 r0_72)⟩,
    ⟨r0_69, k0_pay57 (k0_pay54 (View.ld x2 r0_67)) (k0_pay55 (View.ld x0 r0_68)) (k0_pay56 (View.ld x1 r0_63) (View.ld x3 r0_67))⟩,
    ⟨r0_66, k0_pay53 (View.ld x1 r0_63) (View.ld x3 r0_64) (View.ld x2 r0_64) (View.ld x0 r0_65)⟩,
    ⟨r0_62, k0_pay51 (k0_pay48 (View.ld x1 r0_56)) (View.ld x3 r0_60) (View.ld x2 r0_60) (View.ld x0 r0_61)⟩,
    ⟨r0_59, k0_pay50 (k0_pay49 (View.ld x1 r0_56)) (View.ld x3 r0_57) (View.ld x2 r0_57) (View.ld x0 r0_58)⟩,
    ⟨r0_55, k0_pay46 (k0_pay41 (View.ld x1 r0_49)) (View.ld x3 r0_53) (View.ld x2 r0_53) (View.ld x0 r0_54)⟩,
    ⟨r0_52, k0_pay45 (k0_pay42 (View.ld x1 r0_49)) (k0_pay43 (View.ld x3 r0_50)) (k0_pay44 (View.ld x2 r0_50)) (View.ld x0 r0_51)⟩,
    ⟨r0_48, k0_pay39 (k0_pay36 (View.ld x1 r0_42)) (View.ld x3 r0_46) (View.ld x2 r0_46) (View.ld x0 r0_47)⟩,
    ⟨r0_45, k0_pay38 (k0_pay37 (View.ld x1 r0_42) (View.ld x3 r0_43) (View.ld x2 r0_43) (View.ld x0 r0_44))⟩,
    ⟨r0_41, k0_pay34 (k0_pay32 (View.ld x1 r0_35)) (k0_pay33 (View.ld x3 r0_39)) (View.ld x2 r0_39) (View.ld x0 r0_40)⟩,
    ⟨r0_38, k0_pay31 (View.ld x1 r0_35) (View.ld x3 r0_36) (View.ld x2 r0_36) (View.ld x0 r0_37)⟩,
    ⟨r0_34, k0_pay29 (k0_pay28 (k0_pay25 (View.ld x1 r0_28)) (View.ld x3 r0_32) (View.ld x2 r0_32) (View.ld x0 r0_33))⟩,
    ⟨r0_31, k0_pay27 (k0_pay26 (View.ld x1 r0_28)) (View.ld x3 r0_29) (View.ld x2 r0_29) (View.ld x0 r0_30)⟩,
    ⟨r0_27, k0_pay24 (k0_pay20 (View.ld x1 r0_21)) (View.ld x3 r0_25) (View.ld x2 r0_25) (View.ld x0 r0_26)⟩,
    ⟨r0_24, k0_pay23 (k0_pay21 (View.ld x1 r0_21)) (k0_pay22 (View.ld x3 r0_22)) (View.ld x2 r0_22) (View.ld x0 r0_23)⟩,
    ⟨r0_20, k0_pay18 (k0_pay13 (View.ld x1 r0_14)) (View.ld x3 r0_18) (View.ld x2 r0_18) (View.ld x0 r0_19)⟩,
    ⟨r0_17, k0_pay17 (k0_pay14 (View.ld x0 r0_16)) (k0_pay15 (View.ld x1 r0_14) (View.ld x3 r0_15)) (k0_pay16 (View.ld x2 r0_15))⟩,
    ⟨r0_13, k0_pay11 (k0_pay10 (View.ld x1 r0_7)) (View.ld x3 r0_11) (View.ld x2 r0_11) (View.ld x0 r0_12)⟩,
    ⟨r0_10, k0_pay9 (View.ld x1 r0_7) (View.ld x3 r0_8) (View.ld x2 r0_8) (View.ld x0 r0_9)⟩,
    ⟨r0_6, k0_pay7 (k0_pay4 (View.ld x1 r0_0)) (k0_pay5 (View.ld x3 r0_4)) (k0_pay6 (View.ld x2 r0_4)) (View.ld x0 r0_5)⟩,
    ⟨r0_3, k0_pay3 (View.ld x1 r0_0) (View.ld x3 r0_1) (View.ld x2 r0_1) (View.ld x0 r0_2)⟩]

/-- Its stores tile the buffer (checked by evaluation), so they cover it. -/
theorem cover0_4 (p0 : Vec F S1x1x32x256 .bf16) (p1 : Vec F S1x1x32x256 .bf16) (p2 : Vec F S1x1x32x256 .bf16) (p3 : Vec F S1x1x32x256 .bf16) (p4 : Vec F S1x1x32x256 .bf16) (p5 : Vec F S1x1x32x256 .bf16) (p6 : Vec F S1x1x32x256 .bf16) (p7 : Vec F S1x1x32x256 .bf16) (p8 : Vec F S1x1x32x256 .bf16) (p9 : Vec F S1x1x32x256 .bf16) (p10 : Vec F S1x1x32x256 .bf16) (p11 : Vec F S1x1x32x256 .bf16) (p12 : Vec F S1x1x32x256 .bf16) (p13 : Vec F S1x1x32x256 .bf16) (p14 : Vec F S1x1x32x256 .bf16) (p15 : Vec F S1x1x32x256 .bf16) (p16 : Vec F S1x1x32x256 .bf16) (p17 : Vec F S1x1x32x256 .bf16) (p18 : Vec F S1x1x32x256 .bf16) (p19 : Vec F S1x1x32x256 .bf16) (p20 : Vec F S1x1x32x256 .bf16) (p21 : Vec F S1x1x32x256 .bf16) (p22 : Vec F S1x1x32x256 .bf16) (p23 : Vec F S1x1x32x256 .bf16) (p24 : Vec F S1x1x32x256 .bf16) (p25 : Vec F S1x1x32x256 .bf16) (p26 : Vec F S1x1x32x256 .bf16) (p27 : Vec F S1x1x32x256 .bf16) (p28 : Vec F S1x1x32x256 .bf16) (p29 : Vec F S1x1x32x256 .bf16) (p30 : Vec F S1x1x32x256 .bf16) (p31 : Vec F S1x1x32x256 .bf16) (p32 : Vec F S1x1x32x256 .bf16) (p33 : Vec F S1x1x32x256 .bf16) (p34 : Vec F S1x1x32x256 .bf16) (p35 : Vec F S1x1x32x256 .bf16) (p36 : Vec F S1x1x32x256 .bf16) (p37 : Vec F S1x1x32x256 .bf16) (p38 : Vec F S1x1x32x256 .bf16) (p39 : Vec F S1x1x32x256 .bf16) (p40 : Vec F S1x1x32x256 .bf16) (p41 : Vec F S1x1x32x256 .bf16) (p42 : Vec F S1x1x32x256 .bf16) (p43 : Vec F S1x1x32x256 .bf16) (p44 : Vec F S1x1x32x256 .bf16) (p45 : Vec F S1x1x32x256 .bf16) (p46 : Vec F S1x1x32x256 .bf16) (p47 : Vec F S1x1x32x256 .bf16) (p48 : Vec F S1x1x32x256 .bf16) (p49 : Vec F S1x1x32x256 .bf16) (p50 : Vec F S1x1x32x256 .bf16) (p51 : Vec F S1x1x32x256 .bf16) (p52 : Vec F S1x1x32x256 .bf16) (p53 : Vec F S1x1x32x256 .bf16) (p54 : Vec F S1x1x32x256 .bf16) (p55 : Vec F S1x1x32x256 .bf16) (p56 : Vec F S1x1x32x256 .bf16) (p57 : Vec F S1x1x32x256 .bf16) (p58 : Vec F S1x1x32x256 .bf16) (p59 : Vec F S1x1x32x256 .bf16) (p60 : Vec F S1x1x32x256 .bf16) (p61 : Vec F S1x1x32x256 .bf16) (p62 : Vec F S1x1x32x256 .bf16) (p63 : Vec F S1x1x32x256 .bf16) (p64 : Vec F S1x1x32x256 .bf16) (p65 : Vec F S1x1x32x256 .bf16) (p66 : Vec F S1x1x32x256 .bf16) (p67 : Vec F S1x1x32x256 .bf16) (p68 : Vec F S1x1x32x256 .bf16) (p69 : Vec F S1x1x32x256 .bf16) (p70 : Vec F S1x1x32x256 .bf16) (p71 : Vec F S1x1x32x256 .bf16) (p72 : Vec F S1x1x32x256 .bf16) (p73 : Vec F S1x1x32x256 .bf16) (p74 : Vec F S1x1x32x256 .bf16) (p75 : Vec F S1x1x32x256 .bf16) (p76 : Vec F S1x1x32x256 .bf16) (p77 : Vec F S1x1x32x256 .bf16) (p78 : Vec F S1x1x32x256 .bf16) (p79 : Vec F S1x1x32x256 .bf16) (p80 : Vec F S1x1x32x256 .bf16) (p81 : Vec F S1x1x32x256 .bf16) (p82 : Vec F S1x1x32x256 .bf16) (p83 : Vec F S1x1x32x256 .bf16) (p84 : Vec F S1x1x32x256 .bf16) (p85 : Vec F S1x1x32x256 .bf16) (p86 : Vec F S1x1x32x256 .bf16) (p87 : Vec F S1x1x32x256 .bf16) (p88 : Vec F S1x1x32x256 .bf16) (p89 : Vec F S1x1x32x256 .bf16) (p90 : Vec F S1x1x32x256 .bf16) (p91 : Vec F S1x1x32x256 .bf16) (p92 : Vec F S1x1x32x256 .bf16) (p93 : Vec F S1x1x32x256 .bf16) (p94 : Vec F S1x1x32x256 .bf16) (p95 : Vec F S1x1x32x256 .bf16) (p96 : Vec F S1x1x32x256 .bf16) (p97 : Vec F S1x1x32x256 .bf16) (p98 : Vec F S1x1x32x256 .bf16) (p99 : Vec F S1x1x32x256 .bf16) (p100 : Vec F S1x1x32x256 .bf16) (p101 : Vec F S1x1x32x256 .bf16) (p102 : Vec F S1x1x32x256 .bf16) (p103 : Vec F S1x1x32x256 .bf16) (p104 : Vec F S1x1x32x256 .bf16) (p105 : Vec F S1x1x32x256 .bf16) (p106 : Vec F S1x1x32x256 .bf16) (p107 : Vec F S1x1x32x256 .bf16) (p108 : Vec F S1x1x32x256 .bf16) (p109 : Vec F S1x1x32x256 .bf16) (p110 : Vec F S1x1x32x256 .bf16) (p111 : Vec F S1x1x32x256 .bf16) (p112 : Vec F S1x1x32x256 .bf16) (p113 : Vec F S1x1x32x256 .bf16) (p114 : Vec F S1x1x32x256 .bf16) (p115 : Vec F S1x1x32x256 .bf16) (p116 : Vec F S1x1x32x256 .bf16) (p117 : Vec F S1x1x32x256 .bf16) (p118 : Vec F S1x1x32x256 .bf16) (p119 : Vec F S1x1x32x256 .bf16) (p120 : Vec F S1x1x32x256 .bf16) (p121 : Vec F S1x1x32x256 .bf16) (p122 : Vec F S1x1x32x256 .bf16) (p123 : Vec F S1x1x32x256 .bf16) (p124 : Vec F S1x1x32x256 .bf16) (p125 : Vec F S1x1x32x256 .bf16) (p126 : Vec F S1x1x32x256 .bf16) (p127 : Vec F S1x1x32x256 .bf16) (y : S1x2x2048x256.Idx) :
    ∃ pc ∈ ([⟨r0_447, p0⟩, ⟨r0_444, p1⟩, ⟨r0_440, p2⟩, ⟨r0_437, p3⟩, ⟨r0_433, p4⟩, ⟨r0_430, p5⟩, ⟨r0_426, p6⟩, ⟨r0_423, p7⟩, ⟨r0_419, p8⟩, ⟨r0_416, p9⟩, ⟨r0_412, p10⟩, ⟨r0_409, p11⟩, ⟨r0_405, p12⟩, ⟨r0_402, p13⟩, ⟨r0_398, p14⟩, ⟨r0_395, p15⟩, ⟨r0_391, p16⟩, ⟨r0_388, p17⟩, ⟨r0_384, p18⟩, ⟨r0_381, p19⟩, ⟨r0_377, p20⟩, ⟨r0_374, p21⟩, ⟨r0_370, p22⟩, ⟨r0_367, p23⟩, ⟨r0_363, p24⟩, ⟨r0_360, p25⟩, ⟨r0_356, p26⟩, ⟨r0_353, p27⟩, ⟨r0_349, p28⟩, ⟨r0_346, p29⟩, ⟨r0_342, p30⟩, ⟨r0_339, p31⟩, ⟨r0_335, p32⟩, ⟨r0_332, p33⟩, ⟨r0_328, p34⟩, ⟨r0_325, p35⟩, ⟨r0_321, p36⟩, ⟨r0_318, p37⟩, ⟨r0_314, p38⟩, ⟨r0_311, p39⟩, ⟨r0_307, p40⟩, ⟨r0_304, p41⟩, ⟨r0_300, p42⟩, ⟨r0_297, p43⟩, ⟨r0_293, p44⟩, ⟨r0_290, p45⟩, ⟨r0_286, p46⟩, ⟨r0_283, p47⟩, ⟨r0_279, p48⟩, ⟨r0_276, p49⟩, ⟨r0_272, p50⟩, ⟨r0_269, p51⟩, ⟨r0_265, p52⟩, ⟨r0_262, p53⟩, ⟨r0_258, p54⟩, ⟨r0_255, p55⟩, ⟨r0_251, p56⟩, ⟨r0_248, p57⟩, ⟨r0_244, p58⟩, ⟨r0_241, p59⟩, ⟨r0_237, p60⟩, ⟨r0_234, p61⟩, ⟨r0_230, p62⟩, ⟨r0_227, p63⟩, ⟨r0_223, p64⟩, ⟨r0_220, p65⟩, ⟨r0_216, p66⟩, ⟨r0_213, p67⟩, ⟨r0_209, p68⟩, ⟨r0_206, p69⟩, ⟨r0_202, p70⟩, ⟨r0_199, p71⟩, ⟨r0_195, p72⟩, ⟨r0_192, p73⟩, ⟨r0_188, p74⟩, ⟨r0_185, p75⟩, ⟨r0_181, p76⟩, ⟨r0_178, p77⟩, ⟨r0_174, p78⟩, ⟨r0_171, p79⟩, ⟨r0_167, p80⟩, ⟨r0_164, p81⟩, ⟨r0_160, p82⟩, ⟨r0_157, p83⟩, ⟨r0_153, p84⟩, ⟨r0_150, p85⟩, ⟨r0_146, p86⟩, ⟨r0_143, p87⟩, ⟨r0_139, p88⟩, ⟨r0_136, p89⟩, ⟨r0_132, p90⟩, ⟨r0_129, p91⟩, ⟨r0_125, p92⟩, ⟨r0_122, p93⟩, ⟨r0_118, p94⟩, ⟨r0_115, p95⟩, ⟨r0_111, p96⟩, ⟨r0_108, p97⟩, ⟨r0_104, p98⟩, ⟨r0_101, p99⟩, ⟨r0_97, p100⟩, ⟨r0_94, p101⟩, ⟨r0_90, p102⟩, ⟨r0_87, p103⟩, ⟨r0_83, p104⟩, ⟨r0_80, p105⟩, ⟨r0_76, p106⟩, ⟨r0_73, p107⟩, ⟨r0_69, p108⟩, ⟨r0_66, p109⟩, ⟨r0_62, p110⟩, ⟨r0_59, p111⟩, ⟨r0_55, p112⟩, ⟨r0_52, p113⟩, ⟨r0_48, p114⟩, ⟨r0_45, p115⟩, ⟨r0_41, p116⟩, ⟨r0_38, p117⟩, ⟨r0_34, p118⟩, ⟨r0_31, p119⟩, ⟨r0_27, p120⟩, ⟨r0_24, p121⟩, ⟨r0_20, p122⟩, ⟨r0_17, p123⟩, ⟨r0_13, p124⟩, ⟨r0_10, p125⟩, ⟨r0_6, p126⟩, ⟨r0_3, p127⟩] : List (View.Piece (Elt F) S1x2x2048x256 .bf16)), y ∈ pc.1.set :=
  View.cover_of_tiled [⟨r0_447, p0⟩, ⟨r0_444, p1⟩, ⟨r0_440, p2⟩, ⟨r0_437, p3⟩, ⟨r0_433, p4⟩, ⟨r0_430, p5⟩, ⟨r0_426, p6⟩, ⟨r0_423, p7⟩, ⟨r0_419, p8⟩, ⟨r0_416, p9⟩, ⟨r0_412, p10⟩, ⟨r0_409, p11⟩, ⟨r0_405, p12⟩, ⟨r0_402, p13⟩, ⟨r0_398, p14⟩, ⟨r0_395, p15⟩, ⟨r0_391, p16⟩, ⟨r0_388, p17⟩, ⟨r0_384, p18⟩, ⟨r0_381, p19⟩, ⟨r0_377, p20⟩, ⟨r0_374, p21⟩, ⟨r0_370, p22⟩, ⟨r0_367, p23⟩, ⟨r0_363, p24⟩, ⟨r0_360, p25⟩, ⟨r0_356, p26⟩, ⟨r0_353, p27⟩, ⟨r0_349, p28⟩, ⟨r0_346, p29⟩, ⟨r0_342, p30⟩, ⟨r0_339, p31⟩, ⟨r0_335, p32⟩, ⟨r0_332, p33⟩, ⟨r0_328, p34⟩, ⟨r0_325, p35⟩, ⟨r0_321, p36⟩, ⟨r0_318, p37⟩, ⟨r0_314, p38⟩, ⟨r0_311, p39⟩, ⟨r0_307, p40⟩, ⟨r0_304, p41⟩, ⟨r0_300, p42⟩, ⟨r0_297, p43⟩, ⟨r0_293, p44⟩, ⟨r0_290, p45⟩, ⟨r0_286, p46⟩, ⟨r0_283, p47⟩, ⟨r0_279, p48⟩, ⟨r0_276, p49⟩, ⟨r0_272, p50⟩, ⟨r0_269, p51⟩, ⟨r0_265, p52⟩, ⟨r0_262, p53⟩, ⟨r0_258, p54⟩, ⟨r0_255, p55⟩, ⟨r0_251, p56⟩, ⟨r0_248, p57⟩, ⟨r0_244, p58⟩, ⟨r0_241, p59⟩, ⟨r0_237, p60⟩, ⟨r0_234, p61⟩, ⟨r0_230, p62⟩, ⟨r0_227, p63⟩, ⟨r0_223, p64⟩, ⟨r0_220, p65⟩, ⟨r0_216, p66⟩, ⟨r0_213, p67⟩, ⟨r0_209, p68⟩, ⟨r0_206, p69⟩, ⟨r0_202, p70⟩, ⟨r0_199, p71⟩, ⟨r0_195, p72⟩, ⟨r0_192, p73⟩, ⟨r0_188, p74⟩, ⟨r0_185, p75⟩, ⟨r0_181, p76⟩, ⟨r0_178, p77⟩, ⟨r0_174, p78⟩, ⟨r0_171, p79⟩, ⟨r0_167, p80⟩, ⟨r0_164, p81⟩, ⟨r0_160, p82⟩, ⟨r0_157, p83⟩, ⟨r0_153, p84⟩, ⟨r0_150, p85⟩, ⟨r0_146, p86⟩, ⟨r0_143, p87⟩, ⟨r0_139, p88⟩, ⟨r0_136, p89⟩, ⟨r0_132, p90⟩, ⟨r0_129, p91⟩, ⟨r0_125, p92⟩, ⟨r0_122, p93⟩, ⟨r0_118, p94⟩, ⟨r0_115, p95⟩, ⟨r0_111, p96⟩, ⟨r0_108, p97⟩, ⟨r0_104, p98⟩, ⟨r0_101, p99⟩, ⟨r0_97, p100⟩, ⟨r0_94, p101⟩, ⟨r0_90, p102⟩, ⟨r0_87, p103⟩, ⟨r0_83, p104⟩, ⟨r0_80, p105⟩, ⟨r0_76, p106⟩, ⟨r0_73, p107⟩, ⟨r0_69, p108⟩, ⟨r0_66, p109⟩, ⟨r0_62, p110⟩, ⟨r0_59, p111⟩, ⟨r0_55, p112⟩, ⟨r0_52, p113⟩, ⟨r0_48, p114⟩, ⟨r0_45, p115⟩, ⟨r0_41, p116⟩, ⟨r0_38, p117⟩, ⟨r0_34, p118⟩, ⟨r0_31, p119⟩, ⟨r0_27, p120⟩, ⟨r0_24, p121⟩, ⟨r0_20, p122⟩, ⟨r0_17, p123⟩, ⟨r0_13, p124⟩, ⟨r0_10, p125⟩, ⟨r0_6, p126⟩, ⟨r0_3, p127⟩] S1x1x32x256.size (by rfl) y

/-! ## The body's triple -/

set_option maxHeartbeats 3968000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2x2048x256 .bf16) (harg1 : arg1.IsWhole) (arg2 : Memref sig .tc .vmem S2048x256 .i8) (harg2 : arg2.IsWhole) (arg3 : Memref sig .tc .vmem S2x64x256 .bf16) (harg3 : arg3.IsWhole) (arg4 : Memref sig .tc .vmem S2x64x256 .bf16) (harg4 : arg4.IsWhole) (arg5 : Memref sig .tc .vmem S1x2x2048x256 .bf16) (harg5 : arg5.IsWhole)
    (x0 : Vec F S2x2048x256 .bf16) (x1 : Vec F S2048x256 .i8) (x2 : Vec F S2x64x256 .bf16) (x3 : Vec F S2x64x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_weight_error i arg1 harg1 arg2 harg2 arg3 harg3 arg4 harg4 arg5 harg5) K := by
  simp only [cc0_weight_error_eq_skeleton]; unfold cc0_weight_error_skel
  simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part79_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Err

end
-- ==== Proof.Kernel.Fit.lean ====
/- The body of the fit kernel at one grid point, as a map from what its buffers hold to what they hold afterwards. -/
module

public import proofs.«01_k».proof.Proof.Gen.Kernel.Skeleton
public import proofs.«01_k».proof.Proof.Gen.Kernel.Points
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `k` of the accumulator of the bias gradient. -/
def getRow (d : Vec F S43x64x256 .f32) (k : Fin 43) : Vec F S1x64x256 .f32 :=
  fun y => d (ix3 k (y 1) (y 2))

/-- Row `k` of the accumulator of the bias gradient replaced by `v`, every other row as in `d`. -/
def setRow (d : Vec F S43x64x256 .f32) (k : Fin 43) (v : Vec F S1x64x256 .f32) : Vec F S43x64x256 .f32 :=
  fun y => if (y 0).val = k.val then v (ix3 (0 : Fin 1) (y 1) (y 2)) else d y

/-- What the buffer of `x·a` holds after the body: computed at the first column of a row of the grid, else kept. -/
def fitPb (i : grid1.Coords) (x : Vec F S1024x4096 .bf16) (a : Vec F S4096x64 .bf16) (pb : Vec F S1024x64 .bf16) : Vec F S1024x64 .bf16 :=
  if (i 1).val = 0 then k1_pay12 x a else pb
/-- The same for the buffer of its transpose. -/
def fitPbt (i : grid1.Coords) (x : Vec F S1024x4096 .bf16) (a : Vec F S4096x64 .bf16) (pbt : Vec F S64x1024 .bf16) : Vec F S64x1024 .bf16 :=
  if (i 1).val = 0 then k1_pay13 x a else pbt
/-- The folded squares after the body: restarted at the first column, then the point's squares added. -/
def fitSq (i : grid1.Coords) (x : Vec F S1024x4096 .bf16) (e : Vec F S1x4096x256 .bf16) (a : Vec F S4096x64 .bf16) (b : Vec F S1x64x256 .bf16)
    (pb : Vec F S1024x64 .bf16) (sq : Vec F S1024x128 .f32) : Vec F S1024x128 .f32 :=
  k1_pay18 b x e (fitPb i x a pb) (if (i 1).val = 0 then k1_pay15 else sq)
/-- The transposed gradient accumulator after the body: restarted at the first column, then the point's product added. -/
def fitGt (i : grid1.Coords) (x : Vec F S1024x4096 .bf16) (e : Vec F S1x4096x256 .bf16) (a : Vec F S4096x64 .bf16) (b : Vec F S1x64x256 .bf16)
    (pb : Vec F S1024x64 .bf16) (gt : Vec F S64x1024 .f32) : Vec F S64x1024 .f32 :=
  k1_pay20 b x e (fitPb i x a pb) (if (i 1).val = 0 then k1_pay14 else gt)
/-- The bias gradient accumulator after the body: the point's row set in the grid's first row, added to in the later ones. -/
def fitDb (i : grid1.Coords) (x : Vec F S1024x4096 .bf16) (e : Vec F S1x4096x256 .bf16) (a : Vec F S4096x64 .bf16) (b : Vec F S1x64x256 .bf16)
    (pb : Vec F S1024x64 .bf16) (pbt : Vec F S64x1024 .bf16) (db : Vec F S43x64x256 .f32) : Vec F S43x64x256 .f32 :=
  setRow db (i 1) (if (i 0).val = 0 then k1_pay2 (k1_pay19 b x e (fitPb i x a pb)) (fitPbt i x a pbt)
    else k1_pay3 (k1_pay19 b x e (fitPb i x a pb)) (fitPbt i x a pbt) (getRow db (i 1)))
/-- The factor gradient accumulator after the body: it moves at the last column of a row only. -/
def fitDa (i : grid1.Coords) (x : Vec F S1024x4096 .bf16) (gt : Vec F S64x1024 .f32) (da : Vec F S64x4096 .f32) : Vec F S64x4096 .f32 :=
  if (i 1).val = 42 then (if (i 0).val = 0 then k1_pay7 gt x else k1_pay8 gt x da) else da
/-- The loss block after the body: written at the last column of a row only. -/
def fitLoss (i : grid1.Coords) (o : Vec F S1x1x1024 .f32) (sq : Vec F S1024x128 .f32) : Vec F S1x1x1024 .f32 :=
  if (i 1).val = 42 then k1_pay5 sq else o
/-- The gradient block after the body: written at the last column of a row only. -/
def fitG (i : grid1.Coords) (o : Vec F S1024x64 .f32) (gt : Vec F S64x1024 .f32) : Vec F S1024x64 .f32 :=
  if (i 1).val = 42 then k1_pay4 gt else o
/-- The factor gradient's block after the body: written at the grid's last point only. -/
def fitOa (i : grid1.Coords) (o : Vec F S4096x64 .f32) (da : Vec F S64x4096 .f32) : Vec F S4096x64 .f32 :=
  if (i 1).val = 42 ∧ (i 0).val = 19 then k1_pay9 da else o
/-- The bias gradient's block after the body: written at the grid's last point only. -/
def fitOb (i : grid1.Coords) (o : Vec F S43x64x256 .f32) (db : Vec F S43x64x256 .f32) : Vec F S43x64x256 .f32 :=
  if (i 1).val = 42 ∧ (i 0).val = 19 then k1_pay10 db else o

/-- The kernel's test `j = 0`. -/
theorem cond1_iff (i : grid1.Coords) :
    (Scalar.cmpi .ne (Scalar.extui (Scalar.cmpi .eq (BitVec.ofNat 32 (i 1).val) 0#32) : BitVec 32) 0#32 : BitVec 1) = 1#1 ↔ (i 1).val = 0 :=
  (by decide : ∀ n : Fin 43, (Scalar.cmpi .ne (Scalar.extui (Scalar.cmpi .eq (BitVec.ofNat 32 n.val) 0#32) : BitVec 32) 0#32 : BitVec 1) = 1#1 ↔ n.val = 0) (i 1)
/-- The kernel's test `i = 0`. -/
theorem cond2_iff (i : grid1.Coords) :
    (Scalar.cmpi .ne (Scalar.extui (Scalar.cmpi .eq (BitVec.ofNat 32 (i 0).val) 0#32) : BitVec 32) 0#32 : BitVec 1) = 1#1 ↔ (i 0).val = 0 :=
  (by decide : ∀ n : Fin 20, (Scalar.cmpi .ne (Scalar.extui (Scalar.cmpi .eq (BitVec.ofNat 32 n.val) 0#32) : BitVec 32) 0#32 : BitVec 1) = 1#1 ↔ n.val = 0) (i 0)
/-- The kernel's test `i > 0`. -/
theorem cond3_iff (i : grid1.Coords) :
    (Scalar.cmpi .ne (Scalar.extui (Scalar.cmpi .sgt (BitVec.ofNat 32 (i 0).val) 0#32) : BitVec 32) 0#32 : BitVec 1) = 1#1 ↔ ¬(i 0).val = 0 :=
  (by decide : ∀ n : Fin 20, (Scalar.cmpi .ne (Scalar.extui (Scalar.cmpi .sgt (BitVec.ofNat 32 n.val) 0#32) : BitVec 32) 0#32 : BitVec 1) = 1#1 ↔ ¬n.val = 0) (i 0)
/-- The kernel's test `j = 42`. -/
theorem cond4_iff (i : grid1.Coords) : k1_cond4 i = 1#1 ↔ (i 1).val = 42 :=
  (by decide : ∀ n : Fin 43, (Scalar.cmpi .ne (Scalar.extui (Scalar.cmpi .eq (BitVec.ofNat 32 n.val) 42#32) : BitVec 32) 0#32 : BitVec 1) = 1#1 ↔ n.val = 42) (i 1)
/-- The kernel's test `i = 19`. -/
theorem cond7_iff (i : grid1.Coords) : k1_cond7 i = 1#1 ↔ (i 0).val = 19 :=
  (by decide : ∀ n : Fin 20, (Scalar.cmpi .ne (Scalar.extui (Scalar.cmpi .eq (BitVec.ofNat 32 n.val) 19#32) : BitVec 32) 0#32 : BitVec 1) = 1#1 ↔ n.val = 19) (i 0)
/-- The offsets of the point's row of the bias gradient accumulator. -/
theorem off_eq (i : grid1.Coords) : k1_off1 i = ![(i 1).val, 0, 0] :=
  congrArg (fun n : ℕ => (![n, 0, 0] : Fin 3 → ℕ))
    ((by decide : ∀ n : Fin 43, (Scalar.indexCast (BitVec.ofNat 32 n.val) : Index).toNat = n.val) (i 1))

/-- The offsets of the point's row of the bias gradient accumulator. -/
theorem off_eq2 (i : grid1.Coords) : k1_off2 i = ![(i 1).val, 0, 0] :=
  congrArg (fun n : ℕ => (![n, 0, 0] : Fin 3 → ℕ))
    ((by decide : ∀ n : Fin 43, (Scalar.indexCast (BitVec.ofNat 32 n.val) : Index).toNat = n.val) (i 1))

/-- A load of the whole buffer reads what the buffer holds. -/
theorem load_whole {S : Shape} {t : EltTy} (m : Memref sig .tc .vmem S t) (f : m.view.ty.Contents (Elt F)) {off : Fin S.rank → ℕ}
    (inb : ∀ a, off a + (no_index S.size) a ≤ S.size a) :
    m.view.readAt (Elt F) (Rect.unit (s := S) off (no_index S.size) inb).toLoadRect f = m.view.read (Elt F) f :=
  View.readAt_full m.view f inb

/-- A store of the whole buffer leaves what was stored. -/
theorem store_whole {S : Shape} {t : EltTy} (m : Memref sig .tc .vmem S t) (f : m.view.ty.Contents (Elt F)) {off : Fin S.rank → ℕ}
    (inb : ∀ a, off a + (no_index S.size) a ≤ S.size a) (w : S.Idx → Elt F t) (L : List (View.Piece (Elt F) S t)) :
    m.view.read (Elt F) (m.view.writes (Elt F) f ((⟨Rect.unit (s := S) off (no_index S.size) inb, w⟩ : View.Piece (Elt F) S t) :: L)) = w := by
  funext y
  have h0 : off = fun _ => 0 := funext fun a => by have := inb a; omega
  exact View.read_writes_cons_unit_of_mem m.view f inb w L y y h0 fun a => (Nat.zero_add _).symm

/-- A load of the whole buffer after a store of the whole buffer reads what was stored. -/
theorem cov_whole {S : Shape} {t : EltTy} (m : Memref sig .tc .vmem S t) {off off' : Fin S.rank → ℕ}
    (inb : ∀ a, off a + (no_index S.size) a ≤ S.size a) (inb' : ∀ a, off' a + (no_index S.size) a ≤ S.size a) (w : S.Idx → Elt F t)
    (L : List (View.Piece (Elt F) S t)) :
    m.view.readCov ((⟨Rect.unit (s := S) off (no_index S.size) inb, w⟩ : View.Piece (Elt F) S t) :: L)
      (Rect.unit (s := S) off' (no_index S.size) inb').toLoadRect = w :=
  have h0 : off = fun _ => 0 := funext fun a => by have := inb a; omega
  have h0' : off' = fun _ => 0 := funext fun a => by have := inb' a; omega
  View.readCov_cons_unit_lit' m.view inb inb' w L (fun a => congrFun h0 a) (fun a => congrFun h0' a)

section Rows
variable {sg : RefSig} {Val : EltTy → Type} {t : EltTy} {n0 n1 n2 : ℕ}
/-- A store of one row of a rank-3 buffer, read back: the row's elements under the row, the former contents elsewhere. -/
theorem read_store_row3 (v : View sg .tc .vmem ⟨3, ![n0, n1, n2]⟩ t) (f : v.ty.Contents Val) (k : Fin n0)
    {off : Fin 3 → ℕ} (ho : off = ![k.val, 0, 0]) (inb : ∀ a, off a + (![1, n1, n2] : Fin 3 → ℕ) a ≤ (![n0, n1, n2] : Fin 3 → ℕ) a)
    (w : (⟨3, ![1, n1, n2]⟩ : Shape).Idx → Val t) (y : (⟨3, ![n0, n1, n2]⟩ : Shape).Idx) :
    v.read Val (v.writes Val f [⟨Rect.unit (s := ⟨3, ![n0, n1, n2]⟩) off ![1, n1, n2] inb, w⟩]) y
      = if (y 0).val = k.val then w (ix3 (0 : Fin 1) (y 1) (y 2)) else v.read Val f y := by
  split
  · rename_i h
    refine View.read_writes_cons_unit_of_mem v f (off' := ![k.val, 0, 0]) inb w [] y (ix3 (0 : Fin 1) (y 1) (y 2)) ho fun a => ?_
    revert a
    rw [Fin.forall_fin_succ, Fin.forall_fin_succ, Fin.forall_fin_succ]
    exact ⟨h, (Nat.zero_add _).symm, (Nat.zero_add _).symm, fun a => a.elim0⟩
  · rename_i h
    refine View.read_writes_cons_unit_of_not_mem v f (off' := ![k.val, 0, 0]) inb w [] y ho 0 ?_
    show (y 0).val < k.val ∨ k.val + 1 ≤ (y 0).val
    omega

/-- A load of one row of a rank-3 buffer. -/
theorem load_row3 (v : View sg .tc .vmem ⟨3, ![n0, n1, n2]⟩ t) (f : v.ty.Contents Val) (k : Fin n0)
    {off : Fin 3 → ℕ} (ho : off = ![k.val, 0, 0]) (inb : ∀ a, off a + (![1, n1, n2] : Fin 3 → ℕ) a ≤ (![n0, n1, n2] : Fin 3 → ℕ) a)
    (y : (⟨3, ![1, n1, n2]⟩ : Shape).Idx) :
    v.readAt Val (Rect.unit (s := ⟨3, ![n0, n1, n2]⟩) off ![1, n1, n2] inb).toLoadRect f y
      = v.read Val f (ix3 k (y 1) (y 2)) := by
  subst ho
  refine congrArg (v.read Val f) (funext fun a => Fin.ext ?_)
  revert a
  rw [Fin.forall_fin_succ, Fin.forall_fin_succ, Fin.forall_fin_succ]
  refine ⟨?_, ?_, ?_, fun a => a.elim0⟩
  · show k.val + 1 * (y 0).val = k.val
    have : (y 0).val < 1 := (y 0).isLt
    omega
  · show 0 + 1 * (y 1).val = (y 1).val; omega
  · show 0 + 1 * (y 2).val = (y 2).val; omega
end Rows

/-- Storing the point's row of the bias gradient accumulator leaves `setRow`. -/
theorem read_store_row (m : Memref sig .tc .vmem S43x64x256 .f32) (f : m.view.ty.Contents (Elt F)) (k : Fin 43) {off : Fin 3 → ℕ}
    (ho : off = ![k.val, 0, 0]) (inb : ∀ a, off a + (![1, 64, 256] : Fin 3 → ℕ) a ≤ (![43, 64, 256] : Fin 3 → ℕ) a)
    (w : Vec F S1x64x256 .f32) :
    m.view.read (Elt F) (m.view.writes (Elt F) f [⟨Rect.unit (s := S43x64x256) off ![1, 64, 256] inb, w⟩]) = setRow (m.view.read (Elt F) f) k w :=
  funext fun y => read_store_row3 m.view f k ho inb w y

/-- Loading it reads `getRow`. -/
theorem load_row (m : Memref sig .tc .vmem S43x64x256 .f32) (f : m.view.ty.Contents (Elt F)) (k : Fin 43) {off : Fin 3 → ℕ}
    (ho : off = ![k.val, 0, 0]) (inb : ∀ a, off a + (![1, 64, 256] : Fin 3 → ℕ) a ≤ (![43, 64, 256] : Fin 3 → ℕ) a) :
    m.view.readAt (Elt F) (Rect.unit (s := S43x64x256) off ![1, 64, 256] inb).toLoadRect f = getRow (m.view.read (Elt F) f) k :=
  funext fun y => load_row3 m.view f k ho inb y

end Cert.Kernel.Fit

end
-- ==== Proof.Kernel.FitA.lean ====
/- The body of the fit kernel at one grid point, case by case of the conditions it tests. -/
module

public import proofs.«01_k».proof.Proof.Kernel.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 0`, `i = 0`. -/
theorem fit_case1 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : (i 1).val = 0) (hi0 : (i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : (Scalar.cmpi .ne (Scalar.extui (Scalar.cmpi .eq (BitVec.ofNat 32 (i 1).val) 0#32) : BitVec 32) 0#32 : BitVec 1) = 1#1 := (cond1_iff i).mpr hj0
  have h2 : k1_cond2 i = 1#1 := (cond2_iff i).mpr hi0
  have h3 : ¬k1_cond3 i = 1#1 := fun h => (cond3_iff i).mp h hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; (try sl_unfold_run_names); unfold fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H9]
  · iexists _; isplitr; swap; · iexact H9
    ipureintro; (try sl_unfold_run_names); unfold fitPbt; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H10]
  · iexists _; isplitr; swap; · iexact H10
    ipureintro; (try sl_unfold_run_names); unfold fitSq fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_pos hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `j = 0`, `i > 0`. -/
theorem fit_case2 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : (i 1).val = 0) (hi0 : ¬(i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : (Scalar.cmpi .ne (Scalar.extui (Scalar.cmpi .eq (BitVec.ofNat 32 (i 1).val) 0#32) : BitVec 32) 0#32 : BitVec 1) = 1#1 := (cond1_iff i).mpr hj0
  have h2 : ¬k1_cond2 i = 1#1 := fun h => hi0 ((cond2_iff i).mp h)
  have h3 : k1_cond3 i = 1#1 := (cond3_iff i).mpr hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; (try sl_unfold_run_names); unfold fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H9]
  · iexists _; isplitr; swap; · iexact H9
    ipureintro; (try sl_unfold_run_names); unfold fitPbt; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H10]
  · iexists _; isplitr; swap; · iexact H10
    ipureintro; (try sl_unfold_run_names); unfold fitSq fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_pos hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.Kernel.Fit

end
-- ==== Proof.Kernel.FitB.lean ====
/- The body of the fit kernel at one grid point, case by case of the conditions it tests. -/
module

public import proofs.«01_k».proof.Proof.Kernel.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `0 < j < 42`, `i = 0`. -/
theorem fit_case3 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : (i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : k1_cond2 i = 1#1 := (cond2_iff i).mpr hi0
  have h3 : ¬k1_cond3 i = 1#1 := fun h => (cond3_iff i).mp h hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_neg hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `0 < j < 42`, `i > 0`. -/
theorem fit_case4 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.Kernel.Fit

end
-- ==== Proof.Kernel.FitC.lean ====
/- The body of the fit kernel at one grid point, case by case of the conditions it tests. -/
module

public import proofs.«01_k».proof.Proof.Kernel.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 42`, `i = 0`. -/
theorem fit_case5 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : (i 0).val = 0) (hj42 : (i 1).val = 42) (hi19 : ¬(i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : k1_cond2 i = 1#1 := (cond2_iff i).mpr hi0
  have h3 : ¬k1_cond3 i = 1#1 := fun h => (cond3_iff i).mp h hi0
  have h4 : k1_cond4 i = 1#1 := (cond4_iff i).mpr hj42
  have h5 : (Scalar.cmpi .ne (Scalar.extui (Scalar.cmpi .eq (BitVec.ofNat 32 (i 0).val) 0#32) : BitVec 32) 0#32 : BitVec 1) = 1#1 := (cond2_iff i).mpr hi0
  have h6 : ¬(Scalar.cmpi .ne (Scalar.extui (Scalar.cmpi .sgt (BitVec.ofNat 32 (i 0).val) 0#32) : BitVec 32) 0#32 : BitVec 1) = 1#1 := fun h => (cond3_iff i).mp h hi0
  have h7 : ¬k1_cond7 i = 1#1 := fun h => hi19 ((cond7_iff i).mp h)
  have hlast : ¬((i 1).val = 42 ∧ (i 0).val = 19) := fun h => hi19 h.2
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_pos hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `j = 42`, `0 < i < 19`. -/
theorem fit_case6 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : (i 1).val = 42) (hi19 : ¬(i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : k1_cond4 i = 1#1 := (cond4_iff i).mpr hj42
  have h5 : ¬(Scalar.cmpi .ne (Scalar.extui (Scalar.cmpi .eq (BitVec.ofNat 32 (i 0).val) 0#32) : BitVec 32) 0#32 : BitVec 1) = 1#1 := fun h => hi0 ((cond2_iff i).mp h)
  have h6 : (Scalar.cmpi .ne (Scalar.extui (Scalar.cmpi .sgt (BitVec.ofNat 32 (i 0).val) 0#32) : BitVec 32) 0#32 : BitVec 1) = 1#1 := (cond3_iff i).mpr hi0
  have h7 : ¬k1_cond7 i = 1#1 := fun h => hi19 ((cond7_iff i).mp h)
  have hlast : ¬((i 1).val = 42 ∧ (i 0).val = 19) := fun h => hi19 h.2
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_neg hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.Kernel.Fit

end
-- ==== Proof.Kernel.FitD.lean ====
/- The body of the fit kernel at one grid point, case by case of the conditions it tests. -/
module

public import proofs.«01_k».proof.Proof.Kernel.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 42`, `i = 19`. -/
theorem fit_case7 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : (i 1).val = 42) (hi19 : (i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : k1_cond4 i = 1#1 := (cond4_iff i).mpr hj42
  have h5 : ¬(Scalar.cmpi .ne (Scalar.extui (Scalar.cmpi .eq (BitVec.ofNat 32 (i 0).val) 0#32) : BitVec 32) 0#32 : BitVec 1) = 1#1 := fun h => hi0 ((cond2_iff i).mp h)
  have h6 : (Scalar.cmpi .ne (Scalar.extui (Scalar.cmpi .sgt (BitVec.ofNat 32 (i 0).val) 0#32) : BitVec 32) 0#32 : BitVec 1) = 1#1 := (cond3_iff i).mpr hi0
  have h7 : k1_cond7 i = 1#1 := (cond7_iff i).mpr hi19
  have hlast : ((i 1).val = 42 ∧ (i 0).val = 19) := ⟨hj42, hi19⟩
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; (try sl_unfold_run_names); unfold fitOa fitDa fitGt fitPb; simp only [if_neg hj0, if_neg hi0, if_pos hj42, if_pos hlast, load_whole, store_whole, cov_whole, load_row _ _ (i 1) (off_eq i), read_store_row _ _ (i 1) (off_eq i), load_row _ _ (i 1) (off_eq2 i), read_store_row _ _ (i 1) (off_eq2 i), Memref.IsWhole.read_unread]
  isplitl [H7]
  · iexists _; isplitr; swap; · iexact H7
    ipureintro; (try sl_unfold_run_names); unfold fitOb fitDb fitPb fitPbt; simp only [if_neg hj0, if_neg hi0, if_pos hlast, load_whole, store_whole, cov_whole, load_row _ _ (i 1) (off_eq i), read_store_row _ _ (i 1) (off_eq i), load_row _ _ (i 1) (off_eq2 i), read_store_row _ _ (i 1) (off_eq2 i), Memref.IsWhole.read_unread]
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_neg hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.Kernel.Fit

end
-- ==== Proof.Kernel.FitRun.lean ====
/- The second kernel of the program (the fit step): its state over the grid, the invariant between points, and its obligation at every point. -/
module

public import proofs.«01_k».proof.Proof.Kernel.FitA
public import proofs.«01_k».proof.Proof.Kernel.FitB
public import proofs.«01_k».proof.Proof.Kernel.FitC
public import proofs.«01_k».proof.Proof.Kernel.FitD
public import proofs.«01_k».proof.Proof.Gen.Kernel.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Fit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any grid point: every buffer it touches goes from what it holds to the corresponding `fit…` of that. -/
theorem sound_fit (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  by_cases hj0 : (i 1).val = 0
  · have hj42 : ¬(i 1).val = 42 := by omega
    by_cases hi0 : (i 0).val = 0
    · exact fit_case1 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
    · exact fit_case2 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
  · by_cases hj42 : (i 1).val = 42
    · by_cases hi0 : (i 0).val = 0
      · exact fit_case5 c i (hj0 := hj0) (hi0 := hi0) (hj42 := hj42) (hi19 := by omega) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
      · by_cases hi19 : (i 0).val = 19
        · exact fit_case7 c i (hj0 := hj0) (hi0 := hi0) (hj42 := hj42) (hi19 := hi19) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
        · exact fit_case6 c i (hj0 := hj0) (hi0 := hi0) (hj42 := hj42) (hi19 := hi19) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
    · by_cases hi0 : (i 0).val = 0
      · exact fit_case3 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
      · exact fit_case4 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db

/-- What the six scratch buffers hold: `x·a`, its transpose, the folded squares, the transposed gradient, the factor gradient, the bias gradient. -/
structure St (F : FTy → Type) [FloatOps F] where
  pb : Vec F S1024x64 .bf16
  pbt : Vec F S64x1024 .bf16
  sq : Vec F S1024x128 .f32
  gt : Vec F S64x1024 .f32
  da : Vec F S64x4096 .f32
  db : Vec F S43x64x256 .f32

/-- One point of the grid, on the scratch buffers, from the point's coordinates and blocks. -/
def stepSt (i : grid1.Coords) (x : Vec F S1024x4096 .bf16) (e : Vec F S1x4096x256 .bf16) (a : Vec F S4096x64 .bf16) (b : Vec F S1x64x256 .bf16) (s : St F) : St F :=
  ⟨fitPb i x a s.pb, fitPbt i x a s.pbt, fitSq i x e a b s.pb s.sq, fitGt i x e a b s.pb s.gt, fitDa i x (fitGt i x e a b s.pb s.gt) s.da, fitDb i x e a b s.pb s.pbt s.db⟩

/-- Two states agree as far as a point before which `n` points have run may read: within a row of the grid on what the
    row's first point set; after the first row on the factor gradient; on the rows of the bias gradient already set. -/
def Agree (n : ℕ) (s s' : St F) : Prop :=
  (n % 43 ≠ 0 → s.pb = s'.pb ∧ s.pbt = s'.pbt ∧ s.sq = s'.sq ∧ s.gt = s'.gt) ∧ (43 ≤ n → s.da = s'.da)
    ∧ (∀ y : S43x64x256.Idx, (y 0).val < n % 43 ∨ 43 ≤ n → s.db y = s'.db y)

theorem agree_zero (s s' : St F) : Agree 0 s s' :=
  ⟨fun h => absurd rfl h, fun h => absurd h (by decide), fun y h => absurd h (by omega)⟩

/-- One point takes states that agree to states that agree on everything the point's row of the grid has set. -/
theorem step_agree {n : ℕ} (hn : n < 860) (i : grid1.Coords) (h0 : (i 0).val = n / 43) (h1 : (i 1).val = n % 43)
    (x : Vec F S1024x4096 .bf16) (e : Vec F S1x4096x256 .bf16) (a : Vec F S4096x64 .bf16) (b : Vec F S1x64x256 .bf16) {s s' : St F} (h : Agree n s s') :
    ((stepSt i x e a b s).pb = (stepSt i x e a b s').pb ∧ (stepSt i x e a b s).pbt = (stepSt i x e a b s').pbt
      ∧ (stepSt i x e a b s).sq = (stepSt i x e a b s').sq ∧ (stepSt i x e a b s).gt = (stepSt i x e a b s').gt)
    ∧ (42 ≤ n → (stepSt i x e a b s).da = (stepSt i x e a b s').da)
    ∧ (∀ y : S43x64x256.Idx, (y 0).val ≤ n % 43 ∨ 43 ≤ n → (stepSt i x e a b s).db y = (stepSt i x e a b s').db y) := by
  obtain ⟨hrow, hda, hdb⟩ := h
  have e1 : fitPb i x a s.pb = fitPb i x a s'.pb := by
    unfold fitPb; split
    · rfl
    · rename_i hh; exact (hrow (by omega)).1
  have e2 : fitPbt i x a s.pbt = fitPbt i x a s'.pbt := by
    unfold fitPbt; split
    · rfl
    · rename_i hh; exact (hrow (by omega)).2.1
  have e3 : fitSq i x e a b s.pb s.sq = fitSq i x e a b s'.pb s'.sq := by
    unfold fitSq; rw [e1]; split
    · rfl
    · rename_i hh; rw [(hrow (by omega)).2.2.1]
  have e4 : fitGt i x e a b s.pb s.gt = fitGt i x e a b s'.pb s'.gt := by
    unfold fitGt; rw [e1]; split
    · rfl
    · rename_i hh; rw [(hrow (by omega)).2.2.2]
  refine ⟨⟨e1, e2, e3, e4⟩, fun hn42 => ?_, fun y hy => ?_⟩
  · show fitDa i x (fitGt i x e a b s.pb s.gt) s.da = fitDa i x (fitGt i x e a b s'.pb s'.gt) s'.da
    rw [e4]; unfold fitDa; split
    · split
      · rfl
      · rename_i _ hh; rw [hda (by omega)]
    · rename_i hh; exact hda (by omega)
  · show fitDb i x e a b s.pb s.pbt s.db y = fitDb i x e a b s'.pb s'.pbt s'.db y
    unfold fitDb; rw [e1, e2]; unfold setRow; split
    · split
      · rfl
      · rename_i _ hh
        have hg : getRow s.db (i 1) = getRow s'.db (i 1) := funext fun z => hdb _ (Or.inr (by omega))
        rw [hg]
    · rename_i hh
      exact hdb y (by omega)

/-- Before a grid point the next agreement follows from what the point leaves. -/
theorem step_agree' {n : ℕ} (hn : n < 860) (i : grid1.Coords) (h0 : (i 0).val = n / 43) (h1 : (i 1).val = n % 43)
    (x : Vec F S1024x4096 .bf16) (e : Vec F S1x4096x256 .bf16) (a : Vec F S4096x64 .bf16) (b : Vec F S1x64x256 .bf16) {s s' : St F} (h : Agree n s s') :
    Agree (n + 1) (stepSt i x e a b s) (stepSt i x e a b s') := by
  obtain ⟨p1, p2, p3⟩ := step_agree hn i h0 h1 x e a b h
  exact ⟨fun _ => p1, fun h => p2 (by omega), fun y h => p3 y (by have hy : (y 0).val < 43 := (y 0).isLt; omega)⟩

theorem N1 : cfg1.N = 860 := rfl

/-- A point's first coordinate. -/
theorem coord0 (t : Fin cfg1.N) : ((grid1.coords t) 0).val = t.val / 43 := by
  have h := Pipeline.Grid.coords_val (G := grid1) t 0 (S := 43) (B := 20) (by decide) rfl
  have ht : t.val < 860 := t.isLt
  omega
/-- A point's second coordinate. -/
theorem coord1 (t : Fin cfg1.N) : ((grid1.coords t) 1).val = t.val % 43 := by
  have h := Pipeline.Grid.coords_val (G := grid1) t 1 (S := 1) (B := 43) (by decide) rfl
  omega

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S43x64x256 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S1024x64 .bf16 := Memref.whole cc1_scratch0
abbrev scM1_1 : Memref sig .tc .vmem S64x1024 .bf16 := Memref.whole cc1_scratch1
abbrev scM1_2 : Memref sig .tc .vmem S1024x128 .f32 := Memref.whole cc1_scratch2
abbrev scM1_3 : Memref sig .tc .vmem S64x1024 .f32 := Memref.whole cc1_scratch3
abbrev scM1_4 : Memref sig .tc .vmem S64x4096 .f32 := Memref.whole cc1_scratch4
abbrev scM1_5 : Memref sig .tc .vmem S43x64x256 .f32 := Memref.whole cc1_scratch5

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ (∃ r, prngReg c r)) := by
  unfold Pipeline.ΦA; rw [scopedRest1_eq]; simp only [scM1_0, scM1_1, scM1_2, scM1_3, scM1_4, scM1_5, owns_whole]; try rfl

/-- Some state, for the points' recursion to start from: what it starts from is never read. -/
def st0 : St F := ⟨fun _ => Scalar.ofBits .bf16 0x0000#16, fun _ => Scalar.ofBits .bf16 0x0000#16, fun _ => Scalar.ofBits .f32 0x00000000#32, fun _ => Scalar.ofBits .f32 0x00000000#32, fun _ => Scalar.ofBits .f32 0x00000000#32, fun _ => Scalar.ofBits .f32 0x00000000#32⟩

/-- Point `t` on the scratch buffers. -/
def stepAt (c : Dev nD) (t : Fin cfg1.N) (s : St F) : St F :=
  stepSt (grid1.coords t) (iblk1 V c 0 t) (iblk1 V c 1 t) (iblk1 V c 2 t) (iblk1 V c 3 t) s

/-- The scratch buffers after the first `n` points. -/
def st (c : Dev nD) : ℕ → St F
  | 0 => st0
  | n + 1 => if h : n < cfg1.N then stepAt V c ⟨n, h⟩ (st c n) else st c n

theorem st_succ (c : Dev nD) (t : Fin cfg1.N) : st V c (t.val + 1) = stepAt V c t (st V c t.val) := by
  rw [st, dif_pos t.isLt]

/-- The buffers of the region's own that the body never touches. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The six scratch buffers held at a state. -/
def heldSt (c : Dev nD) (s : St F) : sProp 𝕄 :=
  iprop(owns (c : Thread nD τ) scM1_0 fullShare s.pb ∗ owns (c : Thread nD τ) scM1_1 fullShare s.pbt ∗ owns (c : Thread nD τ) scM1_2 fullShare s.sq ∗ owns (c : Thread nD τ) scM1_3 fullShare s.gt ∗ owns (c : Thread nD τ) scM1_4 fullShare s.da ∗ owns (c : Thread nD τ) scM1_5 fullShare s.db)

/-- Between points: the scratch buffers at a state agreeing with `st`, the rest untouched. -/
def Φ1 (c : Dev nD) (n : ℕ) : sProp 𝕄 :=
  iprop((∃ s, ⌜Agree n s (st V c n)⌝ ∗ heldSt c s) ∗ rest1 c ∗ (∃ r, prngReg c r))

theorem Φ1_in (c : Dev nD) : (Pipeline.ΦA spec1 c : sProp 𝕄) ⊢ Φ1 V c 0 := by
  rw [PhiA1_eq]; unfold Φ1 heldSt rest1
  iintro ⟨⟨HR0, HR1, HR2, HR3, HR4, HR5, HR6, HR7, HR8, HR9, ⟨%d0, HS0⟩, ⟨%d1, HS1⟩, ⟨%d2, HS2⟩, ⟨%d3, HS3⟩, ⟨%d4, HS4⟩, ⟨%d5, HS5⟩⟩, Hg⟩
  isplitl [HS0 HS1 HS2 HS3 HS4 HS5]
  · iexists (⟨d0, d1, d2, d3, d4, d5⟩ : St F)
    isplitr; · ipureintro; exact agree_zero _ _
    isplitl [HS0]; · iexact HS0
    isplitl [HS1]; · iexact HS1
    isplitl [HS2]; · iexact HS2
    isplitl [HS3]; · iexact HS3
    isplitl [HS4]; · iexact HS4
    iexact HS5
  isplitl [HR0 HR1 HR2 HR3 HR4 HR5 HR6 HR7 HR8 HR9]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact HR9
  iexact Hg

theorem Φ1_out (c : Dev nD) (n : ℕ) : Φ1 V c n ⊢ (Pipeline.ΦA spec1 c : sProp 𝕄) := by
  rw [PhiA1_eq]; unfold Φ1 heldSt rest1
  iintro ⟨⟨%s, -, HS0, HS1, HS2, HS3, HS4, HS5⟩, ⟨HR0, HR1, HR2, HR3, HR4, HR5, HR6, HR7, HR8, HR9⟩, Hg⟩
  isplitl [HR0 HR1 HR2 HR3 HR4 HR5 HR6 HR7 HR8 HR9 HS0 HS1 HS2 HS3 HS4 HS5]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The proof data of the region: the arrays as the region finds them; after the body at a point each input's buffer at its
    block and each output's at what the point's state gives; between points `Φ1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay5 (st V c (t.val + 1)).sq
    | ⟨5, _⟩ => k1_pay4 (st V c (t.val + 1)).gt
    | ⟨6, _⟩ => k1_pay9 (st V c (t.val + 1)).da
    | ⟨7, _⟩ => k1_pay10 (st V c (t.val + 1)).db
  Φ n := Φ1 V c n.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay5 (st V c (t.val + 1)).sq := by dsimp only [dat1]
theorem after1_5 (c : Dev nD) (t : Fin cfg1.N) : (dat1 V c).after 5 t = k1_pay4 (st V c (t.val + 1)).gt := by dsimp only [dat1]
theorem after1_6 (c : Dev nD) (t : Fin cfg1.N) : (dat1 V c).after 6 t = k1_pay9 (st V c (t.val + 1)).da := by dsimp only [dat1]
theorem after1_7 (c : Dev nD) (t : Fin cfg1.N) : (dat1 V c).after 7 t = k1_pay10 (st V c (t.val + 1)).db := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An output window at a point that leaves its block alone: it is handed back as found. -/
theorem leave_idle (c : Dev nD) (w : Fin cfg1.W) (t : Fin cfg1.N) (hi : cfg1.idle w (grid1.coords t) = true) (hf : ¬(cfg1.win w).flush t = true) (d) :
    owns (c : Thread nD τ) ((cfg1.win w).stage (cfg1.slots t w)) fullShare ((dat1 V c).before w t d) ⊢ (dat1 V c).leavesExact w t := by
  rw [Pipeline.Dat.leavesExact_idle _ w t hi (Bool.eq_false_iff.mpr hf)]
  iintro H; iexists d; iexact H

/-- An output window at a point that writes its block: it is left at the proof data's contents. -/
theorem leave_live (c : Dev nD) (w : Fin cfg1.W) (t : Fin cfg1.N) (hi : cfg1.idle w (grid1.coords t) = false) :
    owns (c : Thread nD τ) ((cfg1.win w).stage (cfg1.slots t w)) fullShare ((dat1 V c).after w t) ⊢ (dat1 V c).leavesExact w t := by
  unfold Pipeline.Dat.leavesExact; rw [show cfg1.idle w (cfg1.grid.coords t) = false from hi]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t ∗ (dat1 V c).leavesExact 5 t ∗ (dat1 V c).leavesExact 6 t ∗ (dat1 V c).leavesExact 7 t)

theorem idle_4 (t : Fin cfg1.N) : cfg1.idle 4 (grid1.coords t) = !(k1_cond4 (grid1.coords t) == 1#1) := rfl
theorem idle_5 (t : Fin cfg1.N) : cfg1.idle 5 (grid1.coords t) = !(k1_cond4 (grid1.coords t) == 1#1) := rfl
theorem idle_6 (t : Fin cfg1.N) : cfg1.idle 6 (grid1.coords t) = !(k1_cond4 (grid1.coords t) == 1#1 && k1_cond7 (grid1.coords t) == 1#1) := rfl
theorem idle_7 (t : Fin cfg1.N) : cfg1.idle 7 (grid1.coords t) = !(k1_cond4 (grid1.coords t) == 1#1 && k1_cond7 (grid1.coords t) == 1#1) := rfl

theorem leave_4 (c : Dev nD) (t : Fin cfg1.N) (s : St F) (hs : Agree t.val s (st V c t.val)) (d) :
    owns (c : Thread nD τ) (ms1_4 t) fullShare (fitLoss (grid1.coords t) ((dat1 V c).before 4 t d) (stepAt V c t s).sq) ⊢ (dat1 V c).leavesExact 4 t := by
  have h1 := coord1 t
  by_cases h : t.val % 43 = 42
  · refine BIBase.Entails.trans (BIBase.Entails.of_eq ?_) (leave_live V c 4 t (by rw [idle_4, (cond4_iff _).mpr (h1.trans h)]; rfl))
    unfold fitLoss
    rw [if_pos (h1.trans h), after1_4, st_succ, stepAt, stepAt, (step_agree t.isLt _ (coord0 t) h1 _ _ _ _ hs).1.2.2.1]
  · refine BIBase.Entails.trans (BIBase.Entails.of_eq ?_) (leave_idle V c 4 t (by rw [idle_4]; simp only [Bool.not_eq_true', beq_eq_false_iff_ne, ne_eq, cond4_iff, h1]; exact h) (fun hf => h ((flush1_4 t).mp hf)) d)
    unfold fitLoss
    rw [if_neg (fun hh => h (h1.symm.trans hh))]

theorem leave_5 (c : Dev nD) (t : Fin cfg1.N) (s : St F) (hs : Agree t.val s (st V c t.val)) (d) :
    owns (c : Thread nD τ) (ms1_5 t) fullShare (fitG (grid1.coords t) ((dat1 V c).before 5 t d) (stepAt V c t s).gt) ⊢ (dat1 V c).leavesExact 5 t := by
  have h1 := coord1 t
  by_cases h : t.val % 43 = 42
  · refine BIBase.Entails.trans (BIBase.Entails.of_eq ?_) (leave_live V c 5 t (by rw [idle_5, (cond4_iff _).mpr (h1.trans h)]; rfl))
    unfold fitG
    rw [if_pos (h1.trans h), after1_5, st_succ, stepAt, stepAt, (step_agree t.isLt _ (coord0 t) h1 _ _ _ _ hs).1.2.2.2]
  · refine BIBase.Entails.trans (BIBase.Entails.of_eq ?_) (leave_idle V c 5 t (by rw [idle_5]; simp only [Bool.not_eq_true', beq_eq_false_iff_ne, ne_eq, cond4_iff, h1]; exact h) (fun hf => h ((flush1_5 t).mp hf)) d)
    unfold fitG
    rw [if_neg (fun hh => h (h1.symm.trans hh))]

theorem idle_last (t : Fin cfg1.N) (h : ¬t.val % 860 = 859) : (!(k1_cond4 (grid1.coords t) == 1#1 && k1_cond7 (grid1.coords t) == 1#1)) = true := by
  have h0 := coord0 t
  have h1 := coord1 t
  have ht : t.val < 860 := t.isLt
  simp only [Bool.not_eq_true', Bool.and_eq_false_iff, beq_eq_false_iff_ne, ne_eq, cond4_iff, cond7_iff, h0, h1]
  omega

theorem live_last (t : Fin cfg1.N) (h : t.val % 860 = 859) : (!(k1_cond4 (grid1.coords t) == 1#1 && k1_cond7 (grid1.coords t) == 1#1)) = false := by
  have h0 := coord0 t
  have h1 := coord1 t
  have ht : t.val < 860 := t.isLt
  rw [(cond4_iff _).mpr (by omega), (cond7_iff _).mpr (by omega)]; rfl

theorem leave_6 (c : Dev nD) (t : Fin cfg1.N) (s : St F) (hs : Agree t.val s (st V c t.val)) (d) :
    owns (c : Thread nD τ) (ms1_6 t) fullShare (fitOa (grid1.coords t) ((dat1 V c).before 6 t d) (stepAt V c t s).da) ⊢ (dat1 V c).leavesExact 6 t := by
  have h0 := coord0 t
  have h1 := coord1 t
  have ht : t.val < 860 := t.isLt
  by_cases h : t.val % 860 = 859
  · refine BIBase.Entails.trans (BIBase.Entails.of_eq ?_) (leave_live V c 6 t ((idle_6 t).trans (live_last t h)))
    unfold fitOa
    rw [if_pos ⟨by omega, by omega⟩, after1_6, st_succ, stepAt, stepAt, (step_agree t.isLt _ (coord0 t) h1 _ _ _ _ hs).2.1 (by omega)]
  · refine BIBase.Entails.trans (BIBase.Entails.of_eq ?_) (leave_idle V c 6 t ((idle_6 t).trans (idle_last t h)) (fun hf => h ((flush1_6 t).mp hf)) d)
    unfold fitOa
    rw [if_neg (by omega)]

theorem leave_7 (c : Dev nD) (t : Fin cfg1.N) (s : St F) (hs : Agree t.val s (st V c t.val)) (d) :
    owns (c : Thread nD τ) (ms1_7 t) fullShare (fitOb (grid1.coords t) ((dat1 V c).before 7 t d) (stepAt V c t s).db) ⊢ (dat1 V c).leavesExact 7 t := by
  have h0 := coord0 t
  have h1 := coord1 t
  have ht : t.val < 860 := t.isLt
  by_cases h : t.val % 860 = 859
  · refine BIBase.Entails.trans (BIBase.Entails.of_eq ?_) (leave_live V c 7 t ((idle_7 t).trans (live_last t h)))
    have hdb : (stepAt V c t s).db = (stepAt V c t (st V c t.val)).db :=
      funext fun y => (step_agree t.isLt _ (coord0 t) h1 _ _ _ _ hs).2.2 y (Or.inr (by omega))
    unfold fitOb
    rw [if_pos ⟨by omega, by omega⟩, after1_7, st_succ, hdb]
  · refine BIBase.Entails.trans (BIBase.Entails.of_eq ?_) (leave_idle V c 7 t ((idle_7 t).trans (idle_last t h)) (fun hf => h ((flush1_7 t).mp hf)) d)
    unfold fitOb
    rw [if_neg (by omega)]

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, after1_0, after1_1, after1_2, after1_3]
  rw [show (dat1 V c).Φ t.castSucc = Φ1 V c t.val from rfl, show (dat1 V c).Φ t.succ = Φ1 V c (t.val + 1) from rfl]
  unfold Φ1 heldSt
  iintro ⟨⟨⟨%s, %hs, HS0, HS1, HS2, HS3, HS4, HS5⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_fit c (grid1.coords t) _ _ _ _ _ _ _ _ _ _ _ _ _ _ _ _ _ _ _ _ _ _ _ _ _ _ _ _ (iblk1 V c 0 t) (iblk1 V c 1 t) (iblk1 V c 2 t) (iblk1 V c 3 t)
    ((dat1 V c).before 4 t d4) ((dat1 V c).before 5 t d5) ((dat1 V c).before 6 t d6) ((dat1 V c).before 7 t d7) s.pb s.pbt s.sq s.gt s.da s.db Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HR HS0 HS1 HS2 HS3 HS4 HS5 Hg]
  · isplitl [HS0 HS1 HS2 HS3 HS4 HS5]
    · iexists (stepAt V c t s)
      isplitr
      · ipureintro; rw [st_succ]; exact step_agree' t.isLt _ (coord0 t) (coord1 t) _ _ _ _ hs
      isplitl [HS0]; · iexact HS0
      isplitl [HS1]; · iexact HS1
      isplitl [HS2]; · iexact HS2
      isplitl [HS3]; · iexact HS3
      isplitl [HS4]; · iexact HS4
      iexact HS5
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iapply (leave_4 V c t s hs d4); iexact H4
  isplitl [H5]; · iapply (leave_5 V c t s hs d5); iexact H5
  isplitl [H6]; · iapply (leave_6 V c t s hs d6); iexact H6
  iapply (leave_7 V c t s hs d7); iexact H7

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Fit

end
-- ==== Proof.Kernel.Run.lean ====
/- The run of the whole program: its host stretches and two kernels in order, and the frame (the program as printed). -/
module

public import proofs.«01_k».proof.Proof.Kernel.Err
public import proofs.«01_k».proof.Proof.Kernel.FitRun
public import Idealize.ShloMosaic.Lib.Pipeline.FrameBody
public import Idealize.ShloMosaic.Lib.Claim
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen Cert.Kernel.Err Cert.Kernel.Fit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    refine BIBase.Entails.trans ?_ (Φ1_in (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = Φ1 (V3 m ρ) c (Fin.last cfg1.N).val from rfl]
    refine BIBase.Entails.trans (Φ1_out (V3 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main from zero counters terminates with every unscoped array at the last boundary's
    contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s hs => ⟨(fun c =>
      ⟨(hs.1 c _ (mem_uc main_arg0 (by decide))).trans (W5_main_arg0 m ρ c),
       (hs.1 c _ (mem_uc main_arg1 (by decide))).trans (W5_main_arg1 m ρ c),
       (hs.1 c _ (mem_uc main_arg2 (by decide))).trans (W5_main_arg2 m ρ c),
       (hs.1 c _ (mem_uc main_arg3 (by decide))).trans (W5_main_arg3 m ρ c),
       (hs.1 c _ (mem_uc main_arg4 (by decide))).trans (W5_main_arg4 m ρ c),
       (hs.1 c _ (mem_uc main_arg5 (by decide))).trans (W5_main_arg5 m ρ c),
       (hs.1 c _ (mem_uc main_arg6 (by decide))).trans (W5_main_arg6 m ρ c)⟩), hs.2⟩) (run_all m ρ)

end Cert.Kernel.Run

end
-- ==== Proof.KernelIdeal.Err.lean ====
/- The first kernel of the program (the weight error): what its body leaves in the output block, and its obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Err

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_weight_error` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S32x256.size inb_S2048x256_S32x256_0_0
abbrev r0_1 : Rect S2x64x256 := Rect.unit (s := S2x64x256) ![0, 0, 0] S1x1x256.size inb_S2x64x256_S1x1x256_0_0_0
abbrev r0_2 : Rect S2x2048x256 := Rect.unit (s := S2x2048x256) ![0, 0, 0] S1x32x256.size inb_S2x2048x256_S1x32x256_0_0_0
abbrev r0_3 : Rect S1x2x2048x256 := Rect.unit (s := S1x2x2048x256) ![0, 0, 0, 0] S1x1x32x256.size inb_S1x2x2048x256_S1x1x32x256_0_0_0_0
abbrev r0_4 : Rect S2x64x256 := Rect.unit (s := S2x64x256) ![1, 0, 0] S1x1x256.size inb_S2x64x256_S1x1x256_1_0_0
abbrev r0_5 : Rect S2x2048x256 := Rect.unit (s := S2x2048x256) ![1, 0, 0] S1x32x256.size inb_S2x2048x256_S1x32x256_1_0_0
abbrev r0_6 : Rect S1x2x2048x256 := Rect.unit (s := S1x2x2048x256) ![0, 1, 0, 0] S1x1x32x256.size inb_S1x2x2048x256_S1x1x32x256_0_1_0_0
abbrev r0_7 : Rect S2048x256 := Rect.unit (s := S2048x256) ![32, 0] S32x256.size inb_S2048x256_S32x256_32_0
abbrev r0_8 : Rect S2x64x256 := Rect.unit (s := S2x64x256) ![0, 1, 0] S1x1x256.size inb_S2x64x256_S1x1x256_0_1_0
abbrev r0_9 : Rect S2x2048x256 := Rect.unit (s := S2x2048x256) ![0, 32, 0] S1x32x256.size inb_S2x2048x256_S1x32x256_0_32_0
abbrev r0_10 : Rect S1x2x2048x256 := Rect.unit (s := S1x2x2048x256) ![0, 0, 32, 0] S1x1x32x256.size inb_S1x2x2048x256_S1x1x32x256_0_0_32_0
abbrev r0_11 : Rect S2x64x256 := Rect.unit (s := S2x64x256) ![1, 1, 0] S1x1x256.size inb_S2x64x256_S1x1x256_1_1_0
abbrev r0_12 : Rect S2x2048x256 := Rect.unit (s := S2x2048x256) ![1, 32, 0] S1x32x256.size inb_S2x2048x256_S1x32x256_1_32_0
abbrev r0_13 : Rect S1x2x2048x256 := Rect.unit (s := S1x2x2048x256) ![0, 1, 32, 0] S1x1x32x256.size inb_S1x2x2048x256_S1x1x32x256_0_1_32_0
abbrev r0_14 : Rect S2048x256 := Rect.unit (s := S2048x256) ![64, 0] S32x256.size inb_S2048x256_S32x256_64_0
abbrev r0_15 : Rect S2x64x256 := Rect.unit (s := S2x64x256) ![0, 2, 0] S1x1x256.size inb_S2x64x256_S1x1x256_0_2_0
abbrev r0_16 : Rect S2x2048x256 := Rect.unit (s := S2x2048x256) ![0, 64, 0] S1x32x256.size inb_S2x2048x256_S1x32x256_0_64_0
abbrev r0_17 : Rect S1x2x2048x256 := Rect.unit (s := S1x2x2048x256) ![0, 0, 64, 0] S1x1x32x256.size inb_S1x2x2048x256_S1x1x32x256_0_0_64_0
abbrev r0_18 : Rect S2x64x256 := Rect.unit (s := S2x64x256) ![1, 2, 0] S1x1x256.size inb_S2x64x256_S1x1x256_1_2_0
abbrev r0_19 : Rect S2x2048x256 := Rect.unit (s := S2x2048x256) ![1, 64, 0] S1x32x256.size inb_S2x2048x256_S1x32x256_1_64_0
abbrev r0_20 : Rect S1x2x2048x256 := Rect.unit (s := S1x2x2048x256) ![0, 1, 64, 0] S1x1x32x256.size inb_S1x2x2048x256_S1x1x32x256_0_1_64_0
abbrev r0_21 : Rect S2048x256 := Rect.unit (s := S2048x256) ![96, 0] S32x256.size inb_S2048x256_S32x256_96_0
abbrev r0_22 : Rect S2x64x256 := Rect.unit (s := S2x64x256) ![0, 3, 0] S1x1x256.size inb_S2x64x256_S1x1x256_0_3_0
abbrev r0_23 : Rect S2x2048x256 := Rect.unit (s := S2x2048x256) ![0, 96, 0] S1x32x256.size inb_S2x2048x256_S1x32x256_0_96_0
abbrev r0_24 : Rect S1x2x2048x256 := Rect.unit (s := S1x2x2048x256) ![0, 0, 96, 0] S1x1x32x256.size inb_S1x2x2048x256_S1x1x32x256_0_0_96_0
abbrev r0_25 : Rect S2x64x256 := Rect.unit (s := S2x64x256) ![1, 3, 0] S1x1x256.size inb_S2x64x256_S1x1x256_1_3_0
abbrev r0_26 : Rect S2x2048x256 := Rect.unit (s := S2x2048x256) ![1, 96, 0] S1x32x256.size inb_S2x2048x256_S1x32x256_1_96_0
abbrev r0_27 : Rect S1x2x2048x256 := Rect.unit (s := S1x2x2048x256) ![0, 1, 96, 0] S1x1x32x256.size inb_S1x2x2048x256_S1x1x32x256_0_1_96_0
abbrev r0_28 : Rect S2048x256 := Rect.unit (s := S2048x256) ![128, 0] S32x256.size inb_S2048x256_S32x256_128_0
abbrev r0_29 : Rect S2x64x256 := Rect.unit (s := S2x64x256) ![0, 4, 0] S1x1x256.size inb_S2x64x256_S1x1x256_0_4_0
abbrev r0_30 : Rect S2x2048x256 := Rect.unit (s := S2x2048x256) ![0, 128, 0] S1x32x256.size inb_S2x2048x256_S1x32x256_0_128_0
abbrev r0_31 : Rect S1x2x2048x256 := Rect.unit (s := S1x2x2048x256) ![0, 0, 128, 0] S1x1x32x256.size inb_S1x2x2048x256_S1x1x32x256_0_0_128_0
abbrev r0_32 : Rect S2x64x256 := Rect.unit (s := S2x64x256) ![1, 4, 0] S1x1x256.size inb_S2x64x256_S1x1x256_1_4_0
abbrev r0_33 : Rect S2x2048x256 := Rect.unit (s := S2x2048x256) ![1, 128, 0] S1x32x256.size inb_S2x2048x256_S1x32x256_1_128_0
abbrev r0_34 : Rect S1x2x2048x256 := Rect.unit (s := S1x2x2048x256) ![0, 1, 128, 0] S1x1x32x256.size inb_S1x2x2048x256_S1x1x32x256_0_1_128_0
abbrev r0_35 : Rect S2048x256 := Rect.unit (s := S2048x256) ![160, 0] S32x256.size inb_S2048x256_S32x256_160_0
abbrev r0_36 : Rect S2x64x256 := Rect.unit (s := S2x64x256) ![0, 5, 0] S1x1x256.size inb_S2x64x256_S1x1x256_0_5_0
abbrev r0_37 : Rect S2x2048x256 := Rect.unit (s := S2x2048x256) ![0, 160, 0] S1x32x256.size inb_S2x2048x256_S1x32x256_0_160_0
abbrev r0_38 : Rect S1x2x2048x256 := Rect.unit (s := S1x2x2048x256) ![0, 0, 160, 0] S1x1x32x256.size inb_S1x2x2048x256_S1x1x32x256_0_0_160_0
abbrev r0_39 : Rect S2x64x256 := Rect.unit (s := S2x64x256) ![1, 5, 0] S1x1x256.size inb_S2x64x256_S1x1x256_1_5_0
abbrev r0_40 : Rect S2x2048x256 := Rect.unit (s := S2x2048x256) ![1, 160, 0] S1x32x256.size inb_S2x2048x256_S1x32x256_1_160_0
abbrev r0_41 : Rect S1x2x2048x256 := Rect.unit (s := S1x2x2048x256) ![0, 1, 160, 0] S1x1x32x256.size inb_S1x2x2048x256_S1x1x32x256_0_1_160_0
abbrev r0_42 : Rect S2048x256 := Rect.unit (s := S2048x256) ![192, 0] S32x256.size inb_S2048x256_S32x256_192_0
abbrev r0_43 : Rect S2x64x256 := Rect.unit (s := S2x64x256) ![0, 6, 0] S1x1x256.size inb_S2x64x256_S1x1x256_0_6_0
abbrev r0_44 : Rect S2x2048x256 := Rect.unit (s := S2x2048x256) ![0, 192, 0] S1x32x256.size inb_S2x2048x256_S1x32x256_0_192_0
abbrev r0_45 : Rect S1x2x2048x256 := Rect.unit (s := S1x2x2048x256) ![0, 0, 192, 0] S1x1x32x256.size inb_S1x2x2048x256_S1x1x32x256_0_0_192_0
abbrev r0_46 : Rect S2x64x256 := Rect.unit (s := S2x64x256) ![1, 6, 0] S1x1x256.size inb_S2x64x256_S1x1x256_1_6_0
abbrev r0_47 : Rect S2x2048x256 := Rect.unit (s := S2x2048x256) ![1, 192, 0] S1x32x256.size inb_S2x2048x256_S1x32x256_1_192_0
abbrev r0_48 : Rect S1x2x2048x256 := Rect.unit (s := S1x2x2048x256) ![0, 1, 192, 0] S1x1x32x256.size inb_S1x2x2048x256_S1x1x32x256_0_1_192_0
abbrev r0_49 : Rect S2048x256 := Rect.unit (s := S2048x256) ![224, 0] S32x256.size inb_S2048x256_S32x256_224_0
abbrev r0_50 : Rect S2x64x256 := Rect.unit (s := S2x64x256) ![0, 7, 0] S1x1x256.size inb_S2x64x256_S1x1x256_0_7_0
abbrev r0_51 : Rect S2x2048x256 := Rect.unit (s := S2x2048x256) ![0, 224, 0] S1x32x256.size inb_S2x2048x256_S1x32x256_0_224_0
abbrev r0_52 : Rect S1x2x2048x256 := Rect.unit (s := S1x2x2048x256) ![0, 0, 224, 0] S1x1x32x256.size inb_S1x2x2048x256_S1x1x32x256_0_0_224_0
abbrev r0_53 : Rect S2x64x256 := Rect.unit (s := S2x64x256) ![1, 7, 0] S1x1x256.size inb_S2x64x256_S1x1x256_1_7_0
abbrev r0_54 : Rect S2x2048x256 := Rect.unit (s := S2x2048x256) ![1, 224, 0] S1x32x256.size inb_S2x2048x256_S1x32x256_1_224_0
abbrev r0_55 : Rect S1x2x2048x256 := Rect.unit (s := S1x2x2048x256) ![0, 1, 224, 0] S1x1x32x256.size inb_S1x2x2048x256_S1x1x32x256_0_1_224_0
abbrev r0_56 : Rect S2048x256 := Rect.unit (s := S2048x256) ![256, 0] S32x256.size inb_S2048x256_S32x256_256_0
abbrev r0_57 : Rect S2x64x256 := Rect.unit (s := S2x64x256) ![0, 8, 0] S1x1x256.size inb_S2x64x256_S1x1x256_0_8_0
abbrev r0_58 : Rect S2x2048x256 := Rect.unit (s := S2x2048x256) ![0, 256, 0] S1x32x256.size inb_S2x2048x256_S1x32x256_0_256_0
abbrev r0_59 : Rect S1x2x2048x256 := Rect.unit (s := S1x2x2048x256) ![0, 0, 256, 0] S1x1x32x256.size inb_S1x2x2048x256_S1x1x32x256_0_0_256_0
abbrev r0_60 : Rect S2x64x256 := Rect.unit (s := S2x64x256) ![1, 8, 0] S1x1x256.size inb_S2x64x256_S1x1x256_1_8_0
abbrev r0_61 : Rect S2x2048x256 := Rect.unit (s := S2x2048x256) ![1, 256, 0] S1x32x256.size inb_S2x2048x256_S1x32x256_1_256_0
abbrev r0_62 : Rect S1x2x2048x256 := Rect.unit (s := S1x2x2048x256) ![0, 1, 256, 0] S1x1x32x256.size inb_S1x2x2048x256_S1x1x32x256_0_1_256_0
abbrev r0_63 : Rect S2048x256 := Rect.unit (s := S2048x256) ![288, 0] S32x256.size inb_S2048x256_S32x256_288_0
abbrev r0_64 : Rect S2x64x256 := Rect.unit (s := S2x64x256) ![0, 9, 0] S1x1x256.size inb_S2x64x256_S1x1x256_0_9_0
abbrev r0_65 : Rect S2x2048x256 := Rect.unit (s := S2x2048x256) ![0, 288, 0] S1x32x256.size inb_S2x2048x256_S1x32x256_0_288_0
abbrev r0_66 : Rect S1x2x2048x256 := Rect.unit (s := S1x2x2048x256) ![0, 0, 288, 0] S1x1x32x256.size inb_S1x2x2048x256_S1x1x32x256_0_0_288_0
abbrev r0_67 : Rect S2x64x256 := Rect.unit (s := S2x64x256) ![1, 9, 0] S1x1x256.size inb_S2x64x256_S1x1x256_1_9_0
abbrev r0_68 : Rect S2x2048x256 := Rect.unit (s := S2x2048x256) ![1, 288, 0] S1x32x256.size inb_S2x2048x256_S1x32x256_1_288_0
abbrev r0_69 : Rect S1x2x2048x256 := Rect.unit (s := S1x2x2048x256) ![0, 1, 288, 0] S1x1x32x256.size inb_S1x2x2048x256_S1x1x32x256_0_1_288_0
abbrev r0_70 : Rect S2048x256 := Rect.unit (s := S2048x256) ![320, 0] S32x256.size inb_S2048x256_S32x256_320_0
abbrev r0_71 : Rect S2x64x256 := Rect.unit (s := S2x64x256) ![0, 10, 0] S1x1x256.size inb_S2x64x256_S1x1x256_0_10_0
abbrev r0_72 : Rect S2x2048x256 := Rect.unit (s := S2x2048x256) ![0, 320, 0] S1x32x256.size inb_S2x2048x256_S1x32x256_0_320_0
abbrev r0_73 : Rect S1x2x2048x256 := Rect.unit (s := S1x2x2048x256) ![0, 0, 320, 0] S1x1x32x256.size inb_S1x2x2048x256_S1x1x32x256_0_0_320_0
abbrev r0_74 : Rect S2x64x256 := Rect.unit (s := S2x64x256) ![1, 10, 0] S1x1x256.size inb_S2x64x256_S1x1x256_1_10_0
abbrev r0_75 : Rect S2x2048x256 := Rect.unit (s := S2x2048x256) ![1, 320, 0] S1x32x256.size inb_S2x2048x256_S1x32x256_1_320_0
abbrev r0_76 : Rect S1x2x2048x256 := Rect.unit (s := S1x2x2048x256) ![0, 1, 320, 0] S1x1x32x256.size inb_S1x2x2048x256_S1x1x32x256_0_1_320_0
abbrev r0_77 : Rect S2048x256 := Rect.unit (s := S2048x256) ![352, 0] S32x256.size inb_S2048x256_S32x256_352_0
abbrev r0_78 : Rect S2x64x256 := Rect.unit (s := S2x64x256) ![0, 11, 0] S1x1x256.size inb_S2x64x256_S1x1x256_0_11_0
abbrev r0_79 : Rect S2x2048x256 := Rect.unit (s := S2x2048x256) ![0, 352, 0] S1x32x256.size inb_S2x2048x256_S1x32x256_0_352_0
abbrev r0_80 : Rect S1x2x2048x256 := Rect.unit (s := S1x2x2048x256) ![0, 0, 352, 0] S1x1x32x256.size inb_S1x2x2048x256_S1x1x32x256_0_0_352_0
abbrev r0_81 : Rect S2x64x256 := Rect.unit (s := S2x64x256) ![1, 11, 0] S1x1x256.size inb_S2x64x256_S1x1x256_1_11_0
abbrev r0_82 : Rect S2x2048x256 := Rect.unit (s := S2x2048x256) ![1, 352, 0] S1x32x256.size inb_S2x2048x256_S1x32x256_1_352_0
abbrev r0_83 : Rect S1x2x2048x256 := Rect.unit (s := S1x2x2048x256) ![0, 1, 352, 0] S1x1x32x256.size inb_S1x2x2048x256_S1x1x32x256_0_1_352_0
abbrev r0_84 : Rect S2048x256 := Rect.unit (s := S2048x256) ![384, 0] S32x256.size inb_S2048x256_S32x256_384_0
abbrev r0_85 : Rect S2x64x256 := Rect.unit (s := S2x64x256) ![0, 12, 0] S1x1x256.size inb_S2x64x256_S1x1x256_0_12_0
abbrev r0_86 : Rect S2x2048x256 := Rect.unit (s := S2x2048x256) ![0, 384, 0] S1x32x256.size inb_S2x2048x256_S1x32x256_0_384_0
abbrev r0_87 : Rect S1x2x2048x256 := Rect.unit (s := S1x2x2048x256) ![0, 0, 384, 0] S1x1x32x256.size inb_S1x2x2048x256_S1x1x32x256_0_0_384_0
abbrev r0_88 : Rect S2x64x256 := Rect.unit (s := S2x64x256) ![1, 12, 0] S1x1x256.size inb_S2x64x256_S1x1x256_1_12_0
abbrev r0_89 : Rect S2x2048x256 := Rect.unit (s := S2x2048x256) ![1, 384, 0] S1x32x256.size inb_S2x2048x256_S1x32x256_1_384_0
abbrev r0_90 : Rect S1x2x2048x256 := Rect.unit (s := S1x2x2048x256) ![0, 1, 384, 0] S1x1x32x256.size inb_S1x2x2048x256_S1x1x32x256_0_1_384_0
abbrev r0_91 : Rect S2048x256 := Rect.unit (s := S2048x256) ![416, 0] S32x256.size inb_S2048x256_S32x256_416_0
abbrev r0_92 : Rect S2x64x256 := Rect.unit (s := S2x64x256) ![0, 13, 0] S1x1x256.size inb_S2x64x256_S1x1x256_0_13_0
abbrev r0_93 : Rect S2x2048x256 := Rect.unit (s := S2x2048x256) ![0, 416, 0] S1x32x256.size inb_S2x2048x256_S1x32x256_0_416_0
abbrev r0_94 : Rect S1x2x2048x256 := Rect.unit (s := S1x2x2048x256) ![0, 0, 416, 0] S1x1x32x256.size inb_S1x2x2048x256_S1x1x32x256_0_0_416_0
abbrev r0_95 : Rect S2x64x256 := Rect.unit (s := S2x64x256) ![1, 13, 0] S1x1x256.size inb_S2x64x256_S1x1x256_1_13_0
abbrev r0_96 : Rect S2x2048x256 := Rect.unit (s := S2x2048x256) ![1, 416, 0] S1x32x256.size inb_S2x2048x256_S1x32x256_1_416_0
abbrev r0_97 : Rect S1x2x2048x256 := Rect.unit (s := S1x2x2048x256) ![0, 1, 416, 0] S1x1x32x256.size inb_S1x2x2048x256_S1x1x32x256_0_1_416_0
abbrev r0_98 : Rect S2048x256 := Rect.unit (s := S2048x256) ![448, 0] S32x256.size inb_S2048x256_S32x256_448_0
abbrev r0_99 : Rect S2x64x256 := Rect.unit (s := S2x64x256) ![0, 14, 0] S1x1x256.size inb_S2x64x256_S1x1x256_0_14_0
abbrev r0_100 : Rect S2x2048x256 := Rect.unit (s := S2x2048x256) ![0, 448, 0] S1x32x256.size inb_S2x2048x256_S1x32x256_0_448_0
abbrev r0_101 : Rect S1x2x2048x256 := Rect.unit (s := S1x2x2048x256) ![0, 0, 448, 0] S1x1x32x256.size inb_S1x2x2048x256_S1x1x32x256_0_0_448_0
abbrev r0_102 : Rect S2x64x256 := Rect.unit (s := S2x64x256) ![1, 14, 0] S1x1x256.size inb_S2x64x256_S1x1x256_1_14_0
abbrev r0_103 : Rect S2x2048x256 := Rect.unit (s := S2x2048x256) ![1, 448, 0] S1x32x256.size inb_S2x2048x256_S1x32x256_1_448_0
abbrev r0_104 : Rect S1x2x2048x256 := Rect.unit (s := S1x2x2048x256) ![0, 1, 448, 0] S1x1x32x256.size inb_S1x2x2048x256_S1x1x32x256_0_1_448_0
abbrev r0_105 : Rect S2048x256 := Rect.unit (s := S2048x256) ![480, 0] S32x256.size inb_S2048x256_S32x256_480_0
abbrev r0_106 : Rect S2x64x256 := Rect.unit (s := S2x64x256) ![0, 15, 0] S1x1x256.size inb_S2x64x256_S1x1x256_0_15_0
abbrev r0_107 : Rect S2x2048x256 := Rect.unit (s := S2x2048x256) ![0, 480, 0] S1x32x256.size inb_S2x2048x256_S1x32x256_0_480_0
abbrev r0_108 : Rect S1x2x2048x256 := Rect.unit (s := S1x2x2048x256) ![0, 0, 480, 0] S1x1x32x256.size inb_S1x2x2048x256_S1x1x32x256_0_0_480_0
abbrev r0_109 : Rect S2x64x256 := Rect.unit (s := S2x64x256) ![1, 15, 0] S1x1x256.size inb_S2x64x256_S1x1x256_1_15_0
abbrev r0_110 : Rect S2x2048x256 := Rect.unit (s := S2x2048x256) ![1, 480, 0] S1x32x256.size inb_S2x2048x256_S1x32x256_1_480_0
abbrev r0_111 : Rect S1x2x2048x256 := Rect.unit (s := S1x2x2048x256) ![0, 1, 480, 0] S1x1x32x256.size inb_S1x2x2048x256_S1x1x32x256_0_1_480_0
abbrev r0_112 : Rect S2048x256 := Rect.unit (s := S2048x256) ![512, 0] S32x256.size inb_S2048x256_S32x256_512_0
abbrev r0_113 : Rect S2x64x256 := Rect.unit (s := S2x64x256) ![0, 16, 0] S1x1x256.size inb_S2x64x256_S1x1x256_0_16_0
abbrev r0_114 : Rect S2x2048x256 := Rect.unit (s := S2x2048x256) ![0, 512, 0] S1x32x256.size inb_S2x2048x256_S1x32x256_0_512_0
abbrev r0_115 : Rect S1x2x2048x256 := Rect.unit (s := S1x2x2048x256) ![0, 0, 512, 0] S1x1x32x256.size inb_S1x2x2048x256_S1x1x32x256_0_0_512_0
abbrev r0_116 : Rect S2x64x256 := Rect.unit (s := S2x64x256) ![1, 16, 0] S1x1x256.size inb_S2x64x256_S1x1x256_1_16_0
abbrev r0_117 : Rect S2x2048x256 := Rect.unit (s := S2x2048x256) ![1, 512, 0] S1x32x256.size inb_S2x2048x256_S1x32x256_1_512_0
abbrev r0_118 : Rect S1x2x2048x256 := Rect.unit (s := S1x2x2048x256) ![0, 1, 512, 0] S1x1x32x256.size inb_S1x2x2048x256_S1x1x32x256_0_1_512_0
abbrev r0_119 : Rect S2048x256 := Rect.unit (s := S2048x256) ![544, 0] S32x256.size inb_S2048x256_S32x256_544_0
abbrev r0_120 : Rect S2x64x256 := Rect.unit (s := S2x64x256) ![0, 17, 0] S1x1x256.size inb_S2x64x256_S1x1x256_0_17_0
abbrev r0_121 : Rect S2x2048x256 := Rect.unit (s := S2x2048x256) ![0, 544, 0] S1x32x256.size inb_S2x2048x256_S1x32x256_0_544_0
abbrev r0_122 : Rect S1x2x2048x256 := Rect.unit (s := S1x2x2048x256) ![0, 0, 544, 0] S1x1x32x256.size inb_S1x2x2048x256_S1x1x32x256_0_0_544_0
abbrev r0_123 : Rect S2x64x256 := Rect.unit (s := S2x64x256) ![1, 17, 0] S1x1x256.size inb_S2x64x256_S1x1x256_1_17_0
abbrev r0_124 : Rect S2x2048x256 := Rect.unit (s := S2x2048x256) ![1, 544, 0] S1x32x256.size inb_S2x2048x256_S1x32x256_1_544_0
abbrev r0_125 : Rect S1x2x2048x256 := Rect.unit (s := S1x2x2048x256) ![0, 1, 544, 0] S1x1x32x256.size inb_S1x2x2048x256_S1x1x32x256_0_1_544_0
abbrev r0_126 : Rect S2048x256 := Rect.unit (s := S2048x256) ![576, 0] S32x256.size inb_S2048x256_S32x256_576_0
abbrev r0_127 : Rect S2x64x256 := Rect.unit (s := S2x64x256) ![0, 18, 0] S1x1x256.size inb_S2x64x256_S1x1x256_0_18_0
abbrev r0_128 : Rect S2x2048x256 := Rect.unit (s := S2x2048x256) ![0, 576, 0] S1x32x256.size inb_S2x2048x256_S1x32x256_0_576_0
abbrev r0_129 : Rect S1x2x2048x256 := Rect.unit (s := S1x2x2048x256) ![0, 0, 576, 0] S1x1x32x256.size inb_S1x2x2048x256_S1x1x32x256_0_0_576_0
abbrev r0_130 : Rect S2x64x256 := Rect.unit (s := S2x64x256) ![1, 18, 0] S1x1x256.size inb_S2x64x256_S1x1x256_1_18_0
abbrev r0_131 : Rect S2x2048x256 := Rect.unit (s := S2x2048x256) ![1, 576, 0] S1x32x256.size inb_S2x2048x256_S1x32x256_1_576_0
abbrev r0_132 : Rect S1x2x2048x256 := Rect.unit (s := S1x2x2048x256) ![0, 1, 576, 0] S1x1x32x256.size inb_S1x2x2048x256_S1x1x32x256_0_1_576_0
abbrev r0_133 : Rect S2048x256 := Rect.unit (s := S2048x256) ![608, 0] S32x256.size inb_S2048x256_S32x256_608_0
abbrev r0_134 : Rect S2x64x256 := Rect.unit (s := S2x64x256) ![0, 19, 0] S1x1x256.size inb_S2x64x256_S1x1x256_0_19_0
abbrev r0_135 : Rect S2x2048x256 := Rect.unit (s := S2x2048x256) ![0, 608, 0] S1x32x256.size inb_S2x2048x256_S1x32x256_0_608_0
abbrev r0_136 : Rect S1x2x2048x256 := Rect.unit (s := S1x2x2048x256) ![0, 0, 608, 0] S1x1x32x256.size inb_S1x2x2048x256_S1x1x32x256_0_0_608_0
abbrev r0_137 : Rect S2x64x256 := Rect.unit (s := S2x64x256) ![1, 19, 0] S1x1x256.size inb_S2x64x256_S1x1x256_1_19_0
abbrev r0_138 : Rect S2x2048x256 := Rect.unit (s := S2x2048x256) ![1, 608, 0] S1x32x256.size inb_S2x2048x256_S1x32x256_1_608_0
abbrev r0_139 : Rect S1x2x2048x256 := Rect.unit (s := S1x2x2048x256) ![0, 1, 608, 0] S1x1x32x256.size inb_S1x2x2048x256_S1x1x32x256_0_1_608_0
abbrev r0_140 : Rect S2048x256 := Rect.unit (s := S2048x256) ![640, 0] S32x256.size inb_S2048x256_S32x256_640_0
abbrev r0_141 : Rect S2x64x256 := Rect.unit (s := S2x64x256) ![0, 20, 0] S1x1x256.size inb_S2x64x256_S1x1x256_0_20_0
abbrev r0_142 : Rect S2x2048x256 := Rect.unit (s := S2x2048x256) ![0, 640, 0] S1x32x256.size inb_S2x2048x256_S1x32x256_0_640_0
abbrev r0_143 : Rect S1x2x2048x256 := Rect.unit (s := S1x2x2048x256) ![0, 0, 640, 0] S1x1x32x256.size inb_S1x2x2048x256_S1x1x32x256_0_0_640_0
abbrev r0_144 : Rect S2x64x256 := Rect.unit (s := S2x64x256) ![1, 20, 0] S1x1x256.size inb_S2x64x256_S1x1x256_1_20_0
abbrev r0_145 : Rect S2x2048x256 := Rect.unit (s := S2x2048x256) ![1, 640, 0] S1x32x256.size inb_S2x2048x256_S1x32x256_1_640_0
abbrev r0_146 : Rect S1x2x2048x256 := Rect.unit (s := S1x2x2048x256) ![0, 1, 640, 0] S1x1x32x256.size inb_S1x2x2048x256_S1x1x32x256_0_1_640_0
abbrev r0_147 : Rect S2048x256 := Rect.unit (s := S2048x256) ![672, 0] S32x256.size inb_S2048x256_S32x256_672_0
abbrev r0_148 : Rect S2x64x256 := Rect.unit (s := S2x64x256) ![0, 21, 0] S1x1x256.size inb_S2x64x256_S1x1x256_0_21_0
abbrev r0_149 : Rect S2x2048x256 := Rect.unit (s := S2x2048x256) ![0, 672, 0] S1x32x256.size inb_S2x2048x256_S1x32x256_0_672_0
abbrev r0_150 : Rect S1x2x2048x256 := Rect.unit (s := S1x2x2048x256) ![0, 0, 672, 0] S1x1x32x256.size inb_S1x2x2048x256_S1x1x32x256_0_0_672_0
abbrev r0_151 : Rect S2x64x256 := Rect.unit (s := S2x64x256) ![1, 21, 0] S1x1x256.size inb_S2x64x256_S1x1x256_1_21_0
abbrev r0_152 : Rect S2x2048x256 := Rect.unit (s := S2x2048x256) ![1, 672, 0] S1x32x256.size inb_S2x2048x256_S1x32x256_1_672_0
abbrev r0_153 : Rect S1x2x2048x256 := Rect.unit (s := S1x2x2048x256) ![0, 1, 672, 0] S1x1x32x256.size inb_S1x2x2048x256_S1x1x32x256_0_1_672_0
abbrev r0_154 : Rect S2048x256 := Rect.unit (s := S2048x256) ![704, 0] S32x256.size inb_S2048x256_S32x256_704_0
abbrev r0_155 : Rect S2x64x256 := Rect.unit (s := S2x64x256) ![0, 22, 0] S1x1x256.size inb_S2x64x256_S1x1x256_0_22_0
abbrev r0_156 : Rect S2x2048x256 := Rect.unit (s := S2x2048x256) ![0, 704, 0] S1x32x256.size inb_S2x2048x256_S1x32x256_0_704_0
abbrev r0_157 : Rect S1x2x2048x256 := Rect.unit (s := S1x2x2048x256) ![0, 0, 704, 0] S1x1x32x256.size inb_S1x2x2048x256_S1x1x32x256_0_0_704_0
abbrev r0_158 : Rect S2x64x256 := Rect.unit (s := S2x64x256) ![1, 22, 0] S1x1x256.size inb_S2x64x256_S1x1x256_1_22_0
abbrev r0_159 : Rect S2x2048x256 := Rect.unit (s := S2x2048x256) ![1, 704, 0] S1x32x256.size inb_S2x2048x256_S1x32x256_1_704_0
abbrev r0_160 : Rect S1x2x2048x256 := Rect.unit (s := S1x2x2048x256) ![0, 1, 704, 0] S1x1x32x256.size inb_S1x2x2048x256_S1x1x32x256_0_1_704_0
abbrev r0_161 : Rect S2048x256 := Rect.unit (s := S2048x256) ![736, 0] S32x256.size inb_S2048x256_S32x256_736_0
abbrev r0_162 : Rect S2x64x256 := Rect.unit (s := S2x64x256) ![0, 23, 0] S1x1x256.size inb_S2x64x256_S1x1x256_0_23_0
abbrev r0_163 : Rect S2x2048x256 := Rect.unit (s := S2x2048x256) ![0, 736, 0] S1x32x256.size inb_S2x2048x256_S1x32x256_0_736_0
abbrev r0_164 : Rect S1x2x2048x256 := Rect.unit (s := S1x2x2048x256) ![0, 0, 736, 0] S1x1x32x256.size inb_S1x2x2048x256_S1x1x32x256_0_0_736_0
abbrev r0_165 : Rect S2x64x256 := Rect.unit (s := S2x64x256) ![1, 23, 0] S1x1x256.size inb_S2x64x256_S1x1x256_1_23_0
abbrev r0_166 : Rect S2x2048x256 := Rect.unit (s := S2x2048x256) ![1, 736, 0] S1x32x256.size inb_S2x2048x256_S1x32x256_1_736_0
abbrev r0_167 : Rect S1x2x2048x256 := Rect.unit (s := S1x2x2048x256) ![0, 1, 736, 0] S1x1x32x256.size inb_S1x2x2048x256_S1x1x32x256_0_1_736_0
abbrev r0_168 : Rect S2048x256 := Rect.unit (s := S2048x256) ![768, 0] S32x256.size inb_S2048x256_S32x256_768_0
abbrev r0_169 : Rect S2x64x256 := Rect.unit (s := S2x64x256) ![0, 24, 0] S1x1x256.size inb_S2x64x256_S1x1x256_0_24_0
abbrev r0_170 : Rect S2x2048x256 := Rect.unit (s := S2x2048x256) ![0, 768, 0] S1x32x256.size inb_S2x2048x256_S1x32x256_0_768_0
abbrev r0_171 : Rect S1x2x2048x256 := Rect.unit (s := S1x2x2048x256) ![0, 0, 768, 0] S1x1x32x256.size inb_S1x2x2048x256_S1x1x32x256_0_0_768_0
abbrev r0_172 : Rect S2x64x256 := Rect.unit (s := S2x64x256) ![1, 24, 0] S1x1x256.size inb_S2x64x256_S1x1x256_1_24_0
abbrev r0_173 : Rect S2x2048x256 := Rect.unit (s := S2x2048x256) ![1, 768, 0] S1x32x256.size inb_S2x2048x256_S1x32x256_1_768_0
abbrev r0_174 : Rect S1x2x2048x256 := Rect.unit (s := S1x2x2048x256) ![0, 1, 768, 0] S1x1x32x256.size inb_S1x2x2048x256_S1x1x32x256_0_1_768_0
abbrev r0_175 : Rect S2048x256 := Rect.unit (s := S2048x256) ![800, 0] S32x256.size inb_S2048x256_S32x256_800_0
abbrev r0_176 : Rect S2x64x256 := Rect.unit (s := S2x64x256) ![0, 25, 0] S1x1x256.size inb_S2x64x256_S1x1x256_0_25_0
abbrev r0_177 : Rect S2x2048x256 := Rect.unit (s := S2x2048x256) ![0, 800, 0] S1x32x256.size inb_S2x2048x256_S1x32x256_0_800_0
abbrev r0_178 : Rect S1x2x2048x256 := Rect.unit (s := S1x2x2048x256) ![0, 0, 800, 0] S1x1x32x256.size inb_S1x2x2048x256_S1x1x32x256_0_0_800_0
abbrev r0_179 : Rect S2x64x256 := Rect.unit (s := S2x64x256) ![1, 25, 0] S1x1x256.size inb_S2x64x256_S1x1x256_1_25_0
abbrev r0_180 : Rect S2x2048x256 := Rect.unit (s := S2x2048x256) ![1, 800, 0] S1x32x256.size inb_S2x2048x256_S1x32x256_1_800_0
abbrev r0_181 : Rect S1x2x2048x256 := Rect.unit (s := S1x2x2048x256) ![0, 1, 800, 0] S1x1x32x256.size inb_S1x2x2048x256_S1x1x32x256_0_1_800_0
abbrev r0_182 : Rect S2048x256 := Rect.unit (s := S2048x256) ![832, 0] S32x256.size inb_S2048x256_S32x256_832_0
abbrev r0_183 : Rect S2x64x256 := Rect.unit (s := S2x64x256) ![0, 26, 0] S1x1x256.size inb_S2x64x256_S1x1x256_0_26_0
abbrev r0_184 : Rect S2x2048x256 := Rect.unit (s := S2x2048x256) ![0, 832, 0] S1x32x256.size inb_S2x2048x256_S1x32x256_0_832_0
abbrev r0_185 : Rect S1x2x2048x256 := Rect.unit (s := S1x2x2048x256) ![0, 0, 832, 0] S1x1x32x256.size inb_S1x2x2048x256_S1x1x32x256_0_0_832_0
abbrev r0_186 : Rect S2x64x256 := Rect.unit (s := S2x64x256) ![1, 26, 0] S1x1x256.size inb_S2x64x256_S1x1x256_1_26_0
abbrev r0_187 : Rect S2x2048x256 := Rect.unit (s := S2x2048x256) ![1, 832, 0] S1x32x256.size inb_S2x2048x256_S1x32x256_1_832_0
abbrev r0_188 : Rect S1x2x2048x256 := Rect.unit (s := S1x2x2048x256) ![0, 1, 832, 0] S1x1x32x256.size inb_S1x2x2048x256_S1x1x32x256_0_1_832_0
abbrev r0_189 : Rect S2048x256 := Rect.unit (s := S2048x256) ![864, 0] S32x256.size inb_S2048x256_S32x256_864_0
abbrev r0_190 : Rect S2x64x256 := Rect.unit (s := S2x64x256) ![0, 27, 0] S1x1x256.size inb_S2x64x256_S1x1x256_0_27_0
abbrev r0_191 : Rect S2x2048x256 := Rect.unit (s := S2x2048x256) ![0, 864, 0] S1x32x256.size inb_S2x2048x256_S1x32x256_0_864_0
abbrev r0_192 : Rect S1x2x2048x256 := Rect.unit (s := S1x2x2048x256) ![0, 0, 864, 0] S1x1x32x256.size inb_S1x2x2048x256_S1x1x32x256_0_0_864_0
abbrev r0_193 : Rect S2x64x256 := Rect.unit (s := S2x64x256) ![1, 27, 0] S1x1x256.size inb_S2x64x256_S1x1x256_1_27_0
abbrev r0_194 : Rect S2x2048x256 := Rect.unit (s := S2x2048x256) ![1, 864, 0] S1x32x256.size inb_S2x2048x256_S1x32x256_1_864_0
abbrev r0_195 : Rect S1x2x2048x256 := Rect.unit (s := S1x2x2048x256) ![0, 1, 864, 0] S1x1x32x256.size inb_S1x2x2048x256_S1x1x32x256_0_1_864_0
abbrev r0_196 : Rect S2048x256 := Rect.unit (s := S2048x256) ![896, 0] S32x256.size inb_S2048x256_S32x256_896_0
abbrev r0_197 : Rect S2x64x256 := Rect.unit (s := S2x64x256) ![0, 28, 0] S1x1x256.size inb_S2x64x256_S1x1x256_0_28_0
abbrev r0_198 : Rect S2x2048x256 := Rect.unit (s := S2x2048x256) ![0, 896, 0] S1x32x256.size inb_S2x2048x256_S1x32x256_0_896_0
abbrev r0_199 : Rect S1x2x2048x256 := Rect.unit (s := S1x2x2048x256) ![0, 0, 896, 0] S1x1x32x256.size inb_S1x2x2048x256_S1x1x32x256_0_0_896_0
abbrev r0_200 : Rect S2x64x256 := Rect.unit (s := S2x64x256) ![1, 28, 0] S1x1x256.size inb_S2x64x256_S1x1x256_1_28_0
abbrev r0_201 : Rect S2x2048x256 := Rect.unit (s := S2x2048x256) ![1, 896, 0] S1x32x256.size inb_S2x2048x256_S1x32x256_1_896_0
abbrev r0_202 : Rect S1x2x2048x256 := Rect.unit (s := S1x2x2048x256) ![0, 1, 896, 0] S1x1x32x256.size inb_S1x2x2048x256_S1x1x32x256_0_1_896_0
abbrev r0_203 : Rect S2048x256 := Rect.unit (s := S2048x256) ![928, 0] S32x256.size inb_S2048x256_S32x256_928_0
abbrev r0_204 : Rect S2x64x256 := Rect.unit (s := S2x64x256) ![0, 29, 0] S1x1x256.size inb_S2x64x256_S1x1x256_0_29_0
abbrev r0_205 : Rect S2x2048x256 := Rect.unit (s := S2x2048x256) ![0, 928, 0] S1x32x256.size inb_S2x2048x256_S1x32x256_0_928_0
abbrev r0_206 : Rect S1x2x2048x256 := Rect.unit (s := S1x2x2048x256) ![0, 0, 928, 0] S1x1x32x256.size inb_S1x2x2048x256_S1x1x32x256_0_0_928_0
abbrev r0_207 : Rect S2x64x256 := Rect.unit (s := S2x64x256) ![1, 29, 0] S1x1x256.size inb_S2x64x256_S1x1x256_1_29_0
abbrev r0_208 : Rect S2x2048x256 := Rect.unit (s := S2x2048x256) ![1, 928, 0] S1x32x256.size inb_S2x2048x256_S1x32x256_1_928_0
abbrev r0_209 : Rect S1x2x2048x256 := Rect.unit (s := S1x2x2048x256) ![0, 1, 928, 0] S1x1x32x256.size inb_S1x2x2048x256_S1x1x32x256_0_1_928_0
abbrev r0_210 : Rect S2048x256 := Rect.unit (s := S2048x256) ![960, 0] S32x256.size inb_S2048x256_S32x256_960_0
abbrev r0_211 : Rect S2x64x256 := Rect.unit (s := S2x64x256) ![0, 30, 0] S1x1x256.size inb_S2x64x256_S1x1x256_0_30_0
abbrev r0_212 : Rect S2x2048x256 := Rect.unit (s := S2x2048x256) ![0, 960, 0] S1x32x256.size inb_S2x2048x256_S1x32x256_0_960_0
abbrev r0_213 : Rect S1x2x2048x256 := Rect.unit (s := S1x2x2048x256) ![0, 0, 960, 0] S1x1x32x256.size inb_S1x2x2048x256_S1x1x32x256_0_0_960_0
abbrev r0_214 : Rect S2x64x256 := Rect.unit (s := S2x64x256) ![1, 30, 0] S1x1x256.size inb_S2x64x256_S1x1x256_1_30_0
abbrev r0_215 : Rect S2x2048x256 := Rect.unit (s := S2x2048x256) ![1, 960, 0] S1x32x256.size inb_S2x2048x256_S1x32x256_1_960_0
abbrev r0_216 : Rect S1x2x2048x256 := Rect.unit (s := S1x2x2048x256) ![0, 1, 960, 0] S1x1x32x256.size inb_S1x2x2048x256_S1x1x32x256_0_1_960_0
abbrev r0_217 : Rect S2048x256 := Rect.unit (s := S2048x256) ![992, 0] S32x256.size inb_S2048x256_S32x256_992_0
abbrev r0_218 : Rect S2x64x256 := Rect.unit (s := S2x64x256) ![0, 31, 0] S1x1x256.size inb_S2x64x256_S1x1x256_0_31_0
abbrev r0_219 : Rect S2x2048x256 := Rect.unit (s := S2x2048x256) ![0, 992, 0] S1x32x256.size inb_S2x2048x256_S1x32x256_0_992_0
abbrev r0_220 : Rect S1x2x2048x256 := Rect.unit (s := S1x2x2048x256) ![0, 0, 992, 0] S1x1x32x256.size inb_S1x2x2048x256_S1x1x32x256_0_0_992_0
abbrev r0_221 : Rect S2x64x256 := Rect.unit (s := S2x64x256) ![1, 31, 0] S1x1x256.size inb_S2x64x256_S1x1x256_1_31_0
abbrev r0_222 : Rect S2x2048x256 := Rect.unit (s := S2x2048x256) ![1, 992, 0] S1x32x256.size inb_S2x2048x256_S1x32x256_1_992_0
abbrev r0_223 : Rect S1x2x2048x256 := Rect.unit (s := S1x2x2048x256) ![0, 1, 992, 0] S1x1x32x256.size inb_S1x2x2048x256_S1x1x32x256_0_1_992_0
abbrev r0_224 : Rect S2048x256 := Rect.unit (s := S2048x256) ![1024, 0] S32x256.size inb_S2048x256_S32x256_1024_0
abbrev r0_225 : Rect S2x64x256 := Rect.unit (s := S2x64x256) ![0, 32, 0] S1x1x256.size inb_S2x64x256_S1x1x256_0_32_0
abbrev r0_226 : Rect S2x2048x256 := Rect.unit (s := S2x2048x256) ![0, 1024, 0] S1x32x256.size inb_S2x2048x256_S1x32x256_0_1024_0
abbrev r0_227 : Rect S1x2x2048x256 := Rect.unit (s := S1x2x2048x256) ![0, 0, 1024, 0] S1x1x32x256.size inb_S1x2x2048x256_S1x1x32x256_0_0_1024_0
abbrev r0_228 : Rect S2x64x256 := Rect.unit (s := S2x64x256) ![1, 32, 0] S1x1x256.size inb_S2x64x256_S1x1x256_1_32_0
abbrev r0_229 : Rect S2x2048x256 := Rect.unit (s := S2x2048x256) ![1, 1024, 0] S1x32x256.size inb_S2x2048x256_S1x32x256_1_1024_0
abbrev r0_230 : Rect S1x2x2048x256 := Rect.unit (s := S1x2x2048x256) ![0, 1, 1024, 0] S1x1x32x256.size inb_S1x2x2048x256_S1x1x32x256_0_1_1024_0
abbrev r0_231 : Rect S2048x256 := Rect.unit (s := S2048x256) ![1056, 0] S32x256.size inb_S2048x256_S32x256_1056_0
abbrev r0_232 : Rect S2x64x256 := Rect.unit (s := S2x64x256) ![0, 33, 0] S1x1x256.size inb_S2x64x256_S1x1x256_0_33_0
abbrev r0_233 : Rect S2x2048x256 := Rect.unit (s := S2x2048x256) ![0, 1056, 0] S1x32x256.size inb_S2x2048x256_S1x32x256_0_1056_0
abbrev r0_234 : Rect S1x2x2048x256 := Rect.unit (s := S1x2x2048x256) ![0, 0, 1056, 0] S1x1x32x256.size inb_S1x2x2048x256_S1x1x32x256_0_0_1056_0
abbrev r0_235 : Rect S2x64x256 := Rect.unit (s := S2x64x256) ![1, 33, 0] S1x1x256.size inb_S2x64x256_S1x1x256_1_33_0
abbrev r0_236 : Rect S2x2048x256 := Rect.unit (s := S2x2048x256) ![1, 1056, 0] S1x32x256.size inb_S2x2048x256_S1x32x256_1_1056_0
abbrev r0_237 : Rect S1x2x2048x256 := Rect.unit (s := S1x2x2048x256) ![0, 1, 1056, 0] S1x1x32x256.size inb_S1x2x2048x256_S1x1x32x256_0_1_1056_0
abbrev r0_238 : Rect S2048x256 := Rect.unit (s := S2048x256) ![1088, 0] S32x256.size inb_S2048x256_S32x256_1088_0
abbrev r0_239 : Rect S2x64x256 := Rect.unit (s := S2x64x256) ![0, 34, 0] S1x1x256.size inb_S2x64x256_S1x1x256_0_34_0
abbrev r0_240 : Rect S2x2048x256 := Rect.unit (s := S2x2048x256) ![0, 1088, 0] S1x32x256.size inb_S2x2048x256_S1x32x256_0_1088_0
abbrev r0_241 : Rect S1x2x2048x256 := Rect.unit (s := S1x2x2048x256) ![0, 0, 1088, 0] S1x1x32x256.size inb_S1x2x2048x256_S1x1x32x256_0_0_1088_0
abbrev r0_242 : Rect S2x64x256 := Rect.unit (s := S2x64x256) ![1, 34, 0] S1x1x256.size inb_S2x64x256_S1x1x256_1_34_0
abbrev r0_243 : Rect S2x2048x256 := Rect.unit (s := S2x2048x256) ![1, 1088, 0] S1x32x256.size inb_S2x2048x256_S1x32x256_1_1088_0
abbrev r0_244 : Rect S1x2x2048x256 := Rect.unit (s := S1x2x2048x256) ![0, 1, 1088, 0] S1x1x32x256.size inb_S1x2x2048x256_S1x1x32x256_0_1_1088_0
abbrev r0_245 : Rect S2048x256 := Rect.unit (s := S2048x256) ![1120, 0] S32x256.size inb_S2048x256_S32x256_1120_0
abbrev r0_246 : Rect S2x64x256 := Rect.unit (s := S2x64x256) ![0, 35, 0] S1x1x256.size inb_S2x64x256_S1x1x256_0_35_0
abbrev r0_247 : Rect S2x2048x256 := Rect.unit (s := S2x2048x256) ![0, 1120, 0] S1x32x256.size inb_S2x2048x256_S1x32x256_0_1120_0
abbrev r0_248 : Rect S1x2x2048x256 := Rect.unit (s := S1x2x2048x256) ![0, 0, 1120, 0] S1x1x32x256.size inb_S1x2x2048x256_S1x1x32x256_0_0_1120_0
abbrev r0_249 : Rect S2x64x256 := Rect.unit (s := S2x64x256) ![1, 35, 0] S1x1x256.size inb_S2x64x256_S1x1x256_1_35_0
abbrev r0_250 : Rect S2x2048x256 := Rect.unit (s := S2x2048x256) ![1, 1120, 0] S1x32x256.size inb_S2x2048x256_S1x32x256_1_1120_0
abbrev r0_251 : Rect S1x2x2048x256 := Rect.unit (s := S1x2x2048x256) ![0, 1, 1120, 0] S1x1x32x256.size inb_S1x2x2048x256_S1x1x32x256_0_1_1120_0
abbrev r0_252 : Rect S2048x256 := Rect.unit (s := S2048x256) ![1152, 0] S32x256.size inb_S2048x256_S32x256_1152_0
abbrev r0_253 : Rect S2x64x256 := Rect.unit (s := S2x64x256) ![0, 36, 0] S1x1x256.size inb_S2x64x256_S1x1x256_0_36_0
abbrev r0_254 : Rect S2x2048x256 := Rect.unit (s := S2x2048x256) ![0, 1152, 0] S1x32x256.size inb_S2x2048x256_S1x32x256_0_1152_0
abbrev r0_255 : Rect S1x2x2048x256 := Rect.unit (s := S1x2x2048x256) ![0, 0, 1152, 0] S1x1x32x256.size inb_S1x2x2048x256_S1x1x32x256_0_0_1152_0
abbrev r0_256 : Rect S2x64x256 := Rect.unit (s := S2x64x256) ![1, 36, 0] S1x1x256.size inb_S2x64x256_S1x1x256_1_36_0
abbrev r0_257 : Rect S2x2048x256 := Rect.unit (s := S2x2048x256) ![1, 1152, 0] S1x32x256.size inb_S2x2048x256_S1x32x256_1_1152_0
abbrev r0_258 : Rect S1x2x2048x256 := Rect.unit (s := S1x2x2048x256) ![0, 1, 1152, 0] S1x1x32x256.size inb_S1x2x2048x256_S1x1x32x256_0_1_1152_0
abbrev r0_259 : Rect S2048x256 := Rect.unit (s := S2048x256) ![1184, 0] S32x256.size inb_S2048x256_S32x256_1184_0
abbrev r0_260 : Rect S2x64x256 := Rect.unit (s := S2x64x256) ![0, 37, 0] S1x1x256.size inb_S2x64x256_S1x1x256_0_37_0
abbrev r0_261 : Rect S2x2048x256 := Rect.unit (s := S2x2048x256) ![0, 1184, 0] S1x32x256.size inb_S2x2048x256_S1x32x256_0_1184_0
abbrev r0_262 : Rect S1x2x2048x256 := Rect.unit (s := S1x2x2048x256) ![0, 0, 1184, 0] S1x1x32x256.size inb_S1x2x2048x256_S1x1x32x256_0_0_1184_0
abbrev r0_263 : Rect S2x64x256 := Rect.unit (s := S2x64x256) ![1, 37, 0] S1x1x256.size inb_S2x64x256_S1x1x256_1_37_0
abbrev r0_264 : Rect S2x2048x256 := Rect.unit (s := S2x2048x256) ![1, 1184, 0] S1x32x256.size inb_S2x2048x256_S1x32x256_1_1184_0
abbrev r0_265 : Rect S1x2x2048x256 := Rect.unit (s := S1x2x2048x256) ![0, 1, 1184, 0] S1x1x32x256.size inb_S1x2x2048x256_S1x1x32x256_0_1_1184_0
abbrev r0_266 : Rect S2048x256 := Rect.unit (s := S2048x256) ![1216, 0] S32x256.size inb_S2048x256_S32x256_1216_0
abbrev r0_267 : Rect S2x64x256 := Rect.unit (s := S2x64x256) ![0, 38, 0] S1x1x256.size inb_S2x64x256_S1x1x256_0_38_0
abbrev r0_268 : Rect S2x2048x256 := Rect.unit (s := S2x2048x256) ![0, 1216, 0] S1x32x256.size inb_S2x2048x256_S1x32x256_0_1216_0
abbrev r0_269 : Rect S1x2x2048x256 := Rect.unit (s := S1x2x2048x256) ![0, 0, 1216, 0] S1x1x32x256.size inb_S1x2x2048x256_S1x1x32x256_0_0_1216_0
abbrev r0_270 : Rect S2x64x256 := Rect.unit (s := S2x64x256) ![1, 38, 0] S1x1x256.size inb_S2x64x256_S1x1x256_1_38_0
abbrev r0_271 : Rect S2x2048x256 := Rect.unit (s := S2x2048x256) ![1, 1216, 0] S1x32x256.size inb_S2x2048x256_S1x32x256_1_1216_0
abbrev r0_272 : Rect S1x2x2048x256 := Rect.unit (s := S1x2x2048x256) ![0, 1, 1216, 0] S1x1x32x256.size inb_S1x2x2048x256_S1x1x32x256_0_1_1216_0
abbrev r0_273 : Rect S2048x256 := Rect.unit (s := S2048x256) ![1248, 0] S32x256.size inb_S2048x256_S32x256_1248_0
abbrev r0_274 : Rect S2x64x256 := Rect.unit (s := S2x64x256) ![0, 39, 0] S1x1x256.size inb_S2x64x256_S1x1x256_0_39_0
abbrev r0_275 : Rect S2x2048x256 := Rect.unit (s := S2x2048x256) ![0, 1248, 0] S1x32x256.size inb_S2x2048x256_S1x32x256_0_1248_0
abbrev r0_276 : Rect S1x2x2048x256 := Rect.unit (s := S1x2x2048x256) ![0, 0, 1248, 0] S1x1x32x256.size inb_S1x2x2048x256_S1x1x32x256_0_0_1248_0
abbrev r0_277 : Rect S2x64x256 := Rect.unit (s := S2x64x256) ![1, 39, 0] S1x1x256.size inb_S2x64x256_S1x1x256_1_39_0
abbrev r0_278 : Rect S2x2048x256 := Rect.unit (s := S2x2048x256) ![1, 1248, 0] S1x32x256.size inb_S2x2048x256_S1x32x256_1_1248_0
abbrev r0_279 : Rect S1x2x2048x256 := Rect.unit (s := S1x2x2048x256) ![0, 1, 1248, 0] S1x1x32x256.size inb_S1x2x2048x256_S1x1x32x256_0_1_1248_0
abbrev r0_280 : Rect S2048x256 := Rect.unit (s := S2048x256) ![1280, 0] S32x256.size inb_S2048x256_S32x256_1280_0
abbrev r0_281 : Rect S2x64x256 := Rect.unit (s := S2x64x256) ![0, 40, 0] S1x1x256.size inb_S2x64x256_S1x1x256_0_40_0
abbrev r0_282 : Rect S2x2048x256 := Rect.unit (s := S2x2048x256) ![0, 1280, 0] S1x32x256.size inb_S2x2048x256_S1x32x256_0_1280_0
abbrev r0_283 : Rect S1x2x2048x256 := Rect.unit (s := S1x2x2048x256) ![0, 0, 1280, 0] S1x1x32x256.size inb_S1x2x2048x256_S1x1x32x256_0_0_1280_0
abbrev r0_284 : Rect S2x64x256 := Rect.unit (s := S2x64x256) ![1, 40, 0] S1x1x256.size inb_S2x64x256_S1x1x256_1_40_0
abbrev r0_285 : Rect S2x2048x256 := Rect.unit (s := S2x2048x256) ![1, 1280, 0] S1x32x256.size inb_S2x2048x256_S1x32x256_1_1280_0
abbrev r0_286 : Rect S1x2x2048x256 := Rect.unit (s := S1x2x2048x256) ![0, 1, 1280, 0] S1x1x32x256.size inb_S1x2x2048x256_S1x1x32x256_0_1_1280_0
abbrev r0_287 : Rect S2048x256 := Rect.unit (s := S2048x256) ![1312, 0] S32x256.size inb_S2048x256_S32x256_1312_0
abbrev r0_288 : Rect S2x64x256 := Rect.unit (s := S2x64x256) ![0, 41, 0] S1x1x256.size inb_S2x64x256_S1x1x256_0_41_0
abbrev r0_289 : Rect S2x2048x256 := Rect.unit (s := S2x2048x256) ![0, 1312, 0] S1x32x256.size inb_S2x2048x256_S1x32x256_0_1312_0
abbrev r0_290 : Rect S1x2x2048x256 := Rect.unit (s := S1x2x2048x256) ![0, 0, 1312, 0] S1x1x32x256.size inb_S1x2x2048x256_S1x1x32x256_0_0_1312_0
abbrev r0_291 : Rect S2x64x256 := Rect.unit (s := S2x64x256) ![1, 41, 0] S1x1x256.size inb_S2x64x256_S1x1x256_1_41_0
abbrev r0_292 : Rect S2x2048x256 := Rect.unit (s := S2x2048x256) ![1, 1312, 0] S1x32x256.size inb_S2x2048x256_S1x32x256_1_1312_0
abbrev r0_293 : Rect S1x2x2048x256 := Rect.unit (s := S1x2x2048x256) ![0, 1, 1312, 0] S1x1x32x256.size inb_S1x2x2048x256_S1x1x32x256_0_1_1312_0
abbrev r0_294 : Rect S2048x256 := Rect.unit (s := S2048x256) ![1344, 0] S32x256.size inb_S2048x256_S32x256_1344_0
abbrev r0_295 : Rect S2x64x256 := Rect.unit (s := S2x64x256) ![0, 42, 0] S1x1x256.size inb_S2x64x256_S1x1x256_0_42_0
abbrev r0_296 : Rect S2x2048x256 := Rect.unit (s := S2x2048x256) ![0, 1344, 0] S1x32x256.size inb_S2x2048x256_S1x32x256_0_1344_0
abbrev r0_297 : Rect S1x2x2048x256 := Rect.unit (s := S1x2x2048x256) ![0, 0, 1344, 0] S1x1x32x256.size inb_S1x2x2048x256_S1x1x32x256_0_0_1344_0
abbrev r0_298 : Rect S2x64x256 := Rect.unit (s := S2x64x256) ![1, 42, 0] S1x1x256.size inb_S2x64x256_S1x1x256_1_42_0
abbrev r0_299 : Rect S2x2048x256 := Rect.unit (s := S2x2048x256) ![1, 1344, 0] S1x32x256.size inb_S2x2048x256_S1x32x256_1_1344_0
abbrev r0_300 : Rect S1x2x2048x256 := Rect.unit (s := S1x2x2048x256) ![0, 1, 1344, 0] S1x1x32x256.size inb_S1x2x2048x256_S1x1x32x256_0_1_1344_0
abbrev r0_301 : Rect S2048x256 := Rect.unit (s := S2048x256) ![1376, 0] S32x256.size inb_S2048x256_S32x256_1376_0
abbrev r0_302 : Rect S2x64x256 := Rect.unit (s := S2x64x256) ![0, 43, 0] S1x1x256.size inb_S2x64x256_S1x1x256_0_43_0
abbrev r0_303 : Rect S2x2048x256 := Rect.unit (s := S2x2048x256) ![0, 1376, 0] S1x32x256.size inb_S2x2048x256_S1x32x256_0_1376_0
abbrev r0_304 : Rect S1x2x2048x256 := Rect.unit (s := S1x2x2048x256) ![0, 0, 1376, 0] S1x1x32x256.size inb_S1x2x2048x256_S1x1x32x256_0_0_1376_0
abbrev r0_305 : Rect S2x64x256 := Rect.unit (s := S2x64x256) ![1, 43, 0] S1x1x256.size inb_S2x64x256_S1x1x256_1_43_0
abbrev r0_306 : Rect S2x2048x256 := Rect.unit (s := S2x2048x256) ![1, 1376, 0] S1x32x256.size inb_S2x2048x256_S1x32x256_1_1376_0
abbrev r0_307 : Rect S1x2x2048x256 := Rect.unit (s := S1x2x2048x256) ![0, 1, 1376, 0] S1x1x32x256.size inb_S1x2x2048x256_S1x1x32x256_0_1_1376_0
abbrev r0_308 : Rect S2048x256 := Rect.unit (s := S2048x256) ![1408, 0] S32x256.size inb_S2048x256_S32x256_1408_0
abbrev r0_309 : Rect S2x64x256 := Rect.unit (s := S2x64x256) ![0, 44, 0] S1x1x256.size inb_S2x64x256_S1x1x256_0_44_0
abbrev r0_310 : Rect S2x2048x256 := Rect.unit (s := S2x2048x256) ![0, 1408, 0] S1x32x256.size inb_S2x2048x256_S1x32x256_0_1408_0
abbrev r0_311 : Rect S1x2x2048x256 := Rect.unit (s := S1x2x2048x256) ![0, 0, 1408, 0] S1x1x32x256.size inb_S1x2x2048x256_S1x1x32x256_0_0_1408_0
abbrev r0_312 : Rect S2x64x256 := Rect.unit (s := S2x64x256) ![1, 44, 0] S1x1x256.size inb_S2x64x256_S1x1x256_1_44_0
abbrev r0_313 : Rect S2x2048x256 := Rect.unit (s := S2x2048x256) ![1, 1408, 0] S1x32x256.size inb_S2x2048x256_S1x32x256_1_1408_0
abbrev r0_314 : Rect S1x2x2048x256 := Rect.unit (s := S1x2x2048x256) ![0, 1, 1408, 0] S1x1x32x256.size inb_S1x2x2048x256_S1x1x32x256_0_1_1408_0
abbrev r0_315 : Rect S2048x256 := Rect.unit (s := S2048x256) ![1440, 0] S32x256.size inb_S2048x256_S32x256_1440_0
abbrev r0_316 : Rect S2x64x256 := Rect.unit (s := S2x64x256) ![0, 45, 0] S1x1x256.size inb_S2x64x256_S1x1x256_0_45_0
abbrev r0_317 : Rect S2x2048x256 := Rect.unit (s := S2x2048x256) ![0, 1440, 0] S1x32x256.size inb_S2x2048x256_S1x32x256_0_1440_0
abbrev r0_318 : Rect S1x2x2048x256 := Rect.unit (s := S1x2x2048x256) ![0, 0, 1440, 0] S1x1x32x256.size inb_S1x2x2048x256_S1x1x32x256_0_0_1440_0
abbrev r0_319 : Rect S2x64x256 := Rect.unit (s := S2x64x256) ![1, 45, 0] S1x1x256.size inb_S2x64x256_S1x1x256_1_45_0
abbrev r0_320 : Rect S2x2048x256 := Rect.unit (s := S2x2048x256) ![1, 1440, 0] S1x32x256.size inb_S2x2048x256_S1x32x256_1_1440_0
abbrev r0_321 : Rect S1x2x2048x256 := Rect.unit (s := S1x2x2048x256) ![0, 1, 1440, 0] S1x1x32x256.size inb_S1x2x2048x256_S1x1x32x256_0_1_1440_0
abbrev r0_322 : Rect S2048x256 := Rect.unit (s := S2048x256) ![1472, 0] S32x256.size inb_S2048x256_S32x256_1472_0
abbrev r0_323 : Rect S2x64x256 := Rect.unit (s := S2x64x256) ![0, 46, 0] S1x1x256.size inb_S2x64x256_S1x1x256_0_46_0
abbrev r0_324 : Rect S2x2048x256 := Rect.unit (s := S2x2048x256) ![0, 1472, 0] S1x32x256.size inb_S2x2048x256_S1x32x256_0_1472_0
abbrev r0_325 : Rect S1x2x2048x256 := Rect.unit (s := S1x2x2048x256) ![0, 0, 1472, 0] S1x1x32x256.size inb_S1x2x2048x256_S1x1x32x256_0_0_1472_0
abbrev r0_326 : Rect S2x64x256 := Rect.unit (s := S2x64x256) ![1, 46, 0] S1x1x256.size inb_S2x64x256_S1x1x256_1_46_0
abbrev r0_327 : Rect S2x2048x256 := Rect.unit (s := S2x2048x256) ![1, 1472, 0] S1x32x256.size inb_S2x2048x256_S1x32x256_1_1472_0
abbrev r0_328 : Rect S1x2x2048x256 := Rect.unit (s := S1x2x2048x256) ![0, 1, 1472, 0] S1x1x32x256.size inb_S1x2x2048x256_S1x1x32x256_0_1_1472_0
abbrev r0_329 : Rect S2048x256 := Rect.unit (s := S2048x256) ![1504, 0] S32x256.size inb_S2048x256_S32x256_1504_0
abbrev r0_330 : Rect S2x64x256 := Rect.unit (s := S2x64x256) ![0, 47, 0] S1x1x256.size inb_S2x64x256_S1x1x256_0_47_0
abbrev r0_331 : Rect S2x2048x256 := Rect.unit (s := S2x2048x256) ![0, 1504, 0] S1x32x256.size inb_S2x2048x256_S1x32x256_0_1504_0
abbrev r0_332 : Rect S1x2x2048x256 := Rect.unit (s := S1x2x2048x256) ![0, 0, 1504, 0] S1x1x32x256.size inb_S1x2x2048x256_S1x1x32x256_0_0_1504_0
abbrev r0_333 : Rect S2x64x256 := Rect.unit (s := S2x64x256) ![1, 47, 0] S1x1x256.size inb_S2x64x256_S1x1x256_1_47_0
abbrev r0_334 : Rect S2x2048x256 := Rect.unit (s := S2x2048x256) ![1, 1504, 0] S1x32x256.size inb_S2x2048x256_S1x32x256_1_1504_0
abbrev r0_335 : Rect S1x2x2048x256 := Rect.unit (s := S1x2x2048x256) ![0, 1, 1504, 0] S1x1x32x256.size inb_S1x2x2048x256_S1x1x32x256_0_1_1504_0
abbrev r0_336 : Rect S2048x256 := Rect.unit (s := S2048x256) ![1536, 0] S32x256.size inb_S2048x256_S32x256_1536_0
abbrev r0_337 : Rect S2x64x256 := Rect.unit (s := S2x64x256) ![0, 48, 0] S1x1x256.size inb_S2x64x256_S1x1x256_0_48_0
abbrev r0_338 : Rect S2x2048x256 := Rect.unit (s := S2x2048x256) ![0, 1536, 0] S1x32x256.size inb_S2x2048x256_S1x32x256_0_1536_0
abbrev r0_339 : Rect S1x2x2048x256 := Rect.unit (s := S1x2x2048x256) ![0, 0, 1536, 0] S1x1x32x256.size inb_S1x2x2048x256_S1x1x32x256_0_0_1536_0
abbrev r0_340 : Rect S2x64x256 := Rect.unit (s := S2x64x256) ![1, 48, 0] S1x1x256.size inb_S2x64x256_S1x1x256_1_48_0
abbrev r0_341 : Rect S2x2048x256 := Rect.unit (s := S2x2048x256) ![1, 1536, 0] S1x32x256.size inb_S2x2048x256_S1x32x256_1_1536_0
abbrev r0_342 : Rect S1x2x2048x256 := Rect.unit (s := S1x2x2048x256) ![0, 1, 1536, 0] S1x1x32x256.size inb_S1x2x2048x256_S1x1x32x256_0_1_1536_0
abbrev r0_343 : Rect S2048x256 := Rect.unit (s := S2048x256) ![1568, 0] S32x256.size inb_S2048x256_S32x256_1568_0
abbrev r0_344 : Rect S2x64x256 := Rect.unit (s := S2x64x256) ![0, 49, 0] S1x1x256.size inb_S2x64x256_S1x1x256_0_49_0
abbrev r0_345 : Rect S2x2048x256 := Rect.unit (s := S2x2048x256) ![0, 1568, 0] S1x32x256.size inb_S2x2048x256_S1x32x256_0_1568_0
abbrev r0_346 : Rect S1x2x2048x256 := Rect.unit (s := S1x2x2048x256) ![0, 0, 1568, 0] S1x1x32x256.size inb_S1x2x2048x256_S1x1x32x256_0_0_1568_0
abbrev r0_347 : Rect S2x64x256 := Rect.unit (s := S2x64x256) ![1, 49, 0] S1x1x256.size inb_S2x64x256_S1x1x256_1_49_0
abbrev r0_348 : Rect S2x2048x256 := Rect.unit (s := S2x2048x256) ![1, 1568, 0] S1x32x256.size inb_S2x2048x256_S1x32x256_1_1568_0
abbrev r0_349 : Rect S1x2x2048x256 := Rect.unit (s := S1x2x2048x256) ![0, 1, 1568, 0] S1x1x32x256.size inb_S1x2x2048x256_S1x1x32x256_0_1_1568_0
abbrev r0_350 : Rect S2048x256 := Rect.unit (s := S2048x256) ![1600, 0] S32x256.size inb_S2048x256_S32x256_1600_0
abbrev r0_351 : Rect S2x64x256 := Rect.unit (s := S2x64x256) ![0, 50, 0] S1x1x256.size inb_S2x64x256_S1x1x256_0_50_0
abbrev r0_352 : Rect S2x2048x256 := Rect.unit (s := S2x2048x256) ![0, 1600, 0] S1x32x256.size inb_S2x2048x256_S1x32x256_0_1600_0
abbrev r0_353 : Rect S1x2x2048x256 := Rect.unit (s := S1x2x2048x256) ![0, 0, 1600, 0] S1x1x32x256.size inb_S1x2x2048x256_S1x1x32x256_0_0_1600_0
abbrev r0_354 : Rect S2x64x256 := Rect.unit (s := S2x64x256) ![1, 50, 0] S1x1x256.size inb_S2x64x256_S1x1x256_1_50_0
abbrev r0_355 : Rect S2x2048x256 := Rect.unit (s := S2x2048x256) ![1, 1600, 0] S1x32x256.size inb_S2x2048x256_S1x32x256_1_1600_0
abbrev r0_356 : Rect S1x2x2048x256 := Rect.unit (s := S1x2x2048x256) ![0, 1, 1600, 0] S1x1x32x256.size inb_S1x2x2048x256_S1x1x32x256_0_1_1600_0
abbrev r0_357 : Rect S2048x256 := Rect.unit (s := S2048x256) ![1632, 0] S32x256.size inb_S2048x256_S32x256_1632_0
abbrev r0_358 : Rect S2x64x256 := Rect.unit (s := S2x64x256) ![0, 51, 0] S1x1x256.size inb_S2x64x256_S1x1x256_0_51_0
abbrev r0_359 : Rect S2x2048x256 := Rect.unit (s := S2x2048x256) ![0, 1632, 0] S1x32x256.size inb_S2x2048x256_S1x32x256_0_1632_0
abbrev r0_360 : Rect S1x2x2048x256 := Rect.unit (s := S1x2x2048x256) ![0, 0, 1632, 0] S1x1x32x256.size inb_S1x2x2048x256_S1x1x32x256_0_0_1632_0
abbrev r0_361 : Rect S2x64x256 := Rect.unit (s := S2x64x256) ![1, 51, 0] S1x1x256.size inb_S2x64x256_S1x1x256_1_51_0
abbrev r0_362 : Rect S2x2048x256 := Rect.unit (s := S2x2048x256) ![1, 1632, 0] S1x32x256.size inb_S2x2048x256_S1x32x256_1_1632_0
abbrev r0_363 : Rect S1x2x2048x256 := Rect.unit (s := S1x2x2048x256) ![0, 1, 1632, 0] S1x1x32x256.size inb_S1x2x2048x256_S1x1x32x256_0_1_1632_0
abbrev r0_364 : Rect S2048x256 := Rect.unit (s := S2048x256) ![1664, 0] S32x256.size inb_S2048x256_S32x256_1664_0
abbrev r0_365 : Rect S2x64x256 := Rect.unit (s := S2x64x256) ![0, 52, 0] S1x1x256.size inb_S2x64x256_S1x1x256_0_52_0
abbrev r0_366 : Rect S2x2048x256 := Rect.unit (s := S2x2048x256) ![0, 1664, 0] S1x32x256.size inb_S2x2048x256_S1x32x256_0_1664_0
abbrev r0_367 : Rect S1x2x2048x256 := Rect.unit (s := S1x2x2048x256) ![0, 0, 1664, 0] S1x1x32x256.size inb_S1x2x2048x256_S1x1x32x256_0_0_1664_0
abbrev r0_368 : Rect S2x64x256 := Rect.unit (s := S2x64x256) ![1, 52, 0] S1x1x256.size inb_S2x64x256_S1x1x256_1_52_0
abbrev r0_369 : Rect S2x2048x256 := Rect.unit (s := S2x2048x256) ![1, 1664, 0] S1x32x256.size inb_S2x2048x256_S1x32x256_1_1664_0
abbrev r0_370 : Rect S1x2x2048x256 := Rect.unit (s := S1x2x2048x256) ![0, 1, 1664, 0] S1x1x32x256.size inb_S1x2x2048x256_S1x1x32x256_0_1_1664_0
abbrev r0_371 : Rect S2048x256 := Rect.unit (s := S2048x256) ![1696, 0] S32x256.size inb_S2048x256_S32x256_1696_0
abbrev r0_372 : Rect S2x64x256 := Rect.unit (s := S2x64x256) ![0, 53, 0] S1x1x256.size inb_S2x64x256_S1x1x256_0_53_0
abbrev r0_373 : Rect S2x2048x256 := Rect.unit (s := S2x2048x256) ![0, 1696, 0] S1x32x256.size inb_S2x2048x256_S1x32x256_0_1696_0
abbrev r0_374 : Rect S1x2x2048x256 := Rect.unit (s := S1x2x2048x256) ![0, 0, 1696, 0] S1x1x32x256.size inb_S1x2x2048x256_S1x1x32x256_0_0_1696_0
abbrev r0_375 : Rect S2x64x256 := Rect.unit (s := S2x64x256) ![1, 53, 0] S1x1x256.size inb_S2x64x256_S1x1x256_1_53_0
abbrev r0_376 : Rect S2x2048x256 := Rect.unit (s := S2x2048x256) ![1, 1696, 0] S1x32x256.size inb_S2x2048x256_S1x32x256_1_1696_0
abbrev r0_377 : Rect S1x2x2048x256 := Rect.unit (s := S1x2x2048x256) ![0, 1, 1696, 0] S1x1x32x256.size inb_S1x2x2048x256_S1x1x32x256_0_1_1696_0
abbrev r0_378 : Rect S2048x256 := Rect.unit (s := S2048x256) ![1728, 0] S32x256.size inb_S2048x256_S32x256_1728_0
abbrev r0_379 : Rect S2x64x256 := Rect.unit (s := S2x64x256) ![0, 54, 0] S1x1x256.size inb_S2x64x256_S1x1x256_0_54_0
abbrev r0_380 : Rect S2x2048x256 := Rect.unit (s := S2x2048x256) ![0, 1728, 0] S1x32x256.size inb_S2x2048x256_S1x32x256_0_1728_0
abbrev r0_381 : Rect S1x2x2048x256 := Rect.unit (s := S1x2x2048x256) ![0, 0, 1728, 0] S1x1x32x256.size inb_S1x2x2048x256_S1x1x32x256_0_0_1728_0
abbrev r0_382 : Rect S2x64x256 := Rect.unit (s := S2x64x256) ![1, 54, 0] S1x1x256.size inb_S2x64x256_S1x1x256_1_54_0
abbrev r0_383 : Rect S2x2048x256 := Rect.unit (s := S2x2048x256) ![1, 1728, 0] S1x32x256.size inb_S2x2048x256_S1x32x256_1_1728_0
abbrev r0_384 : Rect S1x2x2048x256 := Rect.unit (s := S1x2x2048x256) ![0, 1, 1728, 0] S1x1x32x256.size inb_S1x2x2048x256_S1x1x32x256_0_1_1728_0
abbrev r0_385 : Rect S2048x256 := Rect.unit (s := S2048x256) ![1760, 0] S32x256.size inb_S2048x256_S32x256_1760_0
abbrev r0_386 : Rect S2x64x256 := Rect.unit (s := S2x64x256) ![0, 55, 0] S1x1x256.size inb_S2x64x256_S1x1x256_0_55_0
abbrev r0_387 : Rect S2x2048x256 := Rect.unit (s := S2x2048x256) ![0, 1760, 0] S1x32x256.size inb_S2x2048x256_S1x32x256_0_1760_0
abbrev r0_388 : Rect S1x2x2048x256 := Rect.unit (s := S1x2x2048x256) ![0, 0, 1760, 0] S1x1x32x256.size inb_S1x2x2048x256_S1x1x32x256_0_0_1760_0
abbrev r0_389 : Rect S2x64x256 := Rect.unit (s := S2x64x256) ![1, 55, 0] S1x1x256.size inb_S2x64x256_S1x1x256_1_55_0
abbrev r0_390 : Rect S2x2048x256 := Rect.unit (s := S2x2048x256) ![1, 1760, 0] S1x32x256.size inb_S2x2048x256_S1x32x256_1_1760_0
abbrev r0_391 : Rect S1x2x2048x256 := Rect.unit (s := S1x2x2048x256) ![0, 1, 1760, 0] S1x1x32x256.size inb_S1x2x2048x256_S1x1x32x256_0_1_1760_0
abbrev r0_392 : Rect S2048x256 := Rect.unit (s := S2048x256) ![1792, 0] S32x256.size inb_S2048x256_S32x256_1792_0
abbrev r0_393 : Rect S2x64x256 := Rect.unit (s := S2x64x256) ![0, 56, 0] S1x1x256.size inb_S2x64x256_S1x1x256_0_56_0
abbrev r0_394 : Rect S2x2048x256 := Rect.unit (s := S2x2048x256) ![0, 1792, 0] S1x32x256.size inb_S2x2048x256_S1x32x256_0_1792_0
abbrev r0_395 : Rect S1x2x2048x256 := Rect.unit (s := S1x2x2048x256) ![0, 0, 1792, 0] S1x1x32x256.size inb_S1x2x2048x256_S1x1x32x256_0_0_1792_0
abbrev r0_396 : Rect S2x64x256 := Rect.unit (s := S2x64x256) ![1, 56, 0] S1x1x256.size inb_S2x64x256_S1x1x256_1_56_0
abbrev r0_397 : Rect S2x2048x256 := Rect.unit (s := S2x2048x256) ![1, 1792, 0] S1x32x256.size inb_S2x2048x256_S1x32x256_1_1792_0
abbrev r0_398 : Rect S1x2x2048x256 := Rect.unit (s := S1x2x2048x256) ![0, 1, 1792, 0] S1x1x32x256.size inb_S1x2x2048x256_S1x1x32x256_0_1_1792_0
abbrev r0_399 : Rect S2048x256 := Rect.unit (s := S2048x256) ![1824, 0] S32x256.size inb_S2048x256_S32x256_1824_0
abbrev r0_400 : Rect S2x64x256 := Rect.unit (s := S2x64x256) ![0, 57, 0] S1x1x256.size inb_S2x64x256_S1x1x256_0_57_0
abbrev r0_401 : Rect S2x2048x256 := Rect.unit (s := S2x2048x256) ![0, 1824, 0] S1x32x256.size inb_S2x2048x256_S1x32x256_0_1824_0
abbrev r0_402 : Rect S1x2x2048x256 := Rect.unit (s := S1x2x2048x256) ![0, 0, 1824, 0] S1x1x32x256.size inb_S1x2x2048x256_S1x1x32x256_0_0_1824_0
abbrev r0_403 : Rect S2x64x256 := Rect.unit (s := S2x64x256) ![1, 57, 0] S1x1x256.size inb_S2x64x256_S1x1x256_1_57_0
abbrev r0_404 : Rect S2x2048x256 := Rect.unit (s := S2x2048x256) ![1, 1824, 0] S1x32x256.size inb_S2x2048x256_S1x32x256_1_1824_0
abbrev r0_405 : Rect S1x2x2048x256 := Rect.unit (s := S1x2x2048x256) ![0, 1, 1824, 0] S1x1x32x256.size inb_S1x2x2048x256_S1x1x32x256_0_1_1824_0
abbrev r0_406 : Rect S2048x256 := Rect.unit (s := S2048x256) ![1856, 0] S32x256.size inb_S2048x256_S32x256_1856_0
abbrev r0_407 : Rect S2x64x256 := Rect.unit (s := S2x64x256) ![0, 58, 0] S1x1x256.size inb_S2x64x256_S1x1x256_0_58_0
abbrev r0_408 : Rect S2x2048x256 := Rect.unit (s := S2x2048x256) ![0, 1856, 0] S1x32x256.size inb_S2x2048x256_S1x32x256_0_1856_0
abbrev r0_409 : Rect S1x2x2048x256 := Rect.unit (s := S1x2x2048x256) ![0, 0, 1856, 0] S1x1x32x256.size inb_S1x2x2048x256_S1x1x32x256_0_0_1856_0
abbrev r0_410 : Rect S2x64x256 := Rect.unit (s := S2x64x256) ![1, 58, 0] S1x1x256.size inb_S2x64x256_S1x1x256_1_58_0
abbrev r0_411 : Rect S2x2048x256 := Rect.unit (s := S2x2048x256) ![1, 1856, 0] S1x32x256.size inb_S2x2048x256_S1x32x256_1_1856_0
abbrev r0_412 : Rect S1x2x2048x256 := Rect.unit (s := S1x2x2048x256) ![0, 1, 1856, 0] S1x1x32x256.size inb_S1x2x2048x256_S1x1x32x256_0_1_1856_0
abbrev r0_413 : Rect S2048x256 := Rect.unit (s := S2048x256) ![1888, 0] S32x256.size inb_S2048x256_S32x256_1888_0
abbrev r0_414 : Rect S2x64x256 := Rect.unit (s := S2x64x256) ![0, 59, 0] S1x1x256.size inb_S2x64x256_S1x1x256_0_59_0
abbrev r0_415 : Rect S2x2048x256 := Rect.unit (s := S2x2048x256) ![0, 1888, 0] S1x32x256.size inb_S2x2048x256_S1x32x256_0_1888_0
abbrev r0_416 : Rect S1x2x2048x256 := Rect.unit (s := S1x2x2048x256) ![0, 0, 1888, 0] S1x1x32x256.size inb_S1x2x2048x256_S1x1x32x256_0_0_1888_0
abbrev r0_417 : Rect S2x64x256 := Rect.unit (s := S2x64x256) ![1, 59, 0] S1x1x256.size inb_S2x64x256_S1x1x256_1_59_0
abbrev r0_418 : Rect S2x2048x256 := Rect.unit (s := S2x2048x256) ![1, 1888, 0] S1x32x256.size inb_S2x2048x256_S1x32x256_1_1888_0
abbrev r0_419 : Rect S1x2x2048x256 := Rect.unit (s := S1x2x2048x256) ![0, 1, 1888, 0] S1x1x32x256.size inb_S1x2x2048x256_S1x1x32x256_0_1_1888_0
abbrev r0_420 : Rect S2048x256 := Rect.unit (s := S2048x256) ![1920, 0] S32x256.size inb_S2048x256_S32x256_1920_0
abbrev r0_421 : Rect S2x64x256 := Rect.unit (s := S2x64x256) ![0, 60, 0] S1x1x256.size inb_S2x64x256_S1x1x256_0_60_0
abbrev r0_422 : Rect S2x2048x256 := Rect.unit (s := S2x2048x256) ![0, 1920, 0] S1x32x256.size inb_S2x2048x256_S1x32x256_0_1920_0
abbrev r0_423 : Rect S1x2x2048x256 := Rect.unit (s := S1x2x2048x256) ![0, 0, 1920, 0] S1x1x32x256.size inb_S1x2x2048x256_S1x1x32x256_0_0_1920_0
abbrev r0_424 : Rect S2x64x256 := Rect.unit (s := S2x64x256) ![1, 60, 0] S1x1x256.size inb_S2x64x256_S1x1x256_1_60_0
abbrev r0_425 : Rect S2x2048x256 := Rect.unit (s := S2x2048x256) ![1, 1920, 0] S1x32x256.size inb_S2x2048x256_S1x32x256_1_1920_0
abbrev r0_426 : Rect S1x2x2048x256 := Rect.unit (s := S1x2x2048x256) ![0, 1, 1920, 0] S1x1x32x256.size inb_S1x2x2048x256_S1x1x32x256_0_1_1920_0
abbrev r0_427 : Rect S2048x256 := Rect.unit (s := S2048x256) ![1952, 0] S32x256.size inb_S2048x256_S32x256_1952_0
abbrev r0_428 : Rect S2x64x256 := Rect.unit (s := S2x64x256) ![0, 61, 0] S1x1x256.size inb_S2x64x256_S1x1x256_0_61_0
abbrev r0_429 : Rect S2x2048x256 := Rect.unit (s := S2x2048x256) ![0, 1952, 0] S1x32x256.size inb_S2x2048x256_S1x32x256_0_1952_0
abbrev r0_430 : Rect S1x2x2048x256 := Rect.unit (s := S1x2x2048x256) ![0, 0, 1952, 0] S1x1x32x256.size inb_S1x2x2048x256_S1x1x32x256_0_0_1952_0
abbrev r0_431 : Rect S2x64x256 := Rect.unit (s := S2x64x256) ![1, 61, 0] S1x1x256.size inb_S2x64x256_S1x1x256_1_61_0
abbrev r0_432 : Rect S2x2048x256 := Rect.unit (s := S2x2048x256) ![1, 1952, 0] S1x32x256.size inb_S2x2048x256_S1x32x256_1_1952_0
abbrev r0_433 : Rect S1x2x2048x256 := Rect.unit (s := S1x2x2048x256) ![0, 1, 1952, 0] S1x1x32x256.size inb_S1x2x2048x256_S1x1x32x256_0_1_1952_0
abbrev r0_434 : Rect S2048x256 := Rect.unit (s := S2048x256) ![1984, 0] S32x256.size inb_S2048x256_S32x256_1984_0
abbrev r0_435 : Rect S2x64x256 := Rect.unit (s := S2x64x256) ![0, 62, 0] S1x1x256.size inb_S2x64x256_S1x1x256_0_62_0
abbrev r0_436 : Rect S2x2048x256 := Rect.unit (s := S2x2048x256) ![0, 1984, 0] S1x32x256.size inb_S2x2048x256_S1x32x256_0_1984_0
abbrev r0_437 : Rect S1x2x2048x256 := Rect.unit (s := S1x2x2048x256) ![0, 0, 1984, 0] S1x1x32x256.size inb_S1x2x2048x256_S1x1x32x256_0_0_1984_0
abbrev r0_438 : Rect S2x64x256 := Rect.unit (s := S2x64x256) ![1, 62, 0] S1x1x256.size inb_S2x64x256_S1x1x256_1_62_0
abbrev r0_439 : Rect S2x2048x256 := Rect.unit (s := S2x2048x256) ![1, 1984, 0] S1x32x256.size inb_S2x2048x256_S1x32x256_1_1984_0
abbrev r0_440 : Rect S1x2x2048x256 := Rect.unit (s := S1x2x2048x256) ![0, 1, 1984, 0] S1x1x32x256.size inb_S1x2x2048x256_S1x1x32x256_0_1_1984_0
abbrev r0_441 : Rect S2048x256 := Rect.unit (s := S2048x256) ![2016, 0] S32x256.size inb_S2048x256_S32x256_2016_0
abbrev r0_442 : Rect S2x64x256 := Rect.unit (s := S2x64x256) ![0, 63, 0] S1x1x256.size inb_S2x64x256_S1x1x256_0_63_0
abbrev r0_443 : Rect S2x2048x256 := Rect.unit (s := S2x2048x256) ![0, 2016, 0] S1x32x256.size inb_S2x2048x256_S1x32x256_0_2016_0
abbrev r0_444 : Rect S1x2x2048x256 := Rect.unit (s := S1x2x2048x256) ![0, 0, 2016, 0] S1x1x32x256.size inb_S1x2x2048x256_S1x1x32x256_0_0_2016_0
abbrev r0_445 : Rect S2x64x256 := Rect.unit (s := S2x64x256) ![1, 63, 0] S1x1x256.size inb_S2x64x256_S1x1x256_1_63_0
abbrev r0_446 : Rect S2x2048x256 := Rect.unit (s := S2x2048x256) ![1, 2016, 0] S1x32x256.size inb_S2x2048x256_S1x32x256_1_2016_0
abbrev r0_447 : Rect S1x2x2048x256 := Rect.unit (s := S1x2x2048x256) ![0, 1, 2016, 0] S1x1x32x256.size inb_S1x2x2048x256_S1x1x32x256_0_1_2016_0

/-! ## What the body leaves in each output window's buffer -/

/-! ### Values of the body that the stores' payloads, spelt out, would write more than once

    Each is a vector the body binds (often a part call's result), stated over the input windows' blocks and
    numbered on from the skeleton's payload functions (`k0_pay359` …, after `k0_pay358`), so that
    `out0_W` and the values after it name it instead of spelling it out (`unfold_out out0_W` opens a canon
    with them, `unfold_payloads` opens them with the payloads); the comment after each is the printed function's
    name for the value (a count appended where that name is bound again). -/

def k0_pay359 (x0 : Vec F S2x2048x256 .bf16) (x1 : Vec F S2048x256 .i8) (x2 : Vec F S2x64x256 .bf16) (x3 : Vec F S2x64x256 .bf16) : IVec S8x256 32 :=
  k0_pay102 (View.ld x1 r0_126) -- `v721`
def k0_pay360 (x0 : Vec F S2x2048x256 .bf16) (x1 : Vec F S2048x256 .i8) (x2 : Vec F S2x64x256 .bf16) (x3 : Vec F S2x64x256 .bf16) : IVec S8x256 32 :=
  k0_pay228 (View.ld x1 r0_287) -- `v1641`
def k0_pay361 (x0 : Vec F S2x2048x256 .bf16) (x1 : Vec F S2048x256 .i8) (x2 : Vec F S2x64x256 .bf16) (x3 : Vec F S2x64x256 .bf16) : IVec S8x256 32 :=
  k0_pay306 (View.ld x1 r0_385) -- `v2201`

/-- Window 4's staging buffer after the body, from the input windows' blocks: its 128 stores as pieces, LAST
    FIRST (Lib/Pipeline/FrameBody.lean `View.canon`; the payloads are the skeleton's and the values stated above). -/
def out0_4 (x0 : Vec F S2x2048x256 .bf16) (x1 : Vec F S2048x256 .i8) (x2 : Vec F S2x64x256 .bf16) (x3 : Vec F S2x64x256 .bf16) : Vec F S1x2x2048x256 .bf16 :=
  View.canon [⟨r0_447, k0_pay1 (k0_pay356 (View.ld x0 r0_446)) (k0_pay357 (k0_pay352 (View.ld x1 r0_441)) (View.ld x3 r0_445)) (k0_pay358 (View.ld x2 r0_445))⟩,
    ⟨r0_444, k0_pay355 (k0_pay353 (View.ld x1 r0_441)) (k0_pay354 (View.ld x3 r0_442)) (View.ld x2 r0_442) (View.ld x0 r0_443)⟩,
    ⟨r0_440, k0_pay350 (k0_pay345 (View.ld x1 r0_434)) (View.ld x3 r0_438) (View.ld x2 r0_438) (View.ld x0 r0_439)⟩,
    ⟨r0_437, k0_pay349 (k0_pay346 (View.ld x0 r0_436)) (k0_pay347 (View.ld x1 r0_434) (View.ld x3 r0_435)) (k0_pay348 (View.ld x2 r0_435))⟩,
    ⟨r0_433, k0_pay343 (k0_pay342 (View.ld x1 r0_427)) (View.ld x3 r0_431) (View.ld x2 r0_431) (View.ld x0 r0_432)⟩,
    ⟨r0_430, k0_pay341 (View.ld x1 r0_427) (View.ld x3 r0_428) (View.ld x2 r0_428) (View.ld x0 r0_429)⟩,
    ⟨r0_426, k0_pay339 (k0_pay336 (View.ld x1 r0_420)) (k0_pay337 (View.ld x3 r0_424)) (k0_pay338 (View.ld x2 r0_424)) (View.ld x0 r0_425)⟩,
    ⟨r0_423, k0_pay335 (View.ld x1 r0_420) (View.ld x3 r0_421) (View.ld x2 r0_421) (View.ld x0 r0_422)⟩,
    ⟨r0_419, k0_pay333 (k0_pay330 (View.ld x1 r0_413)) k0_pay331 (View.ld x3 r0_417) (View.ld x2 r0_417) (View.ld x0 r0_418)⟩,
    ⟨r0_416, k0_pay332 (k0_pay329 (View.ld x1 r0_413)) (View.ld x3 r0_414) (View.ld x2 r0_414) (View.ld x0 r0_415)⟩,
    ⟨r0_412, k0_pay327 (k0_pay322 (View.ld x1 r0_406)) (View.ld x3 r0_410) (View.ld x2 r0_410) (View.ld x0 r0_411)⟩,
    ⟨r0_409, k0_pay326 (k0_pay323 (View.ld x1 r0_406)) (k0_pay324 (View.ld x3 r0_407)) (k0_pay325 (View.ld x2 r0_407)) (View.ld x0 r0_408)⟩,
    ⟨r0_405, k0_pay320 (k0_pay317 (View.ld x1 r0_399)) (View.ld x3 r0_403) (View.ld x2 r0_403) (View.ld x0 r0_404)⟩,
    ⟨r0_402, k0_pay319 (k0_pay318 (View.ld x1 r0_399) (View.ld x3 r0_400) (View.ld x2 r0_400) (View.ld x0 r0_401))⟩,
    ⟨r0_398, k0_pay315 (k0_pay313 (View.ld x1 r0_392)) (k0_pay314 (View.ld x3 r0_396)) (View.ld x2 r0_396) (View.ld x0 r0_397)⟩,
    ⟨r0_395, k0_pay312 (View.ld x1 r0_392) (View.ld x3 r0_393) (View.ld x2 r0_393) (View.ld x0 r0_394)⟩,
    ⟨r0_391, k0_pay310 (k0_pay308 (View.ld x0 r0_390)) (k0_pay309 (k0_pay361 x0 x1 x2 x3) (View.ld x3 r0_389) (View.ld x2 r0_389))⟩,
    ⟨r0_388, k0_pay307 (k0_pay361 x0 x1 x2 x3) (View.ld x3 r0_386) (View.ld x2 r0_386) (View.ld x0 r0_387)⟩,
    ⟨r0_384, k0_pay305 (k0_pay302 (View.ld x1 r0_378)) (View.ld x3 r0_382) (View.ld x2 r0_382) (View.ld x0 r0_383)⟩,
    ⟨r0_381, k0_pay304 (k0_pay303 (View.ld x1 r0_378)) (View.ld x3 r0_379) (View.ld x2 r0_379) (View.ld x0 r0_380)⟩,
    ⟨r0_377, k0_pay300 (k0_pay294 (View.ld x1 r0_371)) (View.ld x3 r0_375) (View.ld x2 r0_375) (View.ld x0 r0_376)⟩,
    ⟨r0_374, k0_pay299 (k0_pay295 (View.ld x1 r0_371)) (k0_pay296 (View.ld x3 r0_372)) (k0_pay297 (View.ld x2 r0_372)) (k0_pay298 (View.ld x0 r0_373))⟩,
    ⟨r0_370, k0_pay292 (k0_pay290 (View.ld x1 r0_364)) (View.ld x3 r0_368) (View.ld x2 r0_368) (View.ld x0 r0_369)⟩,
    ⟨r0_367, k0_pay291 (View.ld x1 r0_364) (View.ld x3 r0_365) (View.ld x2 r0_365) (View.ld x0 r0_366)⟩,
    ⟨r0_363, k0_pay288 (k0_pay285 (View.ld x1 r0_357)) (k0_pay286 (View.ld x3 r0_361)) (k0_pay287 (View.ld x2 r0_361)) (View.ld x0 r0_362)⟩,
    ⟨r0_360, k0_pay284 (View.ld x1 r0_357) (View.ld x3 r0_358) (View.ld x2 r0_358) (View.ld x0 r0_359)⟩,
    ⟨r0_356, k0_pay282 (k0_pay281 (k0_pay277 (View.ld x1 r0_350)) k0_pay279 (View.ld x3 r0_354) (View.ld x2 r0_354) (View.ld x0 r0_355))⟩,
    ⟨r0_353, k0_pay280 (k0_pay278 (View.ld x1 r0_350)) (View.ld x3 r0_351) (View.ld x2 r0_351) (View.ld x0 r0_352)⟩,
    ⟨r0_349, k0_pay276 (k0_pay272 (View.ld x1 r0_343)) (View.ld x3 r0_347) (View.ld x2 r0_347) (View.ld x0 r0_348)⟩,
    ⟨r0_346, k0_pay275 (k0_pay273 (View.ld x1 r0_343)) (k0_pay274 (View.ld x3 r0_344)) (View.ld x2 r0_344) (View.ld x0 r0_345)⟩,
    ⟨r0_342, k0_pay270 (k0_pay267 (View.ld x1 r0_336)) (View.ld x3 r0_340) (View.ld x2 r0_340) (View.ld x0 r0_341)⟩,
    ⟨r0_339, k0_pay269 (k0_pay268 (View.ld x1 r0_336) (View.ld x3 r0_337) (View.ld x2 r0_337) (View.ld x0 r0_338))⟩,
    ⟨r0_335, k0_pay265 (k0_pay264 (View.ld x1 r0_329)) (View.ld x3 r0_333) (View.ld x2 r0_333) (View.ld x0 r0_334)⟩,
    ⟨r0_332, k0_pay263 (View.ld x1 r0_329) (View.ld x3 r0_330) (View.ld x2 r0_330) (View.ld x0 r0_331)⟩,
    ⟨r0_328, k0_pay261 (k0_pay257 (View.ld x1 r0_322)) (k0_pay258 (View.ld x2 r0_326)) (k0_pay259 (View.ld x0 r0_327)) (k0_pay260 (View.ld x3 r0_326))⟩,
    ⟨r0_325, k0_pay256 (View.ld x1 r0_322) (View.ld x3 r0_323) (View.ld x2 r0_323) (View.ld x0 r0_324)⟩,
    ⟨r0_321, k0_pay254 (k0_pay251 (View.ld x1 r0_315)) (View.ld x3 r0_319) (View.ld x2 r0_319) (View.ld x0 r0_320)⟩,
    ⟨r0_318, k0_pay253 (k0_pay252 (View.ld x1 r0_315)) (View.ld x3 r0_316) (View.ld x2 r0_316) (View.ld x0 r0_317)⟩,
    ⟨r0_314, k0_pay249 (k0_pay244 (View.ld x1 r0_308)) (View.ld x3 r0_312) (View.ld x2 r0_312) (View.ld x0 r0_313)⟩,
    ⟨r0_311, k0_pay248 (k0_pay245 (View.ld x1 r0_308)) (k0_pay246 (View.ld x3 r0_309)) (k0_pay247 (View.ld x2 r0_309)) (View.ld x0 r0_310)⟩,
    ⟨r0_307, k0_pay242 (k0_pay239 (View.ld x1 r0_301)) (View.ld x3 r0_305) (View.ld x2 r0_305) (View.ld x0 r0_306)⟩,
    ⟨r0_304, k0_pay241 (k0_pay240 (View.ld x1 r0_301) (View.ld x3 r0_302) (View.ld x2 r0_302) (View.ld x0 r0_303))⟩,
    ⟨r0_300, k0_pay237 (k0_pay235 (View.ld x1 r0_294)) (k0_pay236 (View.ld x3 r0_298)) (View.ld x2 r0_298) (View.ld x0 r0_299)⟩,
    ⟨r0_297, k0_pay234 (View.ld x1 r0_294) (View.ld x3 r0_295) (View.ld x2 r0_295) (View.ld x0 r0_296)⟩,
    ⟨r0_293, k0_pay232 (k0_pay231 (k0_pay360 x0 x1 x2 x3) (View.ld x3 r0_291) (View.ld x2 r0_291) (View.ld x0 r0_292))⟩,
    ⟨r0_290, k0_pay230 (k0_pay360 x0 x1 x2 x3) k0_pay229 (View.ld x3 r0_288) (View.ld x2 r0_288) (View.ld x0 r0_289)⟩,
    ⟨r0_286, k0_pay227 (k0_pay224 (View.ld x1 r0_280)) (View.ld x3 r0_284) (View.ld x2 r0_284) (View.ld x0 r0_285)⟩,
    ⟨r0_283, k0_pay226 (k0_pay225 (View.ld x1 r0_280)) (View.ld x3 r0_281) (View.ld x2 r0_281) (View.ld x0 r0_282)⟩,
    ⟨r0_279, k0_pay222 (k0_pay217 (View.ld x1 r0_273)) (View.ld x3 r0_277) (View.ld x2 r0_277) (View.ld x0 r0_278)⟩,
    ⟨r0_276, k0_pay221 (k0_pay218 (View.ld x2 r0_274)) (k0_pay219 (View.ld x0 r0_275)) (k0_pay220 (View.ld x1 r0_273) (View.ld x3 r0_274))⟩,
    ⟨r0_272, k0_pay215 (k0_pay214 (View.ld x1 r0_266)) (View.ld x3 r0_270) (View.ld x2 r0_270) (View.ld x0 r0_271)⟩,
    ⟨r0_269, k0_pay213 (View.ld x1 r0_266) (View.ld x3 r0_267) (View.ld x2 r0_267) (View.ld x0 r0_268)⟩,
    ⟨r0_265, k0_pay211 (k0_pay208 (View.ld x1 r0_259)) (k0_pay209 (View.ld x3 r0_263)) (k0_pay210 (View.ld x2 r0_263)) (View.ld x0 r0_264)⟩,
    ⟨r0_262, k0_pay207 (View.ld x1 r0_259) (View.ld x3 r0_260) (View.ld x2 r0_260) (View.ld x0 r0_261)⟩,
    ⟨r0_258, k0_pay205 (k0_pay204 (k0_pay202 (View.ld x1 r0_252)) 252645135#32 (View.ld x3 r0_256) (View.ld x2 r0_256) (View.ld x0 r0_257))⟩,
    ⟨r0_255, k0_pay203 (k0_pay201 (View.ld x1 r0_252)) (View.ld x3 r0_253) (View.ld x2 r0_253) (View.ld x0 r0_254)⟩,
    ⟨r0_251, k0_pay199 (k0_pay195 (View.ld x1 r0_245)) (View.ld x3 r0_249) (View.ld x2 r0_249) (View.ld x0 r0_250)⟩,
    ⟨r0_248, k0_pay198 (k0_pay196 (View.ld x1 r0_245)) (k0_pay197 (View.ld x3 r0_246)) (View.ld x2 r0_246) (View.ld x0 r0_247)⟩,
    ⟨r0_244, k0_pay193 (k0_pay190 (View.ld x1 r0_238)) (View.ld x3 r0_242) (View.ld x2 r0_242) (View.ld x0 r0_243)⟩,
    ⟨r0_241, k0_pay192 (k0_pay191 (View.ld x1 r0_238) (View.ld x3 r0_239) (View.ld x2 r0_239) (View.ld x0 r0_240))⟩,
    ⟨r0_237, k0_pay188 (k0_pay186 (View.ld x1 r0_231)) (k0_pay187 (View.ld x3 r0_235)) (View.ld x2 r0_235) (View.ld x0 r0_236)⟩,
    ⟨r0_234, k0_pay185 (View.ld x1 r0_231) (View.ld x3 r0_232) (View.ld x2 r0_232) (View.ld x0 r0_233)⟩,
    ⟨r0_230, k0_pay183 (k0_pay180 (View.ld x0 r0_229)) (k0_pay181 (View.ld x1 r0_224) (View.ld x3 r0_228)) (k0_pay182 (View.ld x2 r0_228))⟩,
    ⟨r0_227, k0_pay179 (View.ld x1 r0_224) (View.ld x3 r0_225) (View.ld x2 r0_225) (View.ld x0 r0_226)⟩,
    ⟨r0_223, k0_pay177 (k0_pay174 (View.ld x1 r0_217)) (View.ld x3 r0_221) (View.ld x2 r0_221) (View.ld x0 r0_222)⟩,
    ⟨r0_220, k0_pay176 (k0_pay175 (View.ld x1 r0_217)) (View.ld x3 r0_218) (View.ld x2 r0_218) (View.ld x0 r0_219)⟩,
    ⟨r0_216, k0_pay172 (k0_pay167 (View.ld x1 r0_210)) (View.ld x3 r0_214) (View.ld x2 r0_214) (View.ld x0 r0_215)⟩,
    ⟨r0_213, k0_pay171 (k0_pay168 (View.ld x1 r0_210)) (k0_pay169 (View.ld x3 r0_211)) (k0_pay170 (View.ld x2 r0_211)) (View.ld x0 r0_212)⟩,
    ⟨r0_209, k0_pay165 (k0_pay163 (View.ld x1 r0_203)) (View.ld x3 r0_207) (View.ld x2 r0_207) (View.ld x0 r0_208)⟩,
    ⟨r0_206, k0_pay164 (View.ld x1 r0_203) (View.ld x3 r0_204) (View.ld x2 r0_204) (View.ld x0 r0_205)⟩,
    ⟨r0_202, k0_pay161 (k0_pay158 (View.ld x1 r0_196)) (k0_pay159 (View.ld x3 r0_200)) (k0_pay160 (View.ld x2 r0_200)) (View.ld x0 r0_201)⟩,
    ⟨r0_199, k0_pay157 (View.ld x1 r0_196) (View.ld x3 r0_197) (View.ld x2 r0_197) (View.ld x0 r0_198)⟩,
    ⟨r0_195, k0_pay155 (k0_pay154 (k0_pay151 (View.ld x1 r0_189)) 4#32 (View.ld x3 r0_193) (View.ld x2 r0_193) (View.ld x0 r0_194))⟩,
    ⟨r0_192, k0_pay153 (k0_pay152 (View.ld x1 r0_189)) (View.ld x3 r0_190) (View.ld x2 r0_190) (View.ld x0 r0_191)⟩,
    ⟨r0_188, k0_pay150 (k0_pay146 (View.ld x1 r0_182)) (View.ld x3 r0_186) (View.ld x2 r0_186) (View.ld x0 r0_187)⟩,
    ⟨r0_185, k0_pay149 (k0_pay147 (View.ld x1 r0_182)) (k0_pay148 (View.ld x3 r0_183)) (View.ld x2 r0_183) (View.ld x0 r0_184)⟩,
    ⟨r0_181, k0_pay144 (k0_pay140 (View.ld x1 r0_175)) (View.ld x3 r0_179) (View.ld x2 r0_179) (View.ld x0 r0_180)⟩,
    ⟨r0_178, k0_pay143 (k0_pay141 (View.ld x0 r0_177)) (k0_pay142 (View.ld x1 r0_175) (View.ld x3 r0_176) (View.ld x2 r0_176))⟩,
    ⟨r0_174, k0_pay138 (k0_pay137 (View.ld x1 r0_168)) (View.ld x3 r0_172) (View.ld x2 r0_172) (View.ld x0 r0_173)⟩,
    ⟨r0_171, k0_pay136 (View.ld x1 r0_168) (View.ld x3 r0_169) (View.ld x2 r0_169) (View.ld x0 r0_170)⟩,
    ⟨r0_167, k0_pay134 (k0_pay130 (View.ld x1 r0_161)) (k0_pay131 (View.ld x3 r0_165)) (k0_pay132 (View.ld x2 r0_165)) (k0_pay133 (View.ld x0 r0_166))⟩,
    ⟨r0_164, k0_pay129 (View.ld x1 r0_161) (View.ld x3 r0_162) (View.ld x2 r0_162) (View.ld x0 r0_163)⟩,
    ⟨r0_160, k0_pay127 (k0_pay125 (View.ld x1 r0_154)) (View.ld x3 r0_158) (View.ld x2 r0_158) (View.ld x0 r0_159)⟩,
    ⟨r0_157, k0_pay126 (k0_pay124 (View.ld x1 r0_154)) (View.ld x3 r0_155) (View.ld x2 r0_155) (View.ld x0 r0_156)⟩,
    ⟨r0_153, k0_pay122 (k0_pay117 (View.ld x1 r0_147)) (View.ld x3 r0_151) (View.ld x2 r0_151) (View.ld x0 r0_152)⟩,
    ⟨r0_150, k0_pay121 (k0_pay118 (View.ld x1 r0_147)) (k0_pay119 (View.ld x3 r0_148)) (k0_pay120 (View.ld x2 r0_148)) (View.ld x0 r0_149)⟩,
    ⟨r0_146, k0_pay115 (k0_pay112 (View.ld x1 r0_140)) (View.ld x3 r0_144) (View.ld x2 r0_144) (View.ld x0 r0_145)⟩,
    ⟨r0_143, k0_pay114 (k0_pay113 (View.ld x1 r0_140) (View.ld x3 r0_141) (View.ld x2 r0_141) (View.ld x0 r0_142))⟩,
    ⟨r0_139, k0_pay110 (k0_pay108 (View.ld x1 r0_133)) (k0_pay109 (View.ld x3 r0_137)) (View.ld x2 r0_137) (View.ld x0 r0_138)⟩,
    ⟨r0_136, k0_pay107 (View.ld x1 r0_133) (View.ld x3 r0_134) (View.ld x2 r0_134) (View.ld x0 r0_135)⟩,
    ⟨r0_132, k0_pay105 (k0_pay104 (k0_pay359 x0 x1 x2 x3) (View.ld x3 r0_130) (View.ld x2 r0_130) (View.ld x0 r0_131))⟩,
    ⟨r0_129, k0_pay103 (k0_pay359 x0 x1 x2 x3) 252645135#32 (View.ld x3 r0_127) (View.ld x2 r0_127) (View.ld x0 r0_128)⟩,
    ⟨r0_125, k0_pay101 (k0_pay98 (View.ld x1 r0_119)) (View.ld x3 r0_123) (View.ld x2 r0_123) (View.ld x0 r0_124)⟩,
    ⟨r0_122, k0_pay100 (k0_pay99 (View.ld x1 r0_119)) (View.ld x3 r0_120) (View.ld x2 r0_120) (View.ld x0 r0_121)⟩,
    ⟨r0_118, k0_pay96 (k0_pay90 (View.ld x1 r0_112)) (View.ld x3 r0_116) (View.ld x2 r0_116) (View.ld x0 r0_117)⟩,
    ⟨r0_115, k0_pay95 (k0_pay91 (View.ld x1 r0_112)) (k0_pay92 (View.ld x2 r0_113)) (k0_pay93 (View.ld x0 r0_114)) (k0_pay94 (View.ld x3 r0_113))⟩,
    ⟨r0_111, k0_pay88 (k0_pay87 (View.ld x1 r0_105)) (View.ld x3 r0_109) (View.ld x2 r0_109) (View.ld x0 r0_110)⟩,
    ⟨r0_108, k0_pay86 (View.ld x1 r0_105) (View.ld x3 r0_106) (View.ld x2 r0_106) (View.ld x0 r0_107)⟩,
    ⟨r0_104, k0_pay84 (k0_pay81 (View.ld x1 r0_98)) (k0_pay82 (View.ld x3 r0_102)) (k0_pay83 (View.ld x2 r0_102)) (View.ld x0 r0_103)⟩,
    ⟨r0_101, k0_pay80 (View.ld x1 r0_98) (View.ld x3 r0_99) (View.ld x2 r0_99) (View.ld x0 r0_100)⟩,
    ⟨r0_97, k0_pay78 (k0_pay77 (k0_pay75 (View.ld x1 r0_91)) (View.ld x3 r0_95) (View.ld x2 r0_95) (View.ld x0 r0_96))⟩,
    ⟨r0_94, k0_pay76 (k0_pay74 (View.ld x1 r0_91)) (View.ld x3 r0_92) (View.ld x2 r0_92) (View.ld x0 r0_93)⟩,
    ⟨r0_90, k0_pay72 (k0_pay68 (View.ld x1 r0_84)) (View.ld x3 r0_88) (View.ld x2 r0_88) (View.ld x0 r0_89)⟩,
    ⟨r0_87, k0_pay71 (k0_pay69 (View.ld x1 r0_84)) (k0_pay70 (View.ld x3 r0_85)) (View.ld x2 r0_85) (View.ld x0 r0_86)⟩,
    ⟨r0_83, k0_pay66 (k0_pay63 (View.ld x1 r0_77)) (View.ld x3 r0_81) (View.ld x2 r0_81) (View.ld x0 r0_82)⟩,
    ⟨r0_80, k0_pay65 (k0_pay64 (View.ld x1 r0_77) (View.ld x3 r0_78) (View.ld x2 r0_78) (View.ld x0 r0_79))⟩,
    ⟨r0_76, k0_pay61 (k0_pay60 (View.ld x1 r0_70)) (View.ld x3 r0_74) (View.ld x2 r0_74) (View.ld x0 r0_75)⟩,
    ⟨r0_73, k0_pay59 (View.ld x1 r0_70) (View.ld x3 r0_71) (View.ld x2 r0_71) (View.ld x0 r0_72)⟩,
    ⟨r0_69, k0_pay57 (k0_pay54 (View.ld x2 r0_67)) (k0_pay55 (View.ld x0 r0_68)) (k0_pay56 (View.ld x1 r0_63) (View.ld x3 r0_67))⟩,
    ⟨r0_66, k0_pay53 (View.ld x1 r0_63) (View.ld x3 r0_64) (View.ld x2 r0_64) (View.ld x0 r0_65)⟩,
    ⟨r0_62, k0_pay51 (k0_pay48 (View.ld x1 r0_56)) (View.ld x3 r0_60) (View.ld x2 r0_60) (View.ld x0 r0_61)⟩,
    ⟨r0_59, k0_pay50 (k0_pay49 (View.ld x1 r0_56)) (View.ld x3 r0_57) (View.ld x2 r0_57) (View.ld x0 r0_58)⟩,
    ⟨r0_55, k0_pay46 (k0_pay41 (View.ld x1 r0_49)) (View.ld x3 r0_53) (View.ld x2 r0_53) (View.ld x0 r0_54)⟩,
    ⟨r0_52, k0_pay45 (k0_pay42 (View.ld x1 r0_49)) (k0_pay43 (View.ld x3 r0_50)) (k0_pay44 (View.ld x2 r0_50)) (View.ld x0 r0_51)⟩,
    ⟨r0_48, k0_pay39 (k0_pay36 (View.ld x1 r0_42)) (View.ld x3 r0_46) (View.ld x2 r0_46) (View.ld x0 r0_47)⟩,
    ⟨r0_45, k0_pay38 (k0_pay37 (View.ld x1 r0_42) (View.ld x3 r0_43) (View.ld x2 r0_43) (View.ld x0 r0_44))⟩,
    ⟨r0_41, k0_pay34 (k0_pay32 (View.ld x1 r0_35)) (k0_pay33 (View.ld x3 r0_39)) (View.ld x2 r0_39) (View.ld x0 r0_40)⟩,
    ⟨r0_38, k0_pay31 (View.ld x1 r0_35) (View.ld x3 r0_36) (View.ld x2 r0_36) (View.ld x0 r0_37)⟩,
    ⟨r0_34, k0_pay29 (k0_pay28 (k0_pay25 (View.ld x1 r0_28)) (View.ld x3 r0_32) (View.ld x2 r0_32) (View.ld x0 r0_33))⟩,
    ⟨r0_31, k0_pay27 (k0_pay26 (View.ld x1 r0_28)) (View.ld x3 r0_29) (View.ld x2 r0_29) (View.ld x0 r0_30)⟩,
    ⟨r0_27, k0_pay24 (k0_pay20 (View.ld x1 r0_21)) (View.ld x3 r0_25) (View.ld x2 r0_25) (View.ld x0 r0_26)⟩,
    ⟨r0_24, k0_pay23 (k0_pay21 (View.ld x1 r0_21)) (k0_pay22 (View.ld x3 r0_22)) (View.ld x2 r0_22) (View.ld x0 r0_23)⟩,
    ⟨r0_20, k0_pay18 (k0_pay13 (View.ld x1 r0_14)) (View.ld x3 r0_18) (View.ld x2 r0_18) (View.ld x0 r0_19)⟩,
    ⟨r0_17, k0_pay17 (k0_pay14 (View.ld x0 r0_16)) (k0_pay15 (View.ld x1 r0_14) (View.ld x3 r0_15)) (k0_pay16 (View.ld x2 r0_15))⟩,
    ⟨r0_13, k0_pay11 (k0_pay10 (View.ld x1 r0_7)) (View.ld x3 r0_11) (View.ld x2 r0_11) (View.ld x0 r0_12)⟩,
    ⟨r0_10, k0_pay9 (View.ld x1 r0_7) (View.ld x3 r0_8) (View.ld x2 r0_8) (View.ld x0 r0_9)⟩,
    ⟨r0_6, k0_pay7 (k0_pay4 (View.ld x1 r0_0)) (k0_pay5 (View.ld x3 r0_4)) (k0_pay6 (View.ld x2 r0_4)) (View.ld x0 r0_5)⟩,
    ⟨r0_3, k0_pay3 (View.ld x1 r0_0) (View.ld x3 r0_1) (View.ld x2 r0_1) (View.ld x0 r0_2)⟩]

/-- Its stores tile the buffer (checked by evaluation), so they cover it. -/
theorem cover0_4 (p0 : Vec F S1x1x32x256 .bf16) (p1 : Vec F S1x1x32x256 .bf16) (p2 : Vec F S1x1x32x256 .bf16) (p3 : Vec F S1x1x32x256 .bf16) (p4 : Vec F S1x1x32x256 .bf16) (p5 : Vec F S1x1x32x256 .bf16) (p6 : Vec F S1x1x32x256 .bf16) (p7 : Vec F S1x1x32x256 .bf16) (p8 : Vec F S1x1x32x256 .bf16) (p9 : Vec F S1x1x32x256 .bf16) (p10 : Vec F S1x1x32x256 .bf16) (p11 : Vec F S1x1x32x256 .bf16) (p12 : Vec F S1x1x32x256 .bf16) (p13 : Vec F S1x1x32x256 .bf16) (p14 : Vec F S1x1x32x256 .bf16) (p15 : Vec F S1x1x32x256 .bf16) (p16 : Vec F S1x1x32x256 .bf16) (p17 : Vec F S1x1x32x256 .bf16) (p18 : Vec F S1x1x32x256 .bf16) (p19 : Vec F S1x1x32x256 .bf16) (p20 : Vec F S1x1x32x256 .bf16) (p21 : Vec F S1x1x32x256 .bf16) (p22 : Vec F S1x1x32x256 .bf16) (p23 : Vec F S1x1x32x256 .bf16) (p24 : Vec F S1x1x32x256 .bf16) (p25 : Vec F S1x1x32x256 .bf16) (p26 : Vec F S1x1x32x256 .bf16) (p27 : Vec F S1x1x32x256 .bf16) (p28 : Vec F S1x1x32x256 .bf16) (p29 : Vec F S1x1x32x256 .bf16) (p30 : Vec F S1x1x32x256 .bf16) (p31 : Vec F S1x1x32x256 .bf16) (p32 : Vec F S1x1x32x256 .bf16) (p33 : Vec F S1x1x32x256 .bf16) (p34 : Vec F S1x1x32x256 .bf16) (p35 : Vec F S1x1x32x256 .bf16) (p36 : Vec F S1x1x32x256 .bf16) (p37 : Vec F S1x1x32x256 .bf16) (p38 : Vec F S1x1x32x256 .bf16) (p39 : Vec F S1x1x32x256 .bf16) (p40 : Vec F S1x1x32x256 .bf16) (p41 : Vec F S1x1x32x256 .bf16) (p42 : Vec F S1x1x32x256 .bf16) (p43 : Vec F S1x1x32x256 .bf16) (p44 : Vec F S1x1x32x256 .bf16) (p45 : Vec F S1x1x32x256 .bf16) (p46 : Vec F S1x1x32x256 .bf16) (p47 : Vec F S1x1x32x256 .bf16) (p48 : Vec F S1x1x32x256 .bf16) (p49 : Vec F S1x1x32x256 .bf16) (p50 : Vec F S1x1x32x256 .bf16) (p51 : Vec F S1x1x32x256 .bf16) (p52 : Vec F S1x1x32x256 .bf16) (p53 : Vec F S1x1x32x256 .bf16) (p54 : Vec F S1x1x32x256 .bf16) (p55 : Vec F S1x1x32x256 .bf16) (p56 : Vec F S1x1x32x256 .bf16) (p57 : Vec F S1x1x32x256 .bf16) (p58 : Vec F S1x1x32x256 .bf16) (p59 : Vec F S1x1x32x256 .bf16) (p60 : Vec F S1x1x32x256 .bf16) (p61 : Vec F S1x1x32x256 .bf16) (p62 : Vec F S1x1x32x256 .bf16) (p63 : Vec F S1x1x32x256 .bf16) (p64 : Vec F S1x1x32x256 .bf16) (p65 : Vec F S1x1x32x256 .bf16) (p66 : Vec F S1x1x32x256 .bf16) (p67 : Vec F S1x1x32x256 .bf16) (p68 : Vec F S1x1x32x256 .bf16) (p69 : Vec F S1x1x32x256 .bf16) (p70 : Vec F S1x1x32x256 .bf16) (p71 : Vec F S1x1x32x256 .bf16) (p72 : Vec F S1x1x32x256 .bf16) (p73 : Vec F S1x1x32x256 .bf16) (p74 : Vec F S1x1x32x256 .bf16) (p75 : Vec F S1x1x32x256 .bf16) (p76 : Vec F S1x1x32x256 .bf16) (p77 : Vec F S1x1x32x256 .bf16) (p78 : Vec F S1x1x32x256 .bf16) (p79 : Vec F S1x1x32x256 .bf16) (p80 : Vec F S1x1x32x256 .bf16) (p81 : Vec F S1x1x32x256 .bf16) (p82 : Vec F S1x1x32x256 .bf16) (p83 : Vec F S1x1x32x256 .bf16) (p84 : Vec F S1x1x32x256 .bf16) (p85 : Vec F S1x1x32x256 .bf16) (p86 : Vec F S1x1x32x256 .bf16) (p87 : Vec F S1x1x32x256 .bf16) (p88 : Vec F S1x1x32x256 .bf16) (p89 : Vec F S1x1x32x256 .bf16) (p90 : Vec F S1x1x32x256 .bf16) (p91 : Vec F S1x1x32x256 .bf16) (p92 : Vec F S1x1x32x256 .bf16) (p93 : Vec F S1x1x32x256 .bf16) (p94 : Vec F S1x1x32x256 .bf16) (p95 : Vec F S1x1x32x256 .bf16) (p96 : Vec F S1x1x32x256 .bf16) (p97 : Vec F S1x1x32x256 .bf16) (p98 : Vec F S1x1x32x256 .bf16) (p99 : Vec F S1x1x32x256 .bf16) (p100 : Vec F S1x1x32x256 .bf16) (p101 : Vec F S1x1x32x256 .bf16) (p102 : Vec F S1x1x32x256 .bf16) (p103 : Vec F S1x1x32x256 .bf16) (p104 : Vec F S1x1x32x256 .bf16) (p105 : Vec F S1x1x32x256 .bf16) (p106 : Vec F S1x1x32x256 .bf16) (p107 : Vec F S1x1x32x256 .bf16) (p108 : Vec F S1x1x32x256 .bf16) (p109 : Vec F S1x1x32x256 .bf16) (p110 : Vec F S1x1x32x256 .bf16) (p111 : Vec F S1x1x32x256 .bf16) (p112 : Vec F S1x1x32x256 .bf16) (p113 : Vec F S1x1x32x256 .bf16) (p114 : Vec F S1x1x32x256 .bf16) (p115 : Vec F S1x1x32x256 .bf16) (p116 : Vec F S1x1x32x256 .bf16) (p117 : Vec F S1x1x32x256 .bf16) (p118 : Vec F S1x1x32x256 .bf16) (p119 : Vec F S1x1x32x256 .bf16) (p120 : Vec F S1x1x32x256 .bf16) (p121 : Vec F S1x1x32x256 .bf16) (p122 : Vec F S1x1x32x256 .bf16) (p123 : Vec F S1x1x32x256 .bf16) (p124 : Vec F S1x1x32x256 .bf16) (p125 : Vec F S1x1x32x256 .bf16) (p126 : Vec F S1x1x32x256 .bf16) (p127 : Vec F S1x1x32x256 .bf16) (y : S1x2x2048x256.Idx) :
    ∃ pc ∈ ([⟨r0_447, p0⟩, ⟨r0_444, p1⟩, ⟨r0_440, p2⟩, ⟨r0_437, p3⟩, ⟨r0_433, p4⟩, ⟨r0_430, p5⟩, ⟨r0_426, p6⟩, ⟨r0_423, p7⟩, ⟨r0_419, p8⟩, ⟨r0_416, p9⟩, ⟨r0_412, p10⟩, ⟨r0_409, p11⟩, ⟨r0_405, p12⟩, ⟨r0_402, p13⟩, ⟨r0_398, p14⟩, ⟨r0_395, p15⟩, ⟨r0_391, p16⟩, ⟨r0_388, p17⟩, ⟨r0_384, p18⟩, ⟨r0_381, p19⟩, ⟨r0_377, p20⟩, ⟨r0_374, p21⟩, ⟨r0_370, p22⟩, ⟨r0_367, p23⟩, ⟨r0_363, p24⟩, ⟨r0_360, p25⟩, ⟨r0_356, p26⟩, ⟨r0_353, p27⟩, ⟨r0_349, p28⟩, ⟨r0_346, p29⟩, ⟨r0_342, p30⟩, ⟨r0_339, p31⟩, ⟨r0_335, p32⟩, ⟨r0_332, p33⟩, ⟨r0_328, p34⟩, ⟨r0_325, p35⟩, ⟨r0_321, p36⟩, ⟨r0_318, p37⟩, ⟨r0_314, p38⟩, ⟨r0_311, p39⟩, ⟨r0_307, p40⟩, ⟨r0_304, p41⟩, ⟨r0_300, p42⟩, ⟨r0_297, p43⟩, ⟨r0_293, p44⟩, ⟨r0_290, p45⟩, ⟨r0_286, p46⟩, ⟨r0_283, p47⟩, ⟨r0_279, p48⟩, ⟨r0_276, p49⟩, ⟨r0_272, p50⟩, ⟨r0_269, p51⟩, ⟨r0_265, p52⟩, ⟨r0_262, p53⟩, ⟨r0_258, p54⟩, ⟨r0_255, p55⟩, ⟨r0_251, p56⟩, ⟨r0_248, p57⟩, ⟨r0_244, p58⟩, ⟨r0_241, p59⟩, ⟨r0_237, p60⟩, ⟨r0_234, p61⟩, ⟨r0_230, p62⟩, ⟨r0_227, p63⟩, ⟨r0_223, p64⟩, ⟨r0_220, p65⟩, ⟨r0_216, p66⟩, ⟨r0_213, p67⟩, ⟨r0_209, p68⟩, ⟨r0_206, p69⟩, ⟨r0_202, p70⟩, ⟨r0_199, p71⟩, ⟨r0_195, p72⟩, ⟨r0_192, p73⟩, ⟨r0_188, p74⟩, ⟨r0_185, p75⟩, ⟨r0_181, p76⟩, ⟨r0_178, p77⟩, ⟨r0_174, p78⟩, ⟨r0_171, p79⟩, ⟨r0_167, p80⟩, ⟨r0_164, p81⟩, ⟨r0_160, p82⟩, ⟨r0_157, p83⟩, ⟨r0_153, p84⟩, ⟨r0_150, p85⟩, ⟨r0_146, p86⟩, ⟨r0_143, p87⟩, ⟨r0_139, p88⟩, ⟨r0_136, p89⟩, ⟨r0_132, p90⟩, ⟨r0_129, p91⟩, ⟨r0_125, p92⟩, ⟨r0_122, p93⟩, ⟨r0_118, p94⟩, ⟨r0_115, p95⟩, ⟨r0_111, p96⟩, ⟨r0_108, p97⟩, ⟨r0_104, p98⟩, ⟨r0_101, p99⟩, ⟨r0_97, p100⟩, ⟨r0_94, p101⟩, ⟨r0_90, p102⟩, ⟨r0_87, p103⟩, ⟨r0_83, p104⟩, ⟨r0_80, p105⟩, ⟨r0_76, p106⟩, ⟨r0_73, p107⟩, ⟨r0_69, p108⟩, ⟨r0_66, p109⟩, ⟨r0_62, p110⟩, ⟨r0_59, p111⟩, ⟨r0_55, p112⟩, ⟨r0_52, p113⟩, ⟨r0_48, p114⟩, ⟨r0_45, p115⟩, ⟨r0_41, p116⟩, ⟨r0_38, p117⟩, ⟨r0_34, p118⟩, ⟨r0_31, p119⟩, ⟨r0_27, p120⟩, ⟨r0_24, p121⟩, ⟨r0_20, p122⟩, ⟨r0_17, p123⟩, ⟨r0_13, p124⟩, ⟨r0_10, p125⟩, ⟨r0_6, p126⟩, ⟨r0_3, p127⟩] : List (View.Piece (Elt F) S1x2x2048x256 .bf16)), y ∈ pc.1.set :=
  View.cover_of_tiled [⟨r0_447, p0⟩, ⟨r0_444, p1⟩, ⟨r0_440, p2⟩, ⟨r0_437, p3⟩, ⟨r0_433, p4⟩, ⟨r0_430, p5⟩, ⟨r0_426, p6⟩, ⟨r0_423, p7⟩, ⟨r0_419, p8⟩, ⟨r0_416, p9⟩, ⟨r0_412, p10⟩, ⟨r0_409, p11⟩, ⟨r0_405, p12⟩, ⟨r0_402, p13⟩, ⟨r0_398, p14⟩, ⟨r0_395, p15⟩, ⟨r0_391, p16⟩, ⟨r0_388, p17⟩, ⟨r0_384, p18⟩, ⟨r0_381, p19⟩, ⟨r0_377, p20⟩, ⟨r0_374, p21⟩, ⟨r0_370, p22⟩, ⟨r0_367, p23⟩, ⟨r0_363, p24⟩, ⟨r0_360, p25⟩, ⟨r0_356, p26⟩, ⟨r0_353, p27⟩, ⟨r0_349, p28⟩, ⟨r0_346, p29⟩, ⟨r0_342, p30⟩, ⟨r0_339, p31⟩, ⟨r0_335, p32⟩, ⟨r0_332, p33⟩, ⟨r0_328, p34⟩, ⟨r0_325, p35⟩, ⟨r0_321, p36⟩, ⟨r0_318, p37⟩, ⟨r0_314, p38⟩, ⟨r0_311, p39⟩, ⟨r0_307, p40⟩, ⟨r0_304, p41⟩, ⟨r0_300, p42⟩, ⟨r0_297, p43⟩, ⟨r0_293, p44⟩, ⟨r0_290, p45⟩, ⟨r0_286, p46⟩, ⟨r0_283, p47⟩, ⟨r0_279, p48⟩, ⟨r0_276, p49⟩, ⟨r0_272, p50⟩, ⟨r0_269, p51⟩, ⟨r0_265, p52⟩, ⟨r0_262, p53⟩, ⟨r0_258, p54⟩, ⟨r0_255, p55⟩, ⟨r0_251, p56⟩, ⟨r0_248, p57⟩, ⟨r0_244, p58⟩, ⟨r0_241, p59⟩, ⟨r0_237, p60⟩, ⟨r0_234, p61⟩, ⟨r0_230, p62⟩, ⟨r0_227, p63⟩, ⟨r0_223, p64⟩, ⟨r0_220, p65⟩, ⟨r0_216, p66⟩, ⟨r0_213, p67⟩, ⟨r0_209, p68⟩, ⟨r0_206, p69⟩, ⟨r0_202, p70⟩, ⟨r0_199, p71⟩, ⟨r0_195, p72⟩, ⟨r0_192, p73⟩, ⟨r0_188, p74⟩, ⟨r0_185, p75⟩, ⟨r0_181, p76⟩, ⟨r0_178, p77⟩, ⟨r0_174, p78⟩, ⟨r0_171, p79⟩, ⟨r0_167, p80⟩, ⟨r0_164, p81⟩, ⟨r0_160, p82⟩, ⟨r0_157, p83⟩, ⟨r0_153, p84⟩, ⟨r0_150, p85⟩, ⟨r0_146, p86⟩, ⟨r0_143, p87⟩, ⟨r0_139, p88⟩, ⟨r0_136, p89⟩, ⟨r0_132, p90⟩, ⟨r0_129, p91⟩, ⟨r0_125, p92⟩, ⟨r0_122, p93⟩, ⟨r0_118, p94⟩, ⟨r0_115, p95⟩, ⟨r0_111, p96⟩, ⟨r0_108, p97⟩, ⟨r0_104, p98⟩, ⟨r0_101, p99⟩, ⟨r0_97, p100⟩, ⟨r0_94, p101⟩, ⟨r0_90, p102⟩, ⟨r0_87, p103⟩, ⟨r0_83, p104⟩, ⟨r0_80, p105⟩, ⟨r0_76, p106⟩, ⟨r0_73, p107⟩, ⟨r0_69, p108⟩, ⟨r0_66, p109⟩, ⟨r0_62, p110⟩, ⟨r0_59, p111⟩, ⟨r0_55, p112⟩, ⟨r0_52, p113⟩, ⟨r0_48, p114⟩, ⟨r0_45, p115⟩, ⟨r0_41, p116⟩, ⟨r0_38, p117⟩, ⟨r0_34, p118⟩, ⟨r0_31, p119⟩, ⟨r0_27, p120⟩, ⟨r0_24, p121⟩, ⟨r0_20, p122⟩, ⟨r0_17, p123⟩, ⟨r0_13, p124⟩, ⟨r0_10, p125⟩, ⟨r0_6, p126⟩, ⟨r0_3, p127⟩] S1x1x32x256.size (by rfl) y

/-! ## The body's triple -/

set_option maxHeartbeats 3968000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2x2048x256 .bf16) (harg1 : arg1.IsWhole) (arg2 : Memref sig .tc .vmem S2048x256 .i8) (harg2 : arg2.IsWhole) (arg3 : Memref sig .tc .vmem S2x64x256 .bf16) (harg3 : arg3.IsWhole) (arg4 : Memref sig .tc .vmem S2x64x256 .bf16) (harg4 : arg4.IsWhole) (arg5 : Memref sig .tc .vmem S1x2x2048x256 .bf16) (harg5 : arg5.IsWhole)
    (x0 : Vec F S2x2048x256 .bf16) (x1 : Vec F S2048x256 .i8) (x2 : Vec F S2x64x256 .bf16) (x3 : Vec F S2x64x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_weight_error i arg1 harg1 arg2 harg2 arg3 harg3 arg4 harg4 arg5 harg5) K := by
  simp only [cc0_weight_error_eq_skeleton]; unfold cc0_weight_error_skel
  simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part79_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Err

end
-- ==== Proof.KernelIdeal.Fit.lean ====
/- The body of the fit kernel at one grid point, as a map from what its buffers hold to what they hold afterwards. -/
module

public import proofs.«01_k».proof.Proof.Gen.KernelIdeal.Skeleton
public import proofs.«01_k».proof.Proof.Gen.KernelIdeal.Points
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `k` of the accumulator of the bias gradient. -/
def getRow (d : Vec F S43x64x256 .f32) (k : Fin 43) : Vec F S1x64x256 .f32 :=
  fun y => d (ix3 k (y 1) (y 2))

/-- Row `k` of the accumulator of the bias gradient replaced by `v`, every other row as in `d`. -/
def setRow (d : Vec F S43x64x256 .f32) (k : Fin 43) (v : Vec F S1x64x256 .f32) : Vec F S43x64x256 .f32 :=
  fun y => if (y 0).val = k.val then v (ix3 (0 : Fin 1) (y 1) (y 2)) else d y

/-- What the buffer of `x·a` holds after the body: computed at the first column of a row of the grid, else kept. -/
def fitPb (i : grid1.Coords) (x : Vec F S1024x4096 .bf16) (a : Vec F S4096x64 .bf16) (pb : Vec F S1024x64 .bf16) : Vec F S1024x64 .bf16 :=
  if (i 1).val = 0 then k1_pay12 x a else pb
/-- The same for the buffer of its transpose. -/
def fitPbt (i : grid1.Coords) (x : Vec F S1024x4096 .bf16) (a : Vec F S4096x64 .bf16) (pbt : Vec F S64x1024 .bf16) : Vec F S64x1024 .bf16 :=
  if (i 1).val = 0 then k1_pay13 x a else pbt
/-- The folded squares after the body: restarted at the first column, then the point's squares added. -/
def fitSq (i : grid1.Coords) (x : Vec F S1024x4096 .bf16) (e : Vec F S1x4096x256 .bf16) (a : Vec F S4096x64 .bf16) (b : Vec F S1x64x256 .bf16)
    (pb : Vec F S1024x64 .bf16) (sq : Vec F S1024x128 .f32) : Vec F S1024x128 .f32 :=
  k1_pay18 b x e (fitPb i x a pb) (if (i 1).val = 0 then k1_pay15 else sq)
/-- The transposed gradient accumulator after the body: restarted at the first column, then the point's product added. -/
def fitGt (i : grid1.Coords) (x : Vec F S1024x4096 .bf16) (e : Vec F S1x4096x256 .bf16) (a : Vec F S4096x64 .bf16) (b : Vec F S1x64x256 .bf16)
    (pb : Vec F S1024x64 .bf16) (gt : Vec F S64x1024 .f32) : Vec F S64x1024 .f32 :=
  k1_pay20 b x e (fitPb i x a pb) (if (i 1).val = 0 then k1_pay14 else gt)
/-- The bias gradient accumulator after the body: the point's row set in the grid's first row, added to in the later ones. -/
def fitDb (i : grid1.Coords) (x : Vec F S1024x4096 .bf16) (e : Vec F S1x4096x256 .bf16) (a : Vec F S4096x64 .bf16) (b : Vec F S1x64x256 .bf16)
    (pb : Vec F S1024x64 .bf16) (pbt : Vec F S64x1024 .bf16) (db : Vec F S43x64x256 .f32) : Vec F S43x64x256 .f32 :=
  setRow db (i 1) (if (i 0).val = 0 then k1_pay2 (k1_pay19 b x e (fitPb i x a pb)) (fitPbt i x a pbt)
    else k1_pay3 (k1_pay19 b x e (fitPb i x a pb)) (fitPbt i x a pbt) (getRow db (i 1)))
/-- The factor gradient accumulator after the body: it moves at the last column of a row only. -/
def fitDa (i : grid1.Coords) (x : Vec F S1024x4096 .bf16) (gt : Vec F S64x1024 .f32) (da : Vec F S64x4096 .f32) : Vec F S64x4096 .f32 :=
  if (i 1).val = 42 then (if (i 0).val = 0 then k1_pay7 gt x else k1_pay8 gt x da) else da
/-- The loss block after the body: written at the last column of a row only. -/
def fitLoss (i : grid1.Coords) (o : Vec F S1x1x1024 .f32) (sq : Vec F S1024x128 .f32) : Vec F S1x1x1024 .f32 :=
  if (i 1).val = 42 then k1_pay5 sq else o
/-- The gradient block after the body: written at the last column of a row only. -/
def fitG (i : grid1.Coords) (o : Vec F S1024x64 .f32) (gt : Vec F S64x1024 .f32) : Vec F S1024x64 .f32 :=
  if (i 1).val = 42 then k1_pay4 gt else o
/-- The factor gradient's block after the body: written at the grid's last point only. -/
def fitOa (i : grid1.Coords) (o : Vec F S4096x64 .f32) (da : Vec F S64x4096 .f32) : Vec F S4096x64 .f32 :=
  if (i 1).val = 42 ∧ (i 0).val = 19 then k1_pay9 da else o
/-- The bias gradient's block after the body: written at the grid's last point only. -/
def fitOb (i : grid1.Coords) (o : Vec F S43x64x256 .f32) (db : Vec F S43x64x256 .f32) : Vec F S43x64x256 .f32 :=
  if (i 1).val = 42 ∧ (i 0).val = 19 then k1_pay10 db else o

/-- The kernel's test `j = 0`. -/
theorem cond1_iff (i : grid1.Coords) :
    (Scalar.cmpi .ne (Scalar.extui (Scalar.cmpi .eq (BitVec.ofNat 32 (i 1).val) 0#32) : BitVec 32) 0#32 : BitVec 1) = 1#1 ↔ (i 1).val = 0 :=
  (by decide : ∀ n : Fin 43, (Scalar.cmpi .ne (Scalar.extui (Scalar.cmpi .eq (BitVec.ofNat 32 n.val) 0#32) : BitVec 32) 0#32 : BitVec 1) = 1#1 ↔ n.val = 0) (i 1)
/-- The kernel's test `i = 0`. -/
theorem cond2_iff (i : grid1.Coords) :
    (Scalar.cmpi .ne (Scalar.extui (Scalar.cmpi .eq (BitVec.ofNat 32 (i 0).val) 0#32) : BitVec 32) 0#32 : BitVec 1) = 1#1 ↔ (i 0).val = 0 :=
  (by decide : ∀ n : Fin 20, (Scalar.cmpi .ne (Scalar.extui (Scalar.cmpi .eq (BitVec.ofNat 32 n.val) 0#32) : BitVec 32) 0#32 : BitVec 1) = 1#1 ↔ n.val = 0) (i 0)
/-- The kernel's test `i > 0`. -/
theorem cond3_iff (i : grid1.Coords) :
    (Scalar.cmpi .ne (Scalar.extui (Scalar.cmpi .sgt (BitVec.ofNat 32 (i 0).val) 0#32) : BitVec 32) 0#32 : BitVec 1) = 1#1 ↔ ¬(i 0).val = 0 :=
  (by decide : ∀ n : Fin 20, (Scalar.cmpi .ne (Scalar.extui (Scalar.cmpi .sgt (BitVec.ofNat 32 n.val) 0#32) : BitVec 32) 0#32 : BitVec 1) = 1#1 ↔ ¬n.val = 0) (i 0)
/-- The kernel's test `j = 42`. -/
theorem cond4_iff (i : grid1.Coords) : k1_cond4 i = 1#1 ↔ (i 1).val = 42 :=
  (by decide : ∀ n : Fin 43, (Scalar.cmpi .ne (Scalar.extui (Scalar.cmpi .eq (BitVec.ofNat 32 n.val) 42#32) : BitVec 32) 0#32 : BitVec 1) = 1#1 ↔ n.val = 42) (i 1)
/-- The kernel's test `i = 19`. -/
theorem cond7_iff (i : grid1.Coords) : k1_cond7 i = 1#1 ↔ (i 0).val = 19 :=
  (by decide : ∀ n : Fin 20, (Scalar.cmpi .ne (Scalar.extui (Scalar.cmpi .eq (BitVec.ofNat 32 n.val) 19#32) : BitVec 32) 0#32 : BitVec 1) = 1#1 ↔ n.val = 19) (i 0)
/-- The offsets of the point's row of the bias gradient accumulator. -/
theorem off_eq (i : grid1.Coords) : k1_off1 i = ![(i 1).val, 0, 0] :=
  congrArg (fun n : ℕ => (![n, 0, 0] : Fin 3 → ℕ))
    ((by decide : ∀ n : Fin 43, (Scalar.indexCast (BitVec.ofNat 32 n.val) : Index).toNat = n.val) (i 1))

/-- The offsets of the point's row of the bias gradient accumulator. -/
theorem off_eq2 (i : grid1.Coords) : k1_off2 i = ![(i 1).val, 0, 0] :=
  congrArg (fun n : ℕ => (![n, 0, 0] : Fin 3 → ℕ))
    ((by decide : ∀ n : Fin 43, (Scalar.indexCast (BitVec.ofNat 32 n.val) : Index).toNat = n.val) (i 1))

/-- A load of the whole buffer reads what the buffer holds. -/
theorem load_whole {S : Shape} {t : EltTy} (m : Memref sig .tc .vmem S t) (f : m.view.ty.Contents (Elt F)) {off : Fin S.rank → ℕ}
    (inb : ∀ a, off a + (no_index S.size) a ≤ S.size a) :
    m.view.readAt (Elt F) (Rect.unit (s := S) off (no_index S.size) inb).toLoadRect f = m.view.read (Elt F) f :=
  View.readAt_full m.view f inb

/-- A store of the whole buffer leaves what was stored. -/
theorem store_whole {S : Shape} {t : EltTy} (m : Memref sig .tc .vmem S t) (f : m.view.ty.Contents (Elt F)) {off : Fin S.rank → ℕ}
    (inb : ∀ a, off a + (no_index S.size) a ≤ S.size a) (w : S.Idx → Elt F t) (L : List (View.Piece (Elt F) S t)) :
    m.view.read (Elt F) (m.view.writes (Elt F) f ((⟨Rect.unit (s := S) off (no_index S.size) inb, w⟩ : View.Piece (Elt F) S t) :: L)) = w := by
  funext y
  have h0 : off = fun _ => 0 := funext fun a => by have := inb a; omega
  exact View.read_writes_cons_unit_of_mem m.view f inb w L y y h0 fun a => (Nat.zero_add _).symm

/-- A load of the whole buffer after a store of the whole buffer reads what was stored. -/
theorem cov_whole {S : Shape} {t : EltTy} (m : Memref sig .tc .vmem S t) {off off' : Fin S.rank → ℕ}
    (inb : ∀ a, off a + (no_index S.size) a ≤ S.size a) (inb' : ∀ a, off' a + (no_index S.size) a ≤ S.size a) (w : S.Idx → Elt F t)
    (L : List (View.Piece (Elt F) S t)) :
    m.view.readCov ((⟨Rect.unit (s := S) off (no_index S.size) inb, w⟩ : View.Piece (Elt F) S t) :: L)
      (Rect.unit (s := S) off' (no_index S.size) inb').toLoadRect = w :=
  have h0 : off = fun _ => 0 := funext fun a => by have := inb a; omega
  have h0' : off' = fun _ => 0 := funext fun a => by have := inb' a; omega
  View.readCov_cons_unit_lit' m.view inb inb' w L (fun a => congrFun h0 a) (fun a => congrFun h0' a)

section Rows
variable {sg : RefSig} {Val : EltTy → Type} {t : EltTy} {n0 n1 n2 : ℕ}
/-- A store of one row of a rank-3 buffer, read back: the row's elements under the row, the former contents elsewhere. -/
theorem read_store_row3 (v : View sg .tc .vmem ⟨3, ![n0, n1, n2]⟩ t) (f : v.ty.Contents Val) (k : Fin n0)
    {off : Fin 3 → ℕ} (ho : off = ![k.val, 0, 0]) (inb : ∀ a, off a + (![1, n1, n2] : Fin 3 → ℕ) a ≤ (![n0, n1, n2] : Fin 3 → ℕ) a)
    (w : (⟨3, ![1, n1, n2]⟩ : Shape).Idx → Val t) (y : (⟨3, ![n0, n1, n2]⟩ : Shape).Idx) :
    v.read Val (v.writes Val f [⟨Rect.unit (s := ⟨3, ![n0, n1, n2]⟩) off ![1, n1, n2] inb, w⟩]) y
      = if (y 0).val = k.val then w (ix3 (0 : Fin 1) (y 1) (y 2)) else v.read Val f y := by
  split
  · rename_i h
    refine View.read_writes_cons_unit_of_mem v f (off' := ![k.val, 0, 0]) inb w [] y (ix3 (0 : Fin 1) (y 1) (y 2)) ho fun a => ?_
    revert a
    rw [Fin.forall_fin_succ, Fin.forall_fin_succ, Fin.forall_fin_succ]
    exact ⟨h, (Nat.zero_add _).symm, (Nat.zero_add _).symm, fun a => a.elim0⟩
  · rename_i h
    refine View.read_writes_cons_unit_of_not_mem v f (off' := ![k.val, 0, 0]) inb w [] y ho 0 ?_
    show (y 0).val < k.val ∨ k.val + 1 ≤ (y 0).val
    omega

/-- A load of one row of a rank-3 buffer. -/
theorem load_row3 (v : View sg .tc .vmem ⟨3, ![n0, n1, n2]⟩ t) (f : v.ty.Contents Val) (k : Fin n0)
    {off : Fin 3 → ℕ} (ho : off = ![k.val, 0, 0]) (inb : ∀ a, off a + (![1, n1, n2] : Fin 3 → ℕ) a ≤ (![n0, n1, n2] : Fin 3 → ℕ) a)
    (y : (⟨3, ![1, n1, n2]⟩ : Shape).Idx) :
    v.readAt Val (Rect.unit (s := ⟨3, ![n0, n1, n2]⟩) off ![1, n1, n2] inb).toLoadRect f y
      = v.read Val f (ix3 k (y 1) (y 2)) := by
  subst ho
  refine congrArg (v.read Val f) (funext fun a => Fin.ext ?_)
  revert a
  rw [Fin.forall_fin_succ, Fin.forall_fin_succ, Fin.forall_fin_succ]
  refine ⟨?_, ?_, ?_, fun a => a.elim0⟩
  · show k.val + 1 * (y 0).val = k.val
    have : (y 0).val < 1 := (y 0).isLt
    omega
  · show 0 + 1 * (y 1).val = (y 1).val; omega
  · show 0 + 1 * (y 2).val = (y 2).val; omega
end Rows

/-- Storing the point's row of the bias gradient accumulator leaves `setRow`. -/
theorem read_store_row (m : Memref sig .tc .vmem S43x64x256 .f32) (f : m.view.ty.Contents (Elt F)) (k : Fin 43) {off : Fin 3 → ℕ}
    (ho : off = ![k.val, 0, 0]) (inb : ∀ a, off a + (![1, 64, 256] : Fin 3 → ℕ) a ≤ (![43, 64, 256] : Fin 3 → ℕ) a)
    (w : Vec F S1x64x256 .f32) :
    m.view.read (Elt F) (m.view.writes (Elt F) f [⟨Rect.unit (s := S43x64x256) off ![1, 64, 256] inb, w⟩]) = setRow (m.view.read (Elt F) f) k w :=
  funext fun y => read_store_row3 m.view f k ho inb w y

/-- Loading it reads `getRow`. -/
theorem load_row (m : Memref sig .tc .vmem S43x64x256 .f32) (f : m.view.ty.Contents (Elt F)) (k : Fin 43) {off : Fin 3 → ℕ}
    (ho : off = ![k.val, 0, 0]) (inb : ∀ a, off a + (![1, 64, 256] : Fin 3 → ℕ) a ≤ (![43, 64, 256] : Fin 3 → ℕ) a) :
    m.view.readAt (Elt F) (Rect.unit (s := S43x64x256) off ![1, 64, 256] inb).toLoadRect f = getRow (m.view.read (Elt F) f) k :=
  funext fun y => load_row3 m.view f k ho inb y

end Cert.KernelIdeal.Fit

end
-- ==== Proof.KernelIdeal.FitA.lean ====
/- The body of the fit kernel at one grid point, case by case of the conditions it tests. -/
module

public import proofs.«01_k».proof.Proof.KernelIdeal.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 0`, `i = 0`. -/
theorem fit_case1 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : (i 1).val = 0) (hi0 : (i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : (Scalar.cmpi .ne (Scalar.extui (Scalar.cmpi .eq (BitVec.ofNat 32 (i 1).val) 0#32) : BitVec 32) 0#32 : BitVec 1) = 1#1 := (cond1_iff i).mpr hj0
  have h2 : k1_cond2 i = 1#1 := (cond2_iff i).mpr hi0
  have h3 : ¬k1_cond3 i = 1#1 := fun h => (cond3_iff i).mp h hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; (try sl_unfold_run_names); unfold fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H9]
  · iexists _; isplitr; swap; · iexact H9
    ipureintro; (try sl_unfold_run_names); unfold fitPbt; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H10]
  · iexists _; isplitr; swap; · iexact H10
    ipureintro; (try sl_unfold_run_names); unfold fitSq fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_pos hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `j = 0`, `i > 0`. -/
theorem fit_case2 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : (i 1).val = 0) (hi0 : ¬(i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : (Scalar.cmpi .ne (Scalar.extui (Scalar.cmpi .eq (BitVec.ofNat 32 (i 1).val) 0#32) : BitVec 32) 0#32 : BitVec 1) = 1#1 := (cond1_iff i).mpr hj0
  have h2 : ¬k1_cond2 i = 1#1 := fun h => hi0 ((cond2_iff i).mp h)
  have h3 : k1_cond3 i = 1#1 := (cond3_iff i).mpr hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; (try sl_unfold_run_names); unfold fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H9]
  · iexists _; isplitr; swap; · iexact H9
    ipureintro; (try sl_unfold_run_names); unfold fitPbt; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H10]
  · iexists _; isplitr; swap; · iexact H10
    ipureintro; (try sl_unfold_run_names); unfold fitSq fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_pos hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_pos hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.KernelIdeal.Fit

end
-- ==== Proof.KernelIdeal.FitB.lean ====
/- The body of the fit kernel at one grid point, case by case of the conditions it tests. -/
module

public import proofs.«01_k».proof.Proof.KernelIdeal.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `0 < j < 42`, `i = 0`. -/
theorem fit_case3 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : (i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : k1_cond2 i = 1#1 := (cond2_iff i).mpr hi0
  have h3 : ¬k1_cond3 i = 1#1 := fun h => (cond3_iff i).mp h hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_neg hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `0 < j < 42`, `i > 0`. -/
theorem fit_case4 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : ¬(i 1).val = 42)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : ¬k1_cond4 i = 1#1 := fun h => hj42 ((cond4_iff i).mp h)
  have hlast : ¬((i 1).val = 42 ∧ (i 0).val = 19) := fun h => hj42 h.1
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact (harg6.read_unread _).trans (if_neg hj42).symm
  isplitl [H5]
  · iexists _; isplitr; swap; · iexact H5
    ipureintro; exact (harg7.read_unread _).trans (if_neg hj42).symm
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; exact (harg14.read_unread _).trans (if_neg hj42).symm
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.KernelIdeal.Fit

end
-- ==== Proof.KernelIdeal.FitC.lean ====
/- The body of the fit kernel at one grid point, case by case of the conditions it tests. -/
module

public import proofs.«01_k».proof.Proof.KernelIdeal.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 42`, `i = 0`. -/
theorem fit_case5 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : (i 0).val = 0) (hj42 : (i 1).val = 42) (hi19 : ¬(i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : k1_cond2 i = 1#1 := (cond2_iff i).mpr hi0
  have h3 : ¬k1_cond3 i = 1#1 := fun h => (cond3_iff i).mp h hi0
  have h4 : k1_cond4 i = 1#1 := (cond4_iff i).mpr hj42
  have h5 : (Scalar.cmpi .ne (Scalar.extui (Scalar.cmpi .eq (BitVec.ofNat 32 (i 0).val) 0#32) : BitVec 32) 0#32 : BitVec 1) = 1#1 := (cond2_iff i).mpr hi0
  have h6 : ¬(Scalar.cmpi .ne (Scalar.extui (Scalar.cmpi .sgt (BitVec.ofNat 32 (i 0).val) 0#32) : BitVec 32) 0#32 : BitVec 1) = 1#1 := fun h => (cond3_iff i).mp h hi0
  have h7 : ¬k1_cond7 i = 1#1 := fun h => hi19 ((cond7_iff i).mp h)
  have hlast : ¬((i 1).val = 42 ∧ (i 0).val = 19) := fun h => hi19 h.2
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_pos hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_pos hi0, load_whole, store_whole, cov_whole, load_row _ _ (i 1) (off_eq i), read_store_row _ _ (i 1) (off_eq i), load_row _ _ (i 1) (off_eq2 i), read_store_row _ _ (i 1) (off_eq2 i), Memref.IsWhole.read_unread]

set_option maxHeartbeats 4000000 in
/-- The body at a point with `j = 42`, `0 < i < 19`. -/
theorem fit_case6 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : (i 1).val = 42) (hi19 : ¬(i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : k1_cond4 i = 1#1 := (cond4_iff i).mpr hj42
  have h5 : ¬(Scalar.cmpi .ne (Scalar.extui (Scalar.cmpi .eq (BitVec.ofNat 32 (i 0).val) 0#32) : BitVec 32) 0#32 : BitVec 1) = 1#1 := fun h => hi0 ((cond2_iff i).mp h)
  have h6 : (Scalar.cmpi .ne (Scalar.extui (Scalar.cmpi .sgt (BitVec.ofNat 32 (i 0).val) 0#32) : BitVec 32) 0#32 : BitVec 1) = 1#1 := (cond3_iff i).mpr hi0
  have h7 : ¬k1_cond7 i = 1#1 := fun h => hi19 ((cond7_iff i).mp h)
  have hlast : ¬((i 1).val = 42 ∧ (i 0).val = 19) := fun h => hi19 h.2
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; exact (harg8.read_unread _).trans (if_neg hlast).symm
  isplitl [H7]
  · iexists _; isplitr; swap; · iexact H7
    ipureintro; exact (harg9.read_unread _).trans (if_neg hlast).symm
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_neg hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.KernelIdeal.Fit

end
-- ==== Proof.KernelIdeal.FitD.lean ====
/- The body of the fit kernel at one grid point, case by case of the conditions it tests. -/
module

public import proofs.«01_k».proof.Proof.KernelIdeal.Fit
public import Idealize.ShloMosaic.Lib.ValueIdxCore
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 42`, `i = 19`. -/
theorem fit_case7 (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (hj0 : ¬(i 1).val = 0) (hi0 : ¬(i 0).val = 0) (hj42 : (i 1).val = 42) (hi19 : (i 0).val = 19)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  have h1 : ¬(Scalar.cmpi .ne (Scalar.extui (Scalar.cmpi .eq (BitVec.ofNat 32 (i 1).val) 0#32) : BitVec 32) 0#32 : BitVec 1) = 1#1 := fun h => hj0 ((cond1_iff i).mp h)
  have h2 : ¬k1_cond2 i = 1#1 := fun h => hi0 ((cond2_iff i).mp h)
  have h3 : k1_cond3 i = 1#1 := (cond3_iff i).mpr hi0
  have h4 : k1_cond4 i = 1#1 := (cond4_iff i).mpr hj42
  have h5 : ¬(Scalar.cmpi .ne (Scalar.extui (Scalar.cmpi .eq (BitVec.ofNat 32 (i 0).val) 0#32) : BitVec 32) 0#32 : BitVec 1) = 1#1 := fun h => hi0 ((cond2_iff i).mp h)
  have h6 : (Scalar.cmpi .ne (Scalar.extui (Scalar.cmpi .sgt (BitVec.ofNat 32 (i 0).val) 0#32) : BitVec 32) 0#32 : BitVec 1) = 1#1 := (cond3_iff i).mpr hi0
  have h7 : k1_cond7 i = 1#1 := (cond7_iff i).mpr hi19
  have hlast : ((i 1).val = 42 ∧ (i 0).val = 19) := ⟨hj42, hi19⟩
  simp only [cc1_fit_step_eq_skeleton]; unfold cc1_fit_step_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; (try sl_unfold_run_names); unfold fitLoss fitSq fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H5]
  · iexists _; isplitr; swap; · iexact H5
    ipureintro; (try sl_unfold_run_names); unfold fitG fitGt fitPb; simp only [if_neg hj0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  isplitl [H6]
  · iexists _; isplitr; swap; · iexact H6
    ipureintro; (try sl_unfold_run_names); unfold fitOa fitDa fitGt fitPb; simp only [if_neg hj0, if_neg hi0, if_pos hj42, if_pos hlast, load_whole, store_whole, cov_whole, load_row _ _ (i 1) (off_eq i), read_store_row _ _ (i 1) (off_eq i), load_row _ _ (i 1) (off_eq2 i), read_store_row _ _ (i 1) (off_eq2 i), Memref.IsWhole.read_unread]
  isplitl [H7]
  · iexists _; isplitr; swap; · iexact H7
    ipureintro; (try sl_unfold_run_names); unfold fitOb fitDb fitPb fitPbt; simp only [if_neg hj0, if_neg hi0, if_pos hlast, load_whole, store_whole, cov_whole, load_row _ _ (i 1) (off_eq i), read_store_row _ _ (i 1) (off_eq i), load_row _ _ (i 1) (off_eq2 i), read_store_row _ _ (i 1) (off_eq2 i), Memref.IsWhole.read_unread]
  isplitl [H8]
  · iexists _; isplitr; swap; · iexact H8
    ipureintro; exact (harg10.read_unread _).trans (if_neg hj0).symm
  isplitl [H9]
  · iexists _; isplitr; swap; · iexact H9
    ipureintro; exact (harg11.read_unread _).trans (if_neg hj0).symm
  isplitl [H10]
  · iexists _; isplitr; swap; · iexact H10
    ipureintro; (try sl_unfold_run_names); unfold fitSq fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H11]
  · iexists _; isplitr; swap; · iexact H11
    ipureintro; (try sl_unfold_run_names); unfold fitGt fitPb; simp only [if_neg hj0, load_whole, store_whole, cov_whole, load_row _ _ (i 1) (off_eq i), read_store_row _ _ (i 1) (off_eq i), load_row _ _ (i 1) (off_eq2 i), read_store_row _ _ (i 1) (off_eq2 i), Memref.IsWhole.read_unread]
  isplitl [H12]
  · iexists _; isplitr; swap; · iexact H12
    ipureintro; (try sl_unfold_run_names); unfold fitDa fitGt fitPb; simp only [if_neg hj0, if_neg hi0, if_pos hj42, load_whole, store_whole, cov_whole, load_row _ _ (i 1) (off_eq i), read_store_row _ _ (i 1) (off_eq i), load_row _ _ (i 1) (off_eq2 i), read_store_row _ _ (i 1) (off_eq2 i), Memref.IsWhole.read_unread]
  iexists _; isplitr; swap; · iexact H13
  ipureintro; (try sl_unfold_run_names); unfold fitDb fitPb fitPbt; simp only [if_neg hj0, if_neg hi0, load_whole, store_whole, cov_whole, load_row _ _ (i 1) (off_eq i), read_store_row _ _ (i 1) (off_eq i), load_row _ _ (i 1) (off_eq2 i), read_store_row _ _ (i 1) (off_eq2 i), Memref.IsWhole.read_unread]

end Cert.KernelIdeal.Fit

end
-- ==== Proof.KernelIdeal.FitRun.lean ====
/- The second kernel of the program (the fit step): its state over the grid, the invariant between points, and its obligation at every point. -/
module

public import proofs.«01_k».proof.Proof.KernelIdeal.FitA
public import proofs.«01_k».proof.Proof.KernelIdeal.FitB
public import proofs.«01_k».proof.Proof.KernelIdeal.FitC
public import proofs.«01_k».proof.Proof.KernelIdeal.FitD
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any grid point: every buffer it touches goes from what it holds to the corresponding `fit…` of that. -/
theorem sound_fit (c : Dev nD) (i : grid1.Coords) (arg2 : Memref sig .tc .vmem S1024x4096 .bf16) (harg2 : arg2.IsWhole) (arg3 : Memref sig .tc .vmem S1x4096x256 .bf16) (harg3 : arg3.IsWhole) (arg4 : Memref sig .tc .vmem S4096x64 .bf16) (harg4 : arg4.IsWhole) (arg5 : Memref sig .tc .vmem S1x64x256 .bf16) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S4096x64 .f32) (harg8 : arg8.IsWhole) (arg9 : Memref sig .tc .vmem S43x64x256 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1024x128 .f32) (harg12 : arg12.IsWhole) (arg13 : Memref sig .tc .vmem S64x1024 .f32) (harg13 : arg13.IsWhole) (arg14 : Memref sig .tc .vmem S64x4096 .f32) (harg14 : arg14.IsWhole) (arg15 : Memref sig .tc .vmem S43x64x256 .f32) (harg15 : arg15.IsWhole)
    (x : Vec F S1024x4096 .bf16) (e : Vec F S1x4096x256 .bf16) (a : Vec F S4096x64 .bf16) (b : Vec F S1x64x256 .bf16) (o4 : Vec F S1x1x1024 .f32) (o5 : Vec F S1024x64 .f32) (o6 : Vec F S4096x64 .f32) (o7 : Vec F S43x64x256 .f32) (pb : Vec F S1024x64 .bf16) (pbt : Vec F S64x1024 .bf16) (sq : Vec F S1024x128 .f32) (gt : Vec F S64x1024 .f32) (da : Vec F S64x4096 .f32) (db : Vec F S43x64x256 .f32)
    (E : Set ℕ) (K : PUnit → sProp 𝕄) :
    iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare o4 ∗ owns (c : Thread nD τ) arg7 fullShare o5 ∗ owns (c : Thread nD τ) arg8 fullShare o6 ∗ owns (c : Thread nD τ) arg9 fullShare o7 ∗ owns (c : Thread nD τ) arg10 fullShare pb ∗ owns (c : Thread nD τ) arg11 fullShare pbt ∗ owns (c : Thread nD τ) arg12 fullShare sq ∗ owns (c : Thread nD τ) arg13 fullShare gt ∗ owns (c : Thread nD τ) arg14 fullShare da ∗ owns (c : Thread nD τ) arg15 fullShare db ∗ (iprop(owns (c : Thread nD τ) arg2 fullShare x ∗ owns (c : Thread nD τ) arg3 fullShare e ∗ owns (c : Thread nD τ) arg4 fullShare a ∗ owns (c : Thread nD τ) arg5 fullShare b ∗ owns (c : Thread nD τ) arg6 fullShare (fitLoss i o4 (fitSq i x e a b pb sq)) ∗ owns (c : Thread nD τ) arg7 fullShare (fitG i o5 (fitGt i x e a b pb gt)) ∗ owns (c : Thread nD τ) arg8 fullShare (fitOa i o6 (fitDa i x (fitGt i x e a b pb gt) da)) ∗ owns (c : Thread nD τ) arg9 fullShare (fitOb i o7 (fitDb i x e a b pb pbt db)) ∗ owns (c : Thread nD τ) arg10 fullShare (fitPb i x a pb) ∗ owns (c : Thread nD τ) arg11 fullShare (fitPbt i x a pbt) ∗ owns (c : Thread nD τ) arg12 fullShare (fitSq i x e a b pb sq) ∗ owns (c : Thread nD τ) arg13 fullShare (fitGt i x e a b pb gt) ∗ owns (c : Thread nD τ) arg14 fullShare (fitDa i x (fitGt i x e a b pb gt) da) ∗ owns (c : Thread nD τ) arg15 fullShare (fitDb i x e a b pb pbt db)) -∗ K ⟨⟩))
      ⊢ wp frame (wpE (defs₀ (F := F)) Variants.none c none) E (cc1_fit_step i arg2 harg2 arg3 harg3 arg4 harg4 arg5 harg5 arg6 harg6 arg7 harg7 arg8 harg8 arg9 harg9 arg10 harg10 arg11 harg11 arg12 harg12 arg13 harg13 arg14 harg14 arg15 harg15) K := by
  by_cases hj0 : (i 1).val = 0
  · have hj42 : ¬(i 1).val = 42 := by omega
    by_cases hi0 : (i 0).val = 0
    · exact fit_case1 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
    · exact fit_case2 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
  · by_cases hj42 : (i 1).val = 42
    · by_cases hi0 : (i 0).val = 0
      · exact fit_case5 c i (hj0 := hj0) (hi0 := hi0) (hj42 := hj42) (hi19 := by omega) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
      · by_cases hi19 : (i 0).val = 19
        · exact fit_case7 c i (hj0 := hj0) (hi0 := hi0) (hj42 := hj42) (hi19 := hi19) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
        · exact fit_case6 c i (hj0 := hj0) (hi0 := hi0) (hj42 := hj42) (hi19 := hi19) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
    · by_cases hi0 : (i 0).val = 0
      · exact fit_case3 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db
      · exact fit_case4 c i (hj0 := hj0) (hi0 := hi0) (hj42 := hj42) (E := E) (K := K) arg2 harg2 arg3 harg3 arg4 harg4 arg5 harg5 arg6 harg6 arg7 harg7 arg8 harg8 arg9 harg9 arg10 harg10 arg11 harg11 arg12 harg12 arg13 harg13 arg14 harg14 arg15 harg15 x e a b o4 o5 o6 o7 pb pbt sq gt da db

/-- What the six scratch buffers hold: `x·a`, its transpose, the folded squares, the transposed gradient, the factor gradient, the bias gradient. -/
structure St (F : FTy → Type) [FloatOps F] where
  pb : Vec F S1024x64 .bf16
  pbt : Vec F S64x1024 .bf16
  sq : Vec F S1024x128 .f32
  gt : Vec F S64x1024 .f32
  da : Vec F S64x4096 .f32
  db : Vec F S43x64x256 .f32

/-- One point of the grid, on the scratch buffers, from the point's coordinates and blocks. -/
def stepSt (i : grid1.Coords) (x : Vec F S1024x4096 .bf16) (e : Vec F S1x4096x256 .bf16) (a : Vec F S4096x64 .bf16) (b : Vec F S1x64x256 .bf16) (s : St F) : St F :=
  ⟨fitPb i x a s.pb, fitPbt i x a s.pbt, fitSq i x e a b s.pb s.sq, fitGt i x e a b s.pb s.gt, fitDa i x (fitGt i x e a b s.pb s.gt) s.da, fitDb i x e a b s.pb s.pbt s.db⟩

/-- Two states agree as far as a point before which `n` points have run may read: within a row of the grid on what the
    row's first point set; after the first row on the factor gradient; on the rows of the bias gradient already set. -/
def Agree (n : ℕ) (s s' : St F) : Prop :=
  (n % 43 ≠ 0 → s.pb = s'.pb ∧ s.pbt = s'.pbt ∧ s.sq = s'.sq ∧ s.gt = s'.gt) ∧ (43 ≤ n → s.da = s'.da)
    ∧ (∀ y : S43x64x256.Idx, (y 0).val < n % 43 ∨ 43 ≤ n → s.db y = s'.db y)

theorem agree_zero (s s' : St F) : Agree 0 s s' :=
  ⟨fun h => absurd rfl h, fun h => absurd h (by decide), fun y h => absurd h (by omega)⟩

/-- One point takes states that agree to states that agree on everything the point's row of the grid has set. -/
theorem step_agree {n : ℕ} (hn : n < 860) (i : grid1.Coords) (h0 : (i 0).val = n / 43) (h1 : (i 1).val = n % 43)
    (x : Vec F S1024x4096 .bf16) (e : Vec F S1x4096x256 .bf16) (a : Vec F S4096x64 .bf16) (b : Vec F S1x64x256 .bf16) {s s' : St F} (h : Agree n s s') :
    ((stepSt i x e a b s).pb = (stepSt i x e a b s').pb ∧ (stepSt i x e a b s).pbt = (stepSt i x e a b s').pbt
      ∧ (stepSt i x e a b s).sq = (stepSt i x e a b s').sq ∧ (stepSt i x e a b s).gt = (stepSt i x e a b s').gt)
    ∧ (42 ≤ n → (stepSt i x e a b s).da = (stepSt i x e a b s').da)
    ∧ (∀ y : S43x64x256.Idx, (y 0).val ≤ n % 43 ∨ 43 ≤ n → (stepSt i x e a b s).db y = (stepSt i x e a b s').db y) := by
  obtain ⟨hrow, hda, hdb⟩ := h
  have e1 : fitPb i x a s.pb = fitPb i x a s'.pb := by
    unfold fitPb; split
    · rfl
    · rename_i hh; exact (hrow (by omega)).1
  have e2 : fitPbt i x a s.pbt = fitPbt i x a s'.pbt := by
    unfold fitPbt; split
    · rfl
    · rename_i hh; exact (hrow (by omega)).2.1
  have e3 : fitSq i x e a b s.pb s.sq = fitSq i x e a b s'.pb s'.sq := by
    unfold fitSq; rw [e1]; split
    · rfl
    · rename_i hh; rw [(hrow (by omega)).2.2.1]
  have e4 : fitGt i x e a b s.pb s.gt = fitGt i x e a b s'.pb s'.gt := by
    unfold fitGt; rw [e1]; split
    · rfl
    · rename_i hh; rw [(hrow (by omega)).2.2.2]
  refine ⟨⟨e1, e2, e3, e4⟩, fun hn42 => ?_, fun y hy => ?_⟩
  · show fitDa i x (fitGt i x e a b s.pb s.gt) s.da = fitDa i x (fitGt i x e a b s'.pb s'.gt) s'.da
    rw [e4]; unfold fitDa; split
    · split
      · rfl
      · rename_i _ hh; rw [hda (by omega)]
    · rename_i hh; exact hda (by omega)
  · show fitDb i x e a b s.pb s.pbt s.db y = fitDb i x e a b s'.pb s'.pbt s'.db y
    unfold fitDb; rw [e1, e2]; unfold setRow; split
    · split
      · rfl
      · rename_i _ hh
        have hg : getRow s.db (i 1) = getRow s'.db (i 1) := funext fun z => hdb _ (Or.inr (by omega))
        rw [hg]
    · rename_i hh
      exact hdb y (by omega)

/-- Before a grid point the next agreement follows from what the point leaves. -/
theorem step_agree' {n : ℕ} (hn : n < 860) (i : grid1.Coords) (h0 : (i 0).val = n / 43) (h1 : (i 1).val = n % 43)
    (x : Vec F S1024x4096 .bf16) (e : Vec F S1x4096x256 .bf16) (a : Vec F S4096x64 .bf16) (b : Vec F S1x64x256 .bf16) {s s' : St F} (h : Agree n s s') :
    Agree (n + 1) (stepSt i x e a b s) (stepSt i x e a b s') := by
  obtain ⟨p1, p2, p3⟩ := step_agree hn i h0 h1 x e a b h
  exact ⟨fun _ => p1, fun h => p2 (by omega), fun y h => p3 y (by have hy : (y 0).val < 43 := (y 0).isLt; omega)⟩

theorem N1 : cfg1.N = 860 := rfl

/-- A point's first coordinate. -/
theorem coord0 (t : Fin cfg1.N) : ((grid1.coords t) 0).val = t.val / 43 := by
  have h := Pipeline.Grid.coords_val (G := grid1) t 0 (S := 43) (B := 20) (by decide) rfl
  have ht : t.val < 860 := t.isLt
  omega
/-- A point's second coordinate. -/
theorem coord1 (t : Fin cfg1.N) : ((grid1.coords t) 1).val = t.val % 43 := by
  have h := Pipeline.Grid.coords_val (G := grid1) t 1 (S := 1) (B := 43) (by decide) rfl
  omega

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S43x64x256 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S1024x64 .bf16 := Memref.whole cc1_scratch0
abbrev scM1_1 : Memref sig .tc .vmem S64x1024 .bf16 := Memref.whole cc1_scratch1
abbrev scM1_2 : Memref sig .tc .vmem S1024x128 .f32 := Memref.whole cc1_scratch2
abbrev scM1_3 : Memref sig .tc .vmem S64x1024 .f32 := Memref.whole cc1_scratch3
abbrev scM1_4 : Memref sig .tc .vmem S64x4096 .f32 := Memref.whole cc1_scratch4
abbrev scM1_5 : Memref sig .tc .vmem S43x64x256 .f32 := Memref.whole cc1_scratch5

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ (∃ r, prngReg c r)) := by
  unfold Pipeline.ΦA; rw [scopedRest1_eq]; simp only [scM1_0, scM1_1, scM1_2, scM1_3, scM1_4, scM1_5, owns_whole]; try rfl

/-- Some state, for the points' recursion to start from: what it starts from is never read. -/
def st0 : St F := ⟨fun _ => Scalar.ofBits .bf16 0x0000#16, fun _ => Scalar.ofBits .bf16 0x0000#16, fun _ => Scalar.ofBits .f32 0x00000000#32, fun _ => Scalar.ofBits .f32 0x00000000#32, fun _ => Scalar.ofBits .f32 0x00000000#32, fun _ => Scalar.ofBits .f32 0x00000000#32⟩

/-- Point `t` on the scratch buffers. -/
def stepAt (c : Dev nD) (t : Fin cfg1.N) (s : St F) : St F :=
  stepSt (grid1.coords t) (iblk1 V c 0 t) (iblk1 V c 1 t) (iblk1 V c 2 t) (iblk1 V c 3 t) s

/-- The scratch buffers after the first `n` points. -/
def st (c : Dev nD) : ℕ → St F
  | 0 => st0
  | n + 1 => if h : n < cfg1.N then stepAt V c ⟨n, h⟩ (st c n) else st c n

theorem st_succ (c : Dev nD) (t : Fin cfg1.N) : st V c (t.val + 1) = stepAt V c t (st V c t.val) := by
  rw [st, dif_pos t.isLt]

/-- The buffers of the region's own that the body never touches. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The six scratch buffers held at a state. -/
def heldSt (c : Dev nD) (s : St F) : sProp 𝕄 :=
  iprop(owns (c : Thread nD τ) scM1_0 fullShare s.pb ∗ owns (c : Thread nD τ) scM1_1 fullShare s.pbt ∗ owns (c : Thread nD τ) scM1_2 fullShare s.sq ∗ owns (c : Thread nD τ) scM1_3 fullShare s.gt ∗ owns (c : Thread nD τ) scM1_4 fullShare s.da ∗ owns (c : Thread nD τ) scM1_5 fullShare s.db)

/-- Between points: the scratch buffers at a state agreeing with `st`, the rest untouched. -/
def Φ1 (c : Dev nD) (n : ℕ) : sProp 𝕄 :=
  iprop((∃ s, ⌜Agree n s (st V c n)⌝ ∗ heldSt c s) ∗ rest1 c ∗ (∃ r, prngReg c r))

theorem Φ1_in (c : Dev nD) : (Pipeline.ΦA spec1 c : sProp 𝕄) ⊢ Φ1 V c 0 := by
  rw [PhiA1_eq]; unfold Φ1 heldSt rest1
  iintro ⟨⟨HR0, HR1, HR2, HR3, HR4, HR5, HR6, HR7, HR8, HR9, ⟨%d0, HS0⟩, ⟨%d1, HS1⟩, ⟨%d2, HS2⟩, ⟨%d3, HS3⟩, ⟨%d4, HS4⟩, ⟨%d5, HS5⟩⟩, Hg⟩
  isplitl [HS0 HS1 HS2 HS3 HS4 HS5]
  · iexists (⟨d0, d1, d2, d3, d4, d5⟩ : St F)
    isplitr; · ipureintro; exact agree_zero _ _
    isplitl [HS0]; · iexact HS0
    isplitl [HS1]; · iexact HS1
    isplitl [HS2]; · iexact HS2
    isplitl [HS3]; · iexact HS3
    isplitl [HS4]; · iexact HS4
    iexact HS5
  isplitl [HR0 HR1 HR2 HR3 HR4 HR5 HR6 HR7 HR8 HR9]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact HR9
  iexact Hg

theorem Φ1_out (c : Dev nD) (n : ℕ) : Φ1 V c n ⊢ (Pipeline.ΦA spec1 c : sProp 𝕄) := by
  rw [PhiA1_eq]; unfold Φ1 heldSt rest1
  iintro ⟨⟨%s, -, HS0, HS1, HS2, HS3, HS4, HS5⟩, ⟨HR0, HR1, HR2, HR3, HR4, HR5, HR6, HR7, HR8, HR9⟩, Hg⟩
  isplitl [HR0 HR1 HR2 HR3 HR4 HR5 HR6 HR7 HR8 HR9 HS0 HS1 HS2 HS3 HS4 HS5]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The proof data of the region: the arrays as the region finds them; after the body at a point each input's buffer at its
    block and each output's at what the point's state gives; between points `Φ1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay5 (st V c (t.val + 1)).sq
    | ⟨5, _⟩ => k1_pay4 (st V c (t.val + 1)).gt
    | ⟨6, _⟩ => k1_pay9 (st V c (t.val + 1)).da
    | ⟨7, _⟩ => k1_pay10 (st V c (t.val + 1)).db
  Φ n := Φ1 V c n.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay5 (st V c (t.val + 1)).sq := by dsimp only [dat1]
theorem after1_5 (c : Dev nD) (t : Fin cfg1.N) : (dat1 V c).after 5 t = k1_pay4 (st V c (t.val + 1)).gt := by dsimp only [dat1]
theorem after1_6 (c : Dev nD) (t : Fin cfg1.N) : (dat1 V c).after 6 t = k1_pay9 (st V c (t.val + 1)).da := by dsimp only [dat1]
theorem after1_7 (c : Dev nD) (t : Fin cfg1.N) : (dat1 V c).after 7 t = k1_pay10 (st V c (t.val + 1)).db := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An output window at a point that leaves its block alone: it is handed back as found. -/
theorem leave_idle (c : Dev nD) (w : Fin cfg1.W) (t : Fin cfg1.N) (hi : cfg1.idle w (grid1.coords t) = true) (hf : ¬(cfg1.win w).flush t = true) (d) :
    owns (c : Thread nD τ) ((cfg1.win w).stage (cfg1.slots t w)) fullShare ((dat1 V c).before w t d) ⊢ (dat1 V c).leavesExact w t := by
  rw [Pipeline.Dat.leavesExact_idle _ w t hi (Bool.eq_false_iff.mpr hf)]
  iintro H; iexists d; iexact H

/-- An output window at a point that writes its block: it is left at the proof data's contents. -/
theorem leave_live (c : Dev nD) (w : Fin cfg1.W) (t : Fin cfg1.N) (hi : cfg1.idle w (grid1.coords t) = false) :
    owns (c : Thread nD τ) ((cfg1.win w).stage (cfg1.slots t w)) fullShare ((dat1 V c).after w t) ⊢ (dat1 V c).leavesExact w t := by
  unfold Pipeline.Dat.leavesExact; rw [show cfg1.idle w (cfg1.grid.coords t) = false from hi]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t ∗ (dat1 V c).leavesExact 5 t ∗ (dat1 V c).leavesExact 6 t ∗ (dat1 V c).leavesExact 7 t)

theorem idle_4 (t : Fin cfg1.N) : cfg1.idle 4 (grid1.coords t) = !(k1_cond4 (grid1.coords t) == 1#1) := rfl
theorem idle_5 (t : Fin cfg1.N) : cfg1.idle 5 (grid1.coords t) = !(k1_cond4 (grid1.coords t) == 1#1) := rfl
theorem idle_6 (t : Fin cfg1.N) : cfg1.idle 6 (grid1.coords t) = !(k1_cond4 (grid1.coords t) == 1#1 && k1_cond7 (grid1.coords t) == 1#1) := rfl
theorem idle_7 (t : Fin cfg1.N) : cfg1.idle 7 (grid1.coords t) = !(k1_cond4 (grid1.coords t) == 1#1 && k1_cond7 (grid1.coords t) == 1#1) := rfl

theorem leave_4 (c : Dev nD) (t : Fin cfg1.N) (s : St F) (hs : Agree t.val s (st V c t.val)) (d) :
    owns (c : Thread nD τ) (ms1_4 t) fullShare (fitLoss (grid1.coords t) ((dat1 V c).before 4 t d) (stepAt V c t s).sq) ⊢ (dat1 V c).leavesExact 4 t := by
  have h1 := coord1 t
  by_cases h : t.val % 43 = 42
  · refine BIBase.Entails.trans (BIBase.Entails.of_eq ?_) (leave_live V c 4 t (by rw [idle_4, (cond4_iff _).mpr (h1.trans h)]; rfl))
    unfold fitLoss
    rw [if_pos (h1.trans h), after1_4, st_succ, stepAt, stepAt, (step_agree t.isLt _ (coord0 t) h1 _ _ _ _ hs).1.2.2.1]
  · refine BIBase.Entails.trans (BIBase.Entails.of_eq ?_) (leave_idle V c 4 t (by rw [idle_4]; simp only [Bool.not_eq_true', beq_eq_false_iff_ne, ne_eq, cond4_iff, h1]; exact h) (fun hf => h ((flush1_4 t).mp hf)) d)
    unfold fitLoss
    rw [if_neg (fun hh => h (h1.symm.trans hh))]

theorem leave_5 (c : Dev nD) (t : Fin cfg1.N) (s : St F) (hs : Agree t.val s (st V c t.val)) (d) :
    owns (c : Thread nD τ) (ms1_5 t) fullShare (fitG (grid1.coords t) ((dat1 V c).before 5 t d) (stepAt V c t s).gt) ⊢ (dat1 V c).leavesExact 5 t := by
  have h1 := coord1 t
  by_cases h : t.val % 43 = 42
  · refine BIBase.Entails.trans (BIBase.Entails.of_eq ?_) (leave_live V c 5 t (by rw [idle_5, (cond4_iff _).mpr (h1.trans h)]; rfl))
    unfold fitG
    rw [if_pos (h1.trans h), after1_5, st_succ, stepAt, stepAt, (step_agree t.isLt _ (coord0 t) h1 _ _ _ _ hs).1.2.2.2]
  · refine BIBase.Entails.trans (BIBase.Entails.of_eq ?_) (leave_idle V c 5 t (by rw [idle_5]; simp only [Bool.not_eq_true', beq_eq_false_iff_ne, ne_eq, cond4_iff, h1]; exact h) (fun hf => h ((flush1_5 t).mp hf)) d)
    unfold fitG
    rw [if_neg (fun hh => h (h1.symm.trans hh))]

theorem idle_last (t : Fin cfg1.N) (h : ¬t.val % 860 = 859) : (!(k1_cond4 (grid1.coords t) == 1#1 && k1_cond7 (grid1.coords t) == 1#1)) = true := by
  have h0 := coord0 t
  have h1 := coord1 t
  have ht : t.val < 860 := t.isLt
  simp only [Bool.not_eq_true', Bool.and_eq_false_iff, beq_eq_false_iff_ne, ne_eq, cond4_iff, cond7_iff, h0, h1]
  omega

theorem live_last (t : Fin cfg1.N) (h : t.val % 860 = 859) : (!(k1_cond4 (grid1.coords t) == 1#1 && k1_cond7 (grid1.coords t) == 1#1)) = false := by
  have h0 := coord0 t
  have h1 := coord1 t
  have ht : t.val < 860 := t.isLt
  rw [(cond4_iff _).mpr (by omega), (cond7_iff _).mpr (by omega)]; rfl

theorem leave_6 (c : Dev nD) (t : Fin cfg1.N) (s : St F) (hs : Agree t.val s (st V c t.val)) (d) :
    owns (c : Thread nD τ) (ms1_6 t) fullShare (fitOa (grid1.coords t) ((dat1 V c).before 6 t d) (stepAt V c t s).da) ⊢ (dat1 V c).leavesExact 6 t := by
  have h0 := coord0 t
  have h1 := coord1 t
  have ht : t.val < 860 := t.isLt
  by_cases h : t.val % 860 = 859
  · refine BIBase.Entails.trans (BIBase.Entails.of_eq ?_) (leave_live V c 6 t ((idle_6 t).trans (live_last t h)))
    unfold fitOa
    rw [if_pos ⟨by omega, by omega⟩, after1_6, st_succ, stepAt, stepAt, (step_agree t.isLt _ (coord0 t) h1 _ _ _ _ hs).2.1 (by omega)]
  · refine BIBase.Entails.trans (BIBase.Entails.of_eq ?_) (leave_idle V c 6 t ((idle_6 t).trans (idle_last t h)) (fun hf => h ((flush1_6 t).mp hf)) d)
    unfold fitOa
    rw [if_neg (by omega)]

theorem leave_7 (c : Dev nD) (t : Fin cfg1.N) (s : St F) (hs : Agree t.val s (st V c t.val)) (d) :
    owns (c : Thread nD τ) (ms1_7 t) fullShare (fitOb (grid1.coords t) ((dat1 V c).before 7 t d) (stepAt V c t s).db) ⊢ (dat1 V c).leavesExact 7 t := by
  have h0 := coord0 t
  have h1 := coord1 t
  have ht : t.val < 860 := t.isLt
  by_cases h : t.val % 860 = 859
  · refine BIBase.Entails.trans (BIBase.Entails.of_eq ?_) (leave_live V c 7 t ((idle_7 t).trans (live_last t h)))
    have hdb : (stepAt V c t s).db = (stepAt V c t (st V c t.val)).db :=
      funext fun y => (step_agree t.isLt _ (coord0 t) h1 _ _ _ _ hs).2.2 y (Or.inr (by omega))
    unfold fitOb
    rw [if_pos ⟨by omega, by omega⟩, after1_7, st_succ, hdb]
  · refine BIBase.Entails.trans (BIBase.Entails.of_eq ?_) (leave_idle V c 7 t ((idle_7 t).trans (idle_last t h)) (fun hf => h ((flush1_7 t).mp hf)) d)
    unfold fitOb
    rw [if_neg (by omega)]

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, after1_0, after1_1, after1_2, after1_3]
  rw [show (dat1 V c).Φ t.castSucc = Φ1 V c t.val from rfl, show (dat1 V c).Φ t.succ = Φ1 V c (t.val + 1) from rfl]
  unfold Φ1 heldSt
  iintro ⟨⟨⟨%s, %hs, HS0, HS1, HS2, HS3, HS4, HS5⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_fit c (grid1.coords t) _ _ _ _ _ _ _ _ _ _ _ _ _ _ _ _ _ _ _ _ _ _ _ _ _ _ _ _ (iblk1 V c 0 t) (iblk1 V c 1 t) (iblk1 V c 2 t) (iblk1 V c 3 t)
    ((dat1 V c).before 4 t d4) ((dat1 V c).before 5 t d5) ((dat1 V c).before 6 t d6) ((dat1 V c).before 7 t d7) s.pb s.pbt s.sq s.gt s.da s.db Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HR HS0 HS1 HS2 HS3 HS4 HS5 Hg]
  · isplitl [HS0 HS1 HS2 HS3 HS4 HS5]
    · iexists (stepAt V c t s)
      isplitr
      · ipureintro; rw [st_succ]; exact step_agree' t.isLt _ (coord0 t) (coord1 t) _ _ _ _ hs
      isplitl [HS0]; · iexact HS0
      isplitl [HS1]; · iexact HS1
      isplitl [HS2]; · iexact HS2
      isplitl [HS3]; · iexact HS3
      isplitl [HS4]; · iexact HS4
      iexact HS5
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iapply (leave_4 V c t s hs d4); iexact H4
  isplitl [H5]; · iapply (leave_5 V c t s hs d5); iexact H5
  isplitl [H6]; · iapply (leave_6 V c t s hs d6); iexact H6
  iapply (leave_7 V c t s hs d7); iexact H7

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Fit

end
-- ==== Proof.KernelIdeal.Run.lean ====
/- The run of the whole program: its host stretches and two kernels in order, and the frame. -/
module

public import proofs.«01_k».proof.Proof.KernelIdeal.Err
public import proofs.«01_k».proof.Proof.KernelIdeal.FitRun
public import Idealize.ShloMosaic.Lib.Pipeline.FrameBody
public import Idealize.ShloMosaic.Lib.Claim
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Cert.KernelIdeal.Err Cert.KernelIdeal.Fit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    refine BIBase.Entails.trans ?_ (Φ1_in (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = Φ1 (V3 m ρ) c (Fin.last cfg1.N).val from rfl]
    refine BIBase.Entails.trans (Φ1_out (V3 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main from zero counters terminates with every unscoped array at the last boundary's
    contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s hs => ⟨(fun c =>
      ⟨(hs.1 c _ (mem_uc main_arg0 (by decide))).trans (W5_main_arg0 m ρ c),
       (hs.1 c _ (mem_uc main_arg1 (by decide))).trans (W5_main_arg1 m ρ c),
       (hs.1 c _ (mem_uc main_arg2 (by decide))).trans (W5_main_arg2 m ρ c),
       (hs.1 c _ (mem_uc main_arg3 (by decide))).trans (W5_main_arg3 m ρ c),
       (hs.1 c _ (mem_uc main_arg4 (by decide))).trans (W5_main_arg4 m ρ c),
       (hs.1 c _ (mem_uc main_arg5 (by decide))).trans (W5_main_arg5 m ρ c),
       (hs.1 c _ (mem_uc main_arg6 (by decide))).trans (W5_main_arg6 m ρ c)⟩), hs.2⟩) (run_all m ρ)

end Cert.KernelIdeal.Run

end
-- ==== Proof.KernelIdeal.Pay.lean ====
/- What the second kernel's payloads compute over the extended reals, element by element. -/
module

public import proofs.«01_k».proof.Proof.Gen.KernelIdeal.Skeleton
public import Idealize.ShloMosaic.Lib.MatmulPlain
public import Idealize.ShloMosaic.Lib.ValueLayout
public import Idealize.ShloMosaic.Lib.ValueIdx
public import Idealize.ShloMosaic.Lib.Pipeline.Value
public import Idealize.ShloMosaic.PureOps.Ideal.Laws

@[expose] public section

set_option maxRecDepth 16384

noncomputable section

namespace Cert.KernelIdeal.Pay

open Cert.KernelIdeal Cert.KernelIdeal.Gen
open Idealize.ShloMosaic Idealize.ShloMosaic.ValueIdx

/-- The zero the kernels splat is the real number zero. -/
theorem zero_f32 (s : Shape) (i : s.Idx) : constant (F := Ideal) s .f32 0x00000000#32 i = 0 := Ideal.ofBits_zero_f32

/-- `x·a` at a token and a rank. -/
theorem pay11_apply (x : FVec Ideal S1024x4096 .bf16) (a : FVec Ideal S4096x64 .bf16) (p : Fin 1024) (r : Fin 64) :
    k1_pay11 (F := Ideal) x a (ix2 p r) = ∑ d : Fin 4096, x (ix2 p d) * a (ix2 d r) := by
  unfold k1_pay11
  rw [shapeCast_self]
  refine (Ideal.matmul_plain_apply none x a _ p r).trans ?_
  rw [zero_f32, zero_add]

theorem pay12_apply (x : FVec Ideal S1024x4096 .bf16) (a : FVec Ideal S4096x64 .bf16) (p : Fin 1024) (r : Fin 64) :
    k1_pay12 (F := Ideal) x a (ix2 p r) = ∑ d : Fin 4096, x (ix2 p d) * a (ix2 d r) := by
  unfold k1_pay12
  rw [shapeCast_self]
  exact pay11_apply x a p r

/-- The transposed copy of `x·a`. -/
theorem pay13_apply (x : FVec Ideal S1024x4096 .bf16) (a : FVec Ideal S4096x64 .bf16) (r : Fin 64) (p : Fin 1024) :
    k1_pay13 (F := Ideal) x a (ix2 r p) = ∑ d : Fin 4096, x (ix2 p d) * a (ix2 d r) := by
  unfold k1_pay13
  rw [shapeCast_self]
  exact (transpose_ix2_apply (k1_pay11 (F := Ideal) x a) transposes_S1024x64_p1_0_S64x1024 r p).trans (pay11_apply x a p r)

theorem pay14_apply (i : S64x1024.Idx) : k1_pay14 (F := Ideal) i = 0 := by
  unfold k1_pay14
  rw [shapeCast_self]
  exact Ideal.ofBits_zero_f32

theorem pay15_apply (i : S1024x128.Idx) : k1_pay15 (F := Ideal) i = 0 := by
  unfold k1_pay15
  rw [shapeCast_self]
  exact Ideal.ofBits_zero_f32

theorem pay16_apply (b : FVec Ideal S1x64x256 .bf16) (r : Fin 64) (l : Fin 256) :
    k1_pay16 (F := Ideal) b (ix2 r l) = b (ix3 (0 : Fin 1) r l) :=
  shapeCast_1ab_ab_apply b shapeCasts_S1x64x256_S64x256 r l

/-- The residual at a token and a column. -/
theorem pay17_apply (b : FVec Ideal S1x64x256 .bf16) (x : FVec Ideal S1024x4096 .bf16) (e : FVec Ideal S1x4096x256 .bf16)
    (pb : FVec Ideal S1024x64 .bf16) (p : Fin 1024) (l : Fin 256) :
    k1_pay17 (F := Ideal) b x e pb (ix2 p l)
      = (∑ d : Fin 4096, x (ix2 p d) * e (ix3 (0 : Fin 1) d l)) - ∑ r : Fin 64, pb (ix2 p r) * b (ix3 (0 : Fin 1) r l) := by
  unfold k1_pay17
  rw [shapeCast_self]
  refine congrArg₂ (· - ·) ?_ ?_
  · refine (Ideal.matmul_plain_apply none x (shapeCast S4096x256 e shapeCasts_S1x4096x256_S4096x256) _ p l).trans ?_
    rw [zero_f32, zero_add]
    exact Finset.sum_congr rfl fun d _ => congrArg (x (ix2 p d) * ·) (shapeCast_1ab_ab_apply e shapeCasts_S1x4096x256_S4096x256 d l)
  · refine (Ideal.matmul_plain_apply none pb (k1_pay16 (F := Ideal) b) _ p l).trans ?_
    rw [zero_f32, zero_add]
    exact Finset.sum_congr rfl fun r _ => congrArg (pb (ix2 p r) * ·) (pay16_apply b r l)

/-- The folded squares: the two halves of the columns' squares added to what was there. -/
theorem pay18_apply (b : FVec Ideal S1x64x256 .bf16) (x : FVec Ideal S1024x4096 .bf16) (e : FVec Ideal S1x4096x256 .bf16)
    (pb : FVec Ideal S1024x64 .bf16) (sq : FVec Ideal S1024x128 .f32) (p : Fin 1024) (l : Fin 128) :
    k1_pay18 (F := Ideal) b x e pb sq (ix2 p l)
      = sq (ix2 p l) + (k1_pay17 (F := Ideal) b x e pb (ix2 p ⟨l.val, by omega⟩) * k1_pay17 (F := Ideal) b x e pb (ix2 p ⟨l.val, by omega⟩)
          + k1_pay17 (F := Ideal) b x e pb (ix2 p ⟨128 + l.val, by omega⟩) * k1_pay17 (F := Ideal) b x e pb (ix2 p ⟨128 + l.val, by omega⟩)) := by
  unfold k1_pay18
  rw [shapeCast_self]
  generalize k1_pay17 (F := Ideal) b x e pb = R
  refine congrArg (sq (ix2 p l) + ·) (congrArg₂ (· + ·) ?_ ?_)
  · exact slice2_axis1_apply 0 (mulf R R) slices_S1024x256_o0_0_S1024x128 p l ⟨l.val, by omega⟩ (Nat.zero_add _).symm
  · exact slice2_axis1_apply 128 (mulf R R) slices_S1024x256_o0_128_S1024x128 p l ⟨128 + l.val, by omega⟩ rfl

theorem pay19_apply (b : FVec Ideal S1x64x256 .bf16) (x : FVec Ideal S1024x4096 .bf16) (e : FVec Ideal S1x4096x256 .bf16)
    (pb : FVec Ideal S1024x64 .bf16) (i : S1024x256.Idx) :
    k1_pay19 (F := Ideal) b x e pb i = k1_pay17 (F := Ideal) b x e pb i := rfl

/-- The transposed gradient: the block's product added to what was there. -/
theorem pay20_apply (b : FVec Ideal S1x64x256 .bf16) (x : FVec Ideal S1024x4096 .bf16) (e : FVec Ideal S1x4096x256 .bf16)
    (pb : FVec Ideal S1024x64 .bf16) (gt : FVec Ideal S64x1024 .f32) (r : Fin 64) (p : Fin 1024) :
    k1_pay20 (F := Ideal) b x e pb gt (ix2 r p)
      = gt (ix2 r p) + ∑ l : Fin 256, b (ix3 (0 : Fin 1) r l) * k1_pay17 (F := Ideal) b x e pb (ix2 p l) := by
  unfold k1_pay20
  rw [shapeCast_self]
  refine congrArg (gt (ix2 r p) + ·) ?_
  refine (Ideal.matmul_transposedRhs_apply none (k1_pay16 (F := Ideal) b) (k1_pay19 (F := Ideal) b x e pb) _ r p).trans ?_
  rw [zero_f32, zero_add]
  exact Finset.sum_congr rfl fun l _ => congrArg (· * k1_pay17 (F := Ideal) b x e pb (ix2 p l)) (pay16_apply b r l)

/-- The bias gradient's block. -/
theorem pay1_apply (rb : FVec Ideal S1024x256 .bf16) (pbt : FVec Ideal S64x1024 .bf16) (r : Fin 64) (l : Fin 256) :
    k1_pay1 (F := Ideal) rb pbt (ix2 r l) = ∑ p : Fin 1024, pbt (ix2 r p) * rb (ix2 p l) := by
  unfold k1_pay1
  refine (Ideal.matmul_plain_apply none pbt rb _ r l).trans ?_
  rw [zero_f32, zero_add]

theorem pay2_apply (rb : FVec Ideal S1024x256 .bf16) (pbt : FVec Ideal S64x1024 .bf16) (u : Fin 1) (r : Fin 64) (l : Fin 256) :
    k1_pay2 (F := Ideal) rb pbt (ix3 u r l) = ∑ p : Fin 1024, pbt (ix2 r p) * rb (ix2 p l) :=
  (shapeCast_ab_1ab_apply (k1_pay1 (F := Ideal) rb pbt) shapeCasts_S64x256_S1x64x256 u r l).trans (pay1_apply rb pbt r l)

theorem pay3_apply (rb : FVec Ideal S1024x256 .bf16) (pbt : FVec Ideal S64x1024 .bf16) (v : FVec Ideal S1x64x256 .f32) (u : Fin 1) (r : Fin 64) (l : Fin 256) :
    k1_pay3 (F := Ideal) rb pbt v (ix3 u r l) = v (ix3 (0 : Fin 1) r l) + ∑ p : Fin 1024, pbt (ix2 r p) * rb (ix2 p l) := by
  unfold k1_pay3
  refine (shapeCast_ab_1ab_apply _ shapeCasts_S64x256_S1x64x256 u r l).trans ?_
  exact congrArg₂ (· + ·) (shapeCast_1ab_ab_apply v shapeCasts_S1x64x256_S64x256 r l) (pay1_apply rb pbt r l)

theorem pay4_apply (gt : FVec Ideal S64x1024 .f32) (p : Fin 1024) (r : Fin 64) :
    k1_pay4 (F := Ideal) gt (ix2 p r) = gt (ix2 r p) :=
  transpose_ix2_apply gt transposes_S64x1024_p1_0_S1024x64 p r

/-- The loss of a token: the folded squares summed over the lanes. -/
theorem pay5_apply (sq : FVec Ideal S1024x128 .f32) (u v : Fin 1) (p : Fin 1024) :
    k1_pay5 (F := Ideal) sq (ix3 u v p) = ∑ l : Fin 128, sq (ix2 p l) := by
  unfold k1_pay5
  refine (shapeCast_ab_1ab_apply _ shapeCasts_S1x1024_S1x1x1024 u v p).trans ?_
  refine (shapeCast_apply _ shapeCasts_S1024_S1x1024 (ix2 v p) (ix1 p) ?_).trans ?_
  · have hv : v.val = 0 := by omega
    rw [Shape.rowMajor_val_two, Shape.rowMajor_val_one]
    show p.val = v.val * 1024 + p.val
    omega
  · refine (Ideal.multiReduction_add_single _ 0x00000000#32 reduces_S128x1024_S1024 (.inl rfl) rfl (ix1 p)).trans ?_
    refine Finset.sum_congr rfl fun l _ => ?_
    refine (congrArg _ (?_ : _ = ix2 l p)).trans (transpose_ix2_apply sq transposes_S1024x128_p1_0_S128x1024 l p)
    funext a; match a with | ⟨0, _⟩ => rfl | ⟨1, _⟩ => rfl

theorem pay6_apply (gt : FVec Ideal S64x1024 .f32) (x : FVec Ideal S1024x4096 .bf16) (r : Fin 64) (d : Fin 4096) :
    k1_pay6 (F := Ideal) gt x (ix2 r d) = ∑ p : Fin 1024, gt (ix2 r p) * x (ix2 p d) := by
  unfold k1_pay6
  rw [shapeCast_self]
  refine (Ideal.matmul_plain_apply none (truncf .bf16 gt bitsLt_bf16_f32) x _ r d).trans ?_
  rw [zero_f32, zero_add]; rfl

theorem pay7_apply (gt : FVec Ideal S64x1024 .f32) (x : FVec Ideal S1024x4096 .bf16) (r : Fin 64) (d : Fin 4096) :
    k1_pay7 (F := Ideal) gt x (ix2 r d) = ∑ p : Fin 1024, gt (ix2 r p) * x (ix2 p d) := by
  unfold k1_pay7
  rw [shapeCast_self]
  exact pay6_apply gt x r d

theorem pay8_apply (gt : FVec Ideal S64x1024 .f32) (x : FVec Ideal S1024x4096 .bf16) (da : FVec Ideal S64x4096 .f32) (r : Fin 64) (d : Fin 4096) :
    k1_pay8 (F := Ideal) gt x da (ix2 r d) = da (ix2 r d) + ∑ p : Fin 1024, gt (ix2 r p) * x (ix2 p d) := by
  unfold k1_pay8
  rw [shapeCast_self]
  exact congrArg (da (ix2 r d) + ·) (pay6_apply gt x r d)

theorem pay9_apply (da : FVec Ideal S64x4096 .f32) (d : Fin 4096) (r : Fin 64) :
    k1_pay9 (F := Ideal) da (ix2 d r) = Ideal.ofBits .f32 0xC0000000#32 * da (ix2 r d) := by
  unfold k1_pay9
  exact transpose_ix2_apply _ transposes_S64x4096_p1_0_S4096x64 d r

theorem pay10_apply (db : FVec Ideal S43x64x256 .f32) (i : S43x64x256.Idx) :
    k1_pay10 (F := Ideal) db i = Ideal.ofBits .f32 0xC0000000#32 * db i := rfl

end Cert.KernelIdeal.Pay

end
-- ==== Proof.KernelIdeal.Pure.lean ====
/- The fit step's mathematics over the extended reals, by plain coordinates, and the sums over blocks put together. -/
module

public import Mathlib.Data.EReal.Operations
public import Mathlib.Algebra.BigOperators.Intervals
public import Mathlib.Algebra.BigOperators.Fin

@[expose] public section

noncomputable section

namespace Cert.KernelIdeal.Pure

open Finset

/-- A sum over `b` blocks of `n` terms each is the sum over all `b * n` terms. -/
theorem sum_blocks (n : ℕ) (f : ℕ → EReal) (b : ℕ) :
    ∑ k ∈ range b, ∑ l ∈ range n, f (n * k + l) = ∑ q ∈ range (n * b), f q := by
  induction b with
  | zero => simp
  | succ b ih => rw [sum_range_succ, ih, Nat.mul_succ, sum_range_add]

/-- The sum over `Fin n` of a function of the index's value is the sum over the range. -/
theorem sum_fin (n : ℕ) (f : ℕ → EReal) : ∑ k : Fin n, f k.val = ∑ k ∈ range n, f k := Fin.sum_univ_eq_sum_range f n

section
variable (X E A B : ℕ → ℕ → EReal)

/-- `x·a` at a token and a rank. -/
def PB (t r : ℕ) : EReal := ∑ d ∈ range 4096, X t d * A d r
/-- The residual at a token and a column. -/
def R (t n : ℕ) : EReal := (∑ d ∈ range 4096, X t d * E d n) - ∑ r ∈ range 64, PB X A t r * B r n
/-- The folded squares of row block `i` after its first `j` column blocks. -/
def SQ (i j p l : ℕ) : EReal :=
  ∑ k ∈ range j, (R X E A B (1024 * i + p) (256 * k + l) * R X E A B (1024 * i + p) (256 * k + l)
    + R X E A B (1024 * i + p) (256 * k + (128 + l)) * R X E A B (1024 * i + p) (256 * k + (128 + l)))
/-- The transposed gradient of row block `i` after its first `j` column blocks. -/
def GT (i j r p : ℕ) : EReal :=
  ∑ k ∈ range j, ∑ l ∈ range 256, B r (256 * k + l) * R X E A B (1024 * i + p) (256 * k + l)
/-- The factor gradient over the first `i` row blocks. -/
def DA (i r d : ℕ) : EReal := ∑ k ∈ range i, ∑ p ∈ range 1024, GT X E A B k 43 r p * X (1024 * k + p) d
/-- Column block `j` of the bias gradient over the first `i` row blocks. -/
def DB (i j r l : ℕ) : EReal :=
  ∑ k ∈ range i, ∑ p ∈ range 1024, PB X A (1024 * k + p) r * R X E A B (1024 * k + p) (256 * j + l)

/-- A token's loss. -/
theorem sum_SQ (i p : ℕ) :
    ∑ l ∈ range 128, SQ X E A B i 43 p l = ∑ n ∈ range 11008, R X E A B (1024 * i + p) n * R X E A B (1024 * i + p) n := by
  unfold SQ
  rw [sum_comm, ← sum_blocks 256 (fun n => R X E A B (1024 * i + p) n * R X E A B (1024 * i + p) n) 43]
  refine sum_congr rfl fun k _ => ?_
  rw [sum_add_distrib, show 256 = 128 + 128 from rfl,
    sum_range_add (fun l => R X E A B (1024 * i + p) ((128 + 128) * k + l) * R X E A B (1024 * i + p) ((128 + 128) * k + l)) 128 128]

/-- A token's gradient. -/
theorem GT_eq (i r p : ℕ) :
    GT X E A B i 43 r p = ∑ n ∈ range 11008, R X E A B (1024 * i + p) n * B r n := by
  unfold GT
  rw [sum_blocks 256 (fun n => B r n * R X E A B (1024 * i + p) n) 43]
  exact sum_congr rfl fun n _ => EReal.mul_comm _ _

/-- The factor gradient over all tokens. -/
theorem DA_eq (r d : ℕ) :
    DA X E A B 20 r d = ∑ t ∈ range 20480, X t d * ∑ n ∈ range 11008, R X E A B t n * B r n := by
  unfold DA
  rw [← sum_blocks 1024 (fun t => X t d * ∑ n ∈ range 11008, R X E A B t n * B r n) 20]
  refine sum_congr rfl fun k _ => sum_congr rfl fun p _ => ?_
  rw [GT_eq]; exact EReal.mul_comm _ _

/-- The bias gradient over all tokens. -/
theorem DB_eq (j r l : ℕ) :
    DB X E A B 20 j r l = ∑ t ∈ range 20480, PB X A t r * R X E A B t (256 * j + l) :=
  sum_blocks 1024 (fun t => PB X A t r * R X E A B t (256 * j + l)) 20

end

end Cert.KernelIdeal.Pure

end
-- ==== Proof.KernelIdeal.Sums.lean ====
/- The fit step's scratch buffers over the grid, over the extended reals: what they hold before and after each point, as sums. -/
module

public import proofs.«01_k».proof.Proof.KernelIdeal.FitRun
public import proofs.«01_k».proof.Proof.KernelIdeal.Pay
public import proofs.«01_k».proof.Proof.KernelIdeal.Pure

@[expose] public section

set_option maxRecDepth 16384

noncomputable section

namespace Cert.KernelIdeal.Sums

open Cert.KernelIdeal Cert.KernelIdeal.Gen Cert.KernelIdeal.Fit Cert.KernelIdeal.Pay Cert.KernelIdeal.Pure
open Idealize.ShloMosaic Idealize.ShloMosaic.ValueIdx
open Finset

section
variable (X E A B : ℕ → ℕ → EReal)

/-- What the scratch buffers hold before point `n`, as far as later points read it. -/
def Inv (n : ℕ) (s : St Ideal) : Prop :=
  (n % 43 ≠ 0 → (∀ (p : Fin 1024) (r : Fin 64), s.pb (ix2 p r) = PB X A (1024 * (n / 43) + p) r)
      ∧ (∀ (r : Fin 64) (p : Fin 1024), s.pbt (ix2 r p) = PB X A (1024 * (n / 43) + p) r)
      ∧ (∀ (p : Fin 1024) (l : Fin 128), s.sq (ix2 p l) = SQ X E A B (n / 43) (n % 43) p l)
      ∧ (∀ (r : Fin 64) (p : Fin 1024), s.gt (ix2 r p) = GT X E A B (n / 43) (n % 43) r p))
  ∧ (43 ≤ n → ∀ (r : Fin 64) (d : Fin 4096), s.da (ix2 r d) = DA X E A B (n / 43) r d)
  ∧ (∀ (k : Fin 43) (r : Fin 64) (l : Fin 256), (k.val < n % 43 ∨ 43 ≤ n) →
      s.db (ix3 k r l) = DB X E A B (n / 43 + if k.val < n % 43 then 1 else 0) k r l)

/-- What point `n` leaves. -/
def Post (n : ℕ) (s : St Ideal) : Prop :=
  ((∀ (p : Fin 1024) (r : Fin 64), s.pb (ix2 p r) = PB X A (1024 * (n / 43) + p) r)
      ∧ (∀ (r : Fin 64) (p : Fin 1024), s.pbt (ix2 r p) = PB X A (1024 * (n / 43) + p) r)
      ∧ (∀ (p : Fin 1024) (l : Fin 128), s.sq (ix2 p l) = SQ X E A B (n / 43) (n % 43 + 1) p l)
      ∧ (∀ (r : Fin 64) (p : Fin 1024), s.gt (ix2 r p) = GT X E A B (n / 43) (n % 43 + 1) r p))
  ∧ (42 ≤ n → ∀ (r : Fin 64) (d : Fin 4096), s.da (ix2 r d) = DA X E A B ((n + 1) / 43) r d)
  ∧ (∀ (k : Fin 43) (r : Fin 64) (l : Fin 256), (k.val ≤ n % 43 ∨ 43 ≤ n) →
      s.db (ix3 k r l) = DB X E A B (n / 43 + if k.val ≤ n % 43 then 1 else 0) k r l)

theorem inv_zero (s : St Ideal) : Inv X E A B 0 s :=
  ⟨fun h => absurd rfl h, fun h => absurd h (by decide), fun k r l h => absurd h (by omega)⟩

theorem inv_of_post (n : ℕ) (s : St Ideal) (h : Post X E A B n s) : Inv X E A B (n + 1) s := by
  obtain ⟨⟨h1, h2, h3, h4⟩, h5, h6⟩ := h
  refine ⟨fun hn => ?_, fun hn => h5 (by omega), fun k r l hk => ?_⟩
  · have e1 : (n + 1) / 43 = n / 43 := by omega
    have e2 : (n + 1) % 43 = n % 43 + 1 := by omega
    rw [e1, e2]; exact ⟨h1, h2, h3, h4⟩
  · have hk' := k.isLt
    rw [h6 k r l (by omega)]
    refine congrArg (fun q => DB X E A B q k r l) ?_
    split <;> split <;> omega

/-- The residual of a point's block. -/
theorem res_apply {i j : ℕ} {x : FVec Ideal S1024x4096 .bf16} {e : FVec Ideal S1x4096x256 .bf16} {b : FVec Ideal S1x64x256 .bf16}
    {pb : FVec Ideal S1024x64 .bf16}
    (hx : ∀ (p : Fin 1024) (d : Fin 4096), x (ix2 p d) = X (1024 * i + p) d)
    (he : ∀ (d : Fin 4096) (l : Fin 256), e (ix3 (0 : Fin 1) d l) = E d (256 * j + l))
    (hb : ∀ (r : Fin 64) (l : Fin 256), b (ix3 (0 : Fin 1) r l) = B r (256 * j + l))
    (hpb : ∀ (p : Fin 1024) (r : Fin 64), pb (ix2 p r) = PB X A (1024 * i + p) r) (p : Fin 1024) (l : Fin 256) :
    k1_pay17 (F := Ideal) b x e pb (ix2 p l) = R X E A B (1024 * i + p) (256 * j + l) := by
  rw [pay17_apply]
  unfold R
  refine congrArg₂ (· - ·) ?_ ?_
  · rw [← sum_fin]
    exact sum_congr rfl fun d _ => by rw [hx, he]
  · rw [← sum_fin]
    exact sum_congr rfl fun r _ => by rw [hpb, hb]

/-- One point takes what the buffers hold before it to what it leaves. -/
theorem post_step {n : ℕ} (hn : n < 860) (i : grid1.Coords) (h0 : (i 0).val = n / 43) (h1 : (i 1).val = n % 43)
    (x : FVec Ideal S1024x4096 .bf16) (e : FVec Ideal S1x4096x256 .bf16) (a : FVec Ideal S4096x64 .bf16) (b : FVec Ideal S1x64x256 .bf16)
    (hx : ∀ (p : Fin 1024) (d : Fin 4096), x (ix2 p d) = X (1024 * (n / 43) + p) d)
    (he : ∀ (d : Fin 4096) (l : Fin 256), e (ix3 (0 : Fin 1) d l) = E d (256 * (n % 43) + l))
    (ha : ∀ (d : Fin 4096) (r : Fin 64), a (ix2 d r) = A d r)
    (hb : ∀ (r : Fin 64) (l : Fin 256), b (ix3 (0 : Fin 1) r l) = B r (256 * (n % 43) + l))
    {s : St Ideal} (h : Inv X E A B n s) : Post X E A B n (stepSt i x e a b s) := by
  obtain ⟨hrow, hda, hdb⟩ := h
  have epb : ∀ (p : Fin 1024) (r : Fin 64), fitPb i x a s.pb (ix2 p r) = PB X A (1024 * (n / 43) + p) r := by
    intro p r
    unfold fitPb; split
    · rw [pay12_apply]; unfold PB; rw [← sum_fin]; exact sum_congr rfl fun d _ => by rw [hx, ha]
    · rename_i hh; exact (hrow (by omega)).1 p r
  have epbt : ∀ (r : Fin 64) (p : Fin 1024), fitPbt i x a s.pbt (ix2 r p) = PB X A (1024 * (n / 43) + p) r := by
    intro r p
    unfold fitPbt; split
    · rw [pay13_apply]; unfold PB; rw [← sum_fin]; exact sum_congr rfl fun d _ => by rw [hx, ha]
    · rename_i hh; exact (hrow (by omega)).2.1 r p
  have er := res_apply X E A B hx he hb epb
  have esq : ∀ (p : Fin 1024) (l : Fin 128), fitSq i x e a b s.pb s.sq (ix2 p l) = SQ X E A B (n / 43) (n % 43 + 1) p l := by
    intro p l
    unfold fitSq
    rw [pay18_apply, er, er]
    unfold SQ
    rw [sum_range_succ]
    refine congrArg (· + _) ?_
    split
    · rename_i hh; rw [pay15_apply, show n % 43 = 0 by omega]; rfl
    · rename_i hh; exact (hrow (by omega)).2.2.1 p l
  have egt : ∀ (r : Fin 64) (p : Fin 1024), fitGt i x e a b s.pb s.gt (ix2 r p) = GT X E A B (n / 43) (n % 43 + 1) r p := by
    intro r p
    unfold fitGt
    rw [pay20_apply]
    unfold GT
    rw [sum_range_succ]
    refine congrArg₂ (· + ·) ?_ ?_
    · split
      · rename_i hh; rw [pay14_apply, show n % 43 = 0 by omega]; rfl
      · rename_i hh; exact (hrow (by omega)).2.2.2 r p
    · rw [← sum_fin]; exact sum_congr rfl fun l _ => by rw [hb, er]
  have hdbv : ∀ (r : Fin 64) (l : Fin 256), (∑ p : Fin 1024, fitPbt i x a s.pbt (ix2 r p) * k1_pay19 (F := Ideal) b x e (fitPb i x a s.pb) (ix2 p l))
      = ∑ p ∈ range 1024, PB X A (1024 * (n / 43) + p) r * R X E A B (1024 * (n / 43) + p) (256 * (n % 43) + l) := by
    intro r l
    rw [← sum_fin]; exact sum_congr rfl fun p _ => by rw [epbt, pay19_apply, er]
  refine ⟨⟨epb, epbt, esq, egt⟩, fun hn42 r d => ?_, fun k r l hk => ?_⟩
  · show fitDa i x (fitGt i x e a b s.pb s.gt) s.da (ix2 r d) = _
    have hg : ∀ h : n % 43 = 42, (∑ p : Fin 1024, fitGt i x e a b s.pb s.gt (ix2 r p) * x (ix2 p d))
        = ∑ p ∈ range 1024, GT X E A B (n / 43) 43 r p * X (1024 * (n / 43) + p) d := by
      intro h
      rw [← sum_fin]; exact sum_congr rfl fun p _ => by rw [egt, hx, h]
    unfold fitDa; split
    · rename_i hh
      have e1 : (n + 1) / 43 = n / 43 + 1 := by omega
      rw [e1]; unfold DA; rw [sum_range_succ]
      split
      · rename_i h00; rw [pay7_apply, hg (by omega), show n / 43 = 0 by omega, range_zero, sum_empty, zero_add]
      · rename_i h00; rw [pay8_apply, hg (by omega), hda (by omega) r d]; rfl
    · rename_i hh
      rw [hda (by omega) r d, show (n + 1) / 43 = n / 43 by omega]
  · show fitDb i x e a b s.pb s.pbt s.db (ix3 k r l) = _
    have hk' := k.isLt
    unfold fitDb setRow; split
    · rename_i hh
      have hkj : k.val = n % 43 := hh.trans h1
      rw [if_pos (show k.val ≤ n % 43 by omega)]; unfold DB; rw [sum_range_succ]
      split
      · rename_i h00
        refine (pay2_apply _ _ _ _ _).trans ((hdbv r l).trans ?_)
        rw [show n / 43 = 0 by omega, range_zero, sum_empty, zero_add, hkj]
      · rename_i h00
        refine (pay3_apply _ _ _ _ _ _).trans ?_
        refine congrArg₂ (· + ·) ?_ ((hdbv r l).trans (by rw [hkj]))
        have hi : (i 1) = k := Fin.ext hh.symm
        show s.db (ix3 (i 1) r l) = _
        rw [hi, hdb k r l (by omega), if_neg (by omega)]; rfl
    · rename_i hh
      have hkj : k.val ≠ n % 43 := fun h => hh (h.trans h1.symm)
      rw [hdb k r l (by omega)]
      refine congrArg (fun q => DB X E A B q k r l) ?_
      split <;> split <;> omega

end

end Cert.KernelIdeal.Sums

end
-- ==== Proof.KernelIdeal.FitVal.lean ====
/- What the fit step leaves in its result arrays, over the extended reals: the sums of its mathematics. -/
module

public import proofs.«01_k».proof.Proof.KernelIdeal.Sums
public import Idealize.ShloMosaic.Lib.Pipeline.ValueKit.Geometry

@[expose] public section

set_option maxRecDepth 16384

noncomputable section

namespace Cert.KernelIdeal.FitVal

open Cert.KernelIdeal Cert.KernelIdeal.Gen Cert.KernelIdeal.Fit Cert.KernelIdeal.Pay Cert.KernelIdeal.Pure Cert.KernelIdeal.Sums
open Idealize.ShloMosaic Idealize.ShloMosaic.ValueIdx Idealize.ShloMosaic.TcCoe
open Idealize.SL Idealize.SL.Sem
open Finset

/-! The block a window is on at each point. -/

theorem ix1_0 : ∀ t : Fin cfg1.N, win1_0.index t = ![t.val / 43, 0] := (by decide +kernel : ∀ t : Fin grid1.N, win1_0.index t = ![t.val / 43, 0])
theorem ix1_1 : ∀ t : Fin cfg1.N, win1_1.index t = ![t.val % 43, 0, 0] := (by decide +kernel : ∀ t : Fin grid1.N, win1_1.index t = ![t.val % 43, 0, 0])
theorem ix1_2 : ∀ t : Fin cfg1.N, win1_2.index t = ![0, 0] := (by decide +kernel : ∀ t : Fin grid1.N, win1_2.index t = ![0, 0])
theorem ix1_3 : ∀ t : Fin cfg1.N, win1_3.index t = ![t.val % 43, 0, 0] := (by decide +kernel : ∀ t : Fin grid1.N, win1_3.index t = ![t.val % 43, 0, 0])
theorem ix1_4 : ∀ t : Fin cfg1.N, win1_4.index t = ![t.val / 43, 0, 0] := (by decide +kernel : ∀ t : Fin grid1.N, win1_4.index t = ![t.val / 43, 0, 0])
theorem ix1_5 : ∀ t : Fin cfg1.N, win1_5.index t = ![t.val / 43, 0] := (by decide +kernel : ∀ t : Fin grid1.N, win1_5.index t = ![t.val / 43, 0])
theorem ix1_6 : ∀ t : Fin cfg1.N, win1_6.index t = ![0, 0] := (by decide +kernel : ∀ t : Fin grid1.N, win1_6.index t = ![0, 0])
theorem ix1_7 : ∀ t : Fin cfg1.N, win1_7.index t = ![0, 0, 0] := (by decide +kernel : ∀ t : Fin grid1.N, win1_7.index t = ![0, 0, 0])

section
variable (X E A B : ℕ → ℕ → EReal)
variable (V : (c : Dev nD) → (b : Ref sig .tc) → Buf (Elt Ideal) ((c : Thread nD τ).loc b)) (c : Dev nD)

/-- The arrays the fit step reads hold the tokens, the weight errors by column block, and the two factors. -/
structure Holds : Prop where
  x : ∀ (t : Fin 20480) (d : Fin 4096), V c main_v7 (ix2 t d) = X t d
  e : ∀ (j : Fin 43) (d : Fin 4096) (l : Fin 256), V c main_v4 (ix3 j d l) = E d (256 * j + l)
  a : ∀ (d : Fin 4096) (r : Fin 64), V c main_arg5 (ix2 d r) = A d r
  b : ∀ (j : Fin 43) (r : Fin 64) (l : Fin 256), V c main_v6 (ix3 j r l) = B r (256 * j + l)

variable {X E A B V c}

/-- Every point leaves what its row and column of the grid say. -/
theorem post_st (H : Holds X E A B V c) : ∀ n : ℕ, n < 860 → Post X E A B n (st V c (n + 1)) := by
  intro n
  induction n with
  | zero => intro hn; exact step hn (inv_zero X E A B _)
  | succ n ih => intro hn; exact step hn (inv_of_post X E A B n _ (ih (by omega)))
where
  step {n : ℕ} (hn : n < 860) (h : Inv X E A B n (st V c n)) : Post X E A B n (st V c (n + 1)) := by
    have hs := st_succ V c ⟨n, hn⟩
    dsimp only at hs
    rw [hs]
    unfold stepAt
    refine post_step X E A B hn _ (coord0 ⟨n, hn⟩) (coord1 ⟨n, hn⟩) _ _ _ _ ?_ ?_ ?_ ?_ h
    · intro p d
      have hp := p.isLt
      have h0 : (win1_0.blk ⟨n, hn⟩).view.emb (ix2 p d) = ix2 (⟨1024 * (n / 43) + p, by omega⟩ : Fin 20480) d := by
        blk_ext [ix1_0]
        show n / 43 * 1024 + p.val = 1024 * (n / 43) + p.val; omega
      refine Eq.trans ?_ (H.x ⟨1024 * (n / 43) + p, by omega⟩ d)
      exact congrArg (V c main_v7) h0
    · intro d l
      have h0 : (win1_1.blk ⟨n, hn⟩).view.emb (ix3 (0 : Fin 1) d l) = ix3 (⟨n % 43, by omega⟩ : Fin 43) d l := by
        blk_ext [ix1_1]
      exact (congrArg (V c main_v4) h0).trans (H.e ⟨n % 43, by omega⟩ d l)
    · intro d r
      have h0 : (win1_2.blk ⟨n, hn⟩).view.emb (ix2 d r) = ix2 d r := by
        blk_ext [ix1_2]
      exact (congrArg (V c main_arg5) h0).trans (H.a d r)
    · intro r l
      have h0 : (win1_3.blk ⟨n, hn⟩).view.emb (ix3 (0 : Fin 1) r l) = ix3 (⟨n % 43, by omega⟩ : Fin 43) r l := by
        blk_ext [ix1_3]
      exact (congrArg (V c main_v6) h0).trans (H.b ⟨n % 43, by omega⟩ r l)

/-- What the loss array holds: at a token, the sum of the squared residuals. -/
def lossArr (X E A B : ℕ → ℕ → EReal) : S20x1x1024.Idx → EReal := fun y =>
  ∑ n ∈ range 11008, R X E A B (1024 * (y 0).val + (y 2).val) n * R X E A B (1024 * (y 0).val + (y 2).val) n

theorem loss_eq (H : Holds X E A B V c) : (dat1 V c).arrAt 4 cfg1.N = lossArr X E A B := by
  refine (dat1 V c).arrAt_eq_of_covers 4 _ (by decide +kernel) fun t hf y => ?_
  blk_simp
  rw [after1_4]
  have ht : t.val < 860 := t.isLt
  have hm := (flush1_4 t).1 hf
  obtain ⟨⟨_, _, h3, _⟩, _, _⟩ := post_st H t.val ht
  have key : ∀ z : S1x1x1024.Idx, k1_pay5 (F := Ideal) (st V c (t.val + 1)).sq z = ∑ l : Fin 128, SQ X E A B (t.val / 43) 43 (z 2).val l := by
    intro z
    obtain ⟨u, v, p, rfl⟩ : ∃ (u v : Fin 1) (p : Fin 1024), z = ix3 u v p := ⟨_, _, _, eq_ix3 z⟩
    refine (pay5_apply _ u v p).trans (sum_congr rfl fun l _ => ?_)
    rw [h3, hm]
  have e0 : ((win1_4.blk t).view.emb y 0 : ℕ) = t.val / 43 := by
    have h0 : (y 0).val < 1 := (y 0).isLt
    blk_simp [ix1_4] <;> omega
  have e2 : ((win1_4.blk t).view.emb y 2 : ℕ) = (y 2).val := by blk_simp [ix1_4] <;> omega
  unfold lossArr
  rw [e0, e2, ← sum_SQ, ← sum_fin]
  exact key y

/-- What the gradient array holds: at a token and a rank, the residual against the factor. -/
def gArr (X E A B : ℕ → ℕ → EReal) : S20480x64.Idx → EReal := fun y =>
  ∑ n ∈ range 11008, R X E A B (y 0).val n * B (y 1).val n

theorem g_eq (H : Holds X E A B V c) : (dat1 V c).arrAt 5 cfg1.N = gArr X E A B := by
  refine (dat1 V c).arrAt_eq_of_covers 5 _ (by decide +kernel) fun t hf y => ?_
  blk_simp
  rw [after1_5]
  have ht : t.val < 860 := t.isLt
  have hm := (flush1_5 t).1 hf
  obtain ⟨⟨_, _, _, h4⟩, _, _⟩ := post_st H t.val ht
  have key : ∀ z : S1024x64.Idx, k1_pay4 (F := Ideal) (st V c (t.val + 1)).gt z = GT X E A B (t.val / 43) 43 (z 1).val (z 0).val := by
    intro z
    obtain ⟨p, r, rfl⟩ : ∃ (p : Fin 1024) (r : Fin 64), z = ix2 p r := ⟨_, _, eq_ix2 z⟩
    refine (pay4_apply _ p r).trans ?_
    rw [h4, hm]
  have e0 : ((win1_5.blk t).view.emb y 0 : ℕ) = 1024 * (t.val / 43) + (y 0).val := by blk_simp [ix1_5] <;> omega
  have e1 : ((win1_5.blk t).view.emb y 1 : ℕ) = (y 1).val := by blk_simp [ix1_5] <;> omega
  unfold gArr
  rw [e0, e1, ← GT_eq]
  exact key y

/-- What the factor-gradient array holds. -/
def daArr (X E A B : ℕ → ℕ → EReal) : S4096x64.Idx → EReal := fun y =>
  Ideal.ofBits .f32 0xC0000000#32 * ∑ t ∈ range 20480, X t (y 0).val * ∑ n ∈ range 11008, R X E A B t n * B (y 1).val n

theorem da_eq (H : Holds X E A B V c) : (dat1 V c).arrAt 6 cfg1.N = daArr X E A B := by
  refine (dat1 V c).arrAt_eq_of_covers 6 _ (by decide +kernel) fun t hf y => ?_
  blk_simp
  rw [after1_6]
  have ht : t.val < 860 := t.isLt
  have hm := (flush1_6 t).1 hf
  obtain ⟨_, h5, _⟩ := post_st H t.val ht
  have key : ∀ z : S4096x64.Idx, k1_pay9 (F := Ideal) (st V c (t.val + 1)).da z = Ideal.ofBits .f32 0xC0000000#32 * DA X E A B 20 (z 1).val (z 0).val := by
    intro z
    obtain ⟨d, r, rfl⟩ : ∃ (d : Fin 4096) (r : Fin 64), z = ix2 d r := ⟨_, _, eq_ix2 z⟩
    refine (pay9_apply _ d r).trans ?_
    rw [h5 (by omega), show (t.val + 1) / 43 = 20 by omega]
  have e0 : ((win1_6.blk t).view.emb y 0 : ℕ) = (y 0).val := by blk_simp [ix1_6] <;> omega
  have e1 : ((win1_6.blk t).view.emb y 1 : ℕ) = (y 1).val := by blk_simp [ix1_6] <;> omega
  unfold daArr
  rw [e0, e1, ← DA_eq]
  exact key y

/-- What the other factor's gradient array holds, by column block. -/
def dbArr (X E A B : ℕ → ℕ → EReal) : S43x64x256.Idx → EReal := fun y =>
  Ideal.ofBits .f32 0xC0000000#32 * ∑ t ∈ range 20480, PB X A t (y 1).val * R X E A B t (256 * (y 0).val + (y 2).val)

theorem db_eq (H : Holds X E A B V c) : (dat1 V c).arrAt 7 cfg1.N = dbArr X E A B := by
  refine (dat1 V c).arrAt_eq_of_covers 7 _ (by decide +kernel) fun t hf y => ?_
  blk_simp
  rw [after1_7]
  have ht : t.val < 860 := t.isLt
  have hm := (flush1_7 t).1 hf
  obtain ⟨_, _, h6⟩ := post_st H t.val ht
  have key : ∀ z : S43x64x256.Idx, k1_pay10 (F := Ideal) (st V c (t.val + 1)).db z = Ideal.ofBits .f32 0xC0000000#32 * DB X E A B 20 (z 0).val (z 1).val (z 2).val := by
    intro z
    obtain ⟨k, r, l, rfl⟩ : ∃ (k : Fin 43) (r : Fin 64) (l : Fin 256), z = ix3 k r l := ⟨_, _, _, eq_ix3 z⟩
    have hk := k.isLt
    have e : (t.val / 43 + if k.val ≤ t.val % 43 then 1 else 0) = 20 := by split <;> omega
    have hz := h6 k r l (by omega)
    rw [e] at hz
    rw [pay10_apply, hz]
  have e0 : ((win1_7.blk t).view.emb y 0 : ℕ) = (y 0).val := by blk_simp [ix1_7] <;> omega
  have e1 : ((win1_7.blk t).view.emb y 1 : ℕ) = (y 1).val := by blk_simp [ix1_7] <;> omega
  have e2 : ((win1_7.blk t).view.emb y 2 : ℕ) = (y 2).val := by blk_simp [ix1_7] <;> omega
  unfold dbArr
  rw [e0, e1, e2, ← DB_eq]
  exact key y

end

end Cert.KernelIdeal.FitVal
-- ==== Proof.KernelIdeal.ErrVal.lean ====
/- The first kernel's block over the extended reals: each element of the weight error. -/
module

public import proofs.«01_k».proof.Proof.KernelIdeal.Err
public import Idealize.ShloMosaic.Lib.BitcastFour
public import Idealize.ShloMosaic.Lib.ValueLayout
public import Idealize.ShloMosaic.Lib.ValueIdx
public import Idealize.ShloMosaic.Lib.Pipeline.ValueKit.Geometry
public import Idealize.ShloMosaic.PureOps.Ideal.Laws

@[expose] public section

set_option maxRecDepth 16384

noncomputable section

namespace Cert.KernelIdeal.ErrVal

open Cert.KernelIdeal Cert.KernelIdeal.Gen Cert.KernelIdeal.Err
open Idealize.ShloMosaic Idealize.ShloMosaic.ValueIdx

/-- A packed byte's low half (`h = 0`) or high half, as a number. -/
def nib (h : ℕ) (v : BitVec 8) : EReal := (((if h = 0 then v &&& 15#8 else v >>> 4).toInt : ℝ) : EReal)

theorem mask_bit : ∀ q : Fin 32, (252645135#32 : BitVec 32).getLsbD q.val = decide (q.val % 8 < 4) := by decide
theorem low_bit : ∀ q : Fin 8, (15#8 : BitVec 8).getLsbD q.val = decide (q.val < 4) := by decide

/-- The source word of row `p` of the bytes: row `p / 4`. -/
theorem src_row (h : S8x256.Bitcasts 32 S32x256 8) (p : Fin 32) (l : Fin 256) (n : ℕ)
    (hn : n = p.val / 4) (hp) : h.srcIdx (ix2 p l) n hp = ix2 (⟨p.val / 4, by omega⟩ : Fin 8) l := by
  subst hn
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- A bit of row `p` of the bytes that the words `y` hold. -/
theorem bytes_bit (y : S8x256.Idx → BitVec 32) (p : Fin 32) (l : Fin 256) (i : ℕ) (hi : i < 8) :
    (bitcast S32x256 8 y bitcasts_S8x256_w32_S32x256_w8 (ix2 p l)).getLsbD i
      = (y (ix2 (⟨p.val / 4, by omega⟩ : Fin 8) l)).getLsbD (8 * (p.val % 4) + i) := by
  have hr : S32x256.row (ix2 p l) = p.val := rfl
  rw [bitcast_getLsbD y _ _ i hi (by decide), src_row _ p l _ (by rw [hr]; omega), hr]
  congr 1; omega

/-- A bit of the words that the bytes `x` make. -/
theorem words_bit (x : S32x256.Idx → BitVec 8) (p : Fin 32) (l : Fin 256) (q : ℕ) (hq : q < 8) :
    (bitcast S8x256 32 x bitcasts_S32x256_w8_S8x256_w32 (ix2 (⟨p.val / 4, by omega⟩ : Fin 8) l)).getLsbD (8 * (p.val % 4) + q)
      = (x (ix2 p l)).getLsbD q := by
  rw [bitcast_8_32_getLsbD_ix2 x _ _ l (8 * (p.val % 4) + q) (by omega) p (by show p.val = 4 * (p.val / 4) + _; omega)]
  congr 1; omega

theorem nib_lo (x : S32x256.Idx → BitVec 8) (p : Fin 32) (l : Fin 256) :
    bitcast S32x256 8 (andi (bitcast S8x256 32 x bitcasts_S32x256_w8_S8x256_w32) (broadcast S8x256 252645135#32))
      bitcasts_S8x256_w32_S32x256_w8 (ix2 p l) = x (ix2 p l) &&& 15#8 := by
  apply BitVec.eq_of_getLsbD_eq
  intro i hi
  rw [bytes_bit _ p l i hi, BitVec.getLsbD_and]
  show ((bitcast S8x256 32 x _ _) &&& 252645135#32).getLsbD _ = _
  rw [BitVec.getLsbD_and, words_bit x p l i hi, mask_bit ⟨8 * (p.val % 4) + i, by omega⟩, low_bit ⟨i, hi⟩]
  congr 1
  show decide ((8 * (p.val % 4) + i) % 8 < 4) = decide (i < 4)
  rw [show (8 * (p.val % 4) + i) % 8 = i by omega]

theorem nib_hi (x : S32x256.Idx → BitVec 8) (p : Fin 32) (l : Fin 256) :
    bitcast S32x256 8 (andi (shrui (bitcast S8x256 32 x bitcasts_S32x256_w8_S8x256_w32) (broadcast S8x256 4#32)) (broadcast S8x256 252645135#32))
      bitcasts_S8x256_w32_S32x256_w8 (ix2 p l) = x (ix2 p l) >>> 4 := by
  apply BitVec.eq_of_getLsbD_eq
  intro i hi
  rw [bytes_bit _ p l i hi, BitVec.getLsbD_ushiftRight]
  show ((bitcast S8x256 32 x _ _ >>> (4#32 : BitVec 32)) &&& 252645135#32).getLsbD _ = _
  rw [BitVec.getLsbD_and, mask_bit ⟨8 * (p.val % 4) + i, by omega⟩]
  rw [show ∀ v : BitVec 32, v >>> (4#32 : BitVec 32) = v >>> (4 : ℕ) from fun _ => rfl, BitVec.getLsbD_ushiftRight]
  show (_ && decide ((8 * (p.val % 4) + i) % 8 < 4)) = _
  rw [show (8 * (p.val % 4) + i) % 8 = i by omega]
  by_cases h4 : i < 4
  · rw [show 4 + (8 * (p.val % 4) + i) = 8 * (p.val % 4) + (4 + i) by omega, words_bit x p l (4 + i) (by omega)]
    simp [h4]
  · rw [BitVec.getLsbD_of_ge _ (4 + i) (by omega)]
    simp [h4]

/-- One stored block of the low half, from the loads. -/
def lo (c : Vec Ideal S32x256 .i8) (z s : Vec Ideal S1x1x256 .bf16) (w : Vec Ideal S1x32x256 .bf16) : FVec Ideal S1x1x32x256 .bf16 :=
  k0_pay3 (F := Ideal) c z s w
/-- One stored block of the high half, from the loads. -/
def hi (c : Vec Ideal S32x256 .i8) (z s : Vec Ideal S1x1x256 .bf16) (w : Vec Ideal S1x32x256 .bf16) : FVec Ideal S1x1x32x256 .bf16 :=
  k0_pay7 (F := Ideal) (k0_pay4 c) (k0_pay5 z) (k0_pay6 s) w

/-- The stored block of dequantized values `q`, zero point `z`, scale `s`, weight `w`, at an element. -/
theorem store_apply (q : FVec Ideal S32x256 .bf16) (z s : Vec Ideal S1x1x256 .bf16) (w : Vec Ideal S1x32x256 .bf16) (u v : Fin 1) (p : Fin 32) (l : Fin 256) :
    shapeCast S1x1x32x256 (subf (F := Ideal) (shapeCast S32x256 w shapeCasts_S1x32x256_S32x256)
        (mulf (subf q (broadcastTo S32x256 (shapeCast S1x256 z shapeCasts_S1x1x256_S1x256) broadcasts_S1x256_S32x256))
          (broadcastTo S32x256 (shapeCast S1x256 s shapeCasts_S1x1x256_S1x256) broadcasts_S1x256_S32x256)))
      shapeCasts_S32x256_S1x1x32x256 (ix4 u v p l)
      = w (ix3 (0 : Fin 1) p l) - (q (ix2 p l) - z (ix3 (0 : Fin 1) (0 : Fin 1) l)) * s (ix3 (0 : Fin 1) (0 : Fin 1) l) := by
  rw [shapeCast_apply _ shapeCasts_S32x256_S1x1x32x256 (ix4 u v p l) (ix2 p l) (by
    have hu : u.val = 0 := by omega
    have hv : v.val = 0 := by omega
    rw [Shape.rowMajor_val_four, Shape.rowMajor_val_two]
    show p.val * 256 + l.val = ((u.val * 1 + v.val) * 32 + p.val) * 256 + l.val
    rw [hu, hv]; omega)]
  show shapeCast S32x256 w _ (ix2 p l) - (q (ix2 p l) - broadcastTo S32x256 _ _ (ix2 p l)) * broadcastTo S32x256 _ _ (ix2 p l) = _
  rw [shapeCast_1ab_ab_apply w, broadcastTo_1b_ab_apply, broadcastTo_1b_ab_apply, shapeCast_1ab_ab_apply z, shapeCast_1ab_ab_apply s]

theorem lo_apply (c : Vec Ideal S32x256 .i8) (z s : Vec Ideal S1x1x256 .bf16) (w : Vec Ideal S1x32x256 .bf16) (u v : Fin 1) (p : Fin 32) (l : Fin 256) :
    lo c z s w (ix4 u v p l) = w (ix3 (0 : Fin 1) p l) - (nib 0 (c (ix2 p l)) - z (ix3 (0 : Fin 1) (0 : Fin 1) l)) * s (ix3 (0 : Fin 1) (0 : Fin 1) l) := by
  refine (store_apply _ z s w u v p l).trans ?_
  show _ - (((((bitcast S32x256 8 (andi (bitcast S8x256 32 c bitcasts_S32x256_w8_S8x256_w32) (broadcast S8x256 252645135#32))
      bitcasts_S8x256_w32_S32x256_w8 (ix2 p l) : BitVec 8)).toInt : ℝ) : EReal) - _) * _ = _
  rw [nib_lo]; rfl

theorem hi_apply (c : Vec Ideal S32x256 .i8) (z s : Vec Ideal S1x1x256 .bf16) (w : Vec Ideal S1x32x256 .bf16) (u v : Fin 1) (p : Fin 32) (l : Fin 256) :
    hi c z s w (ix4 u v p l) = w (ix3 (0 : Fin 1) p l) - (nib 1 (c (ix2 p l)) - z (ix3 (0 : Fin 1) (0 : Fin 1) l)) * s (ix3 (0 : Fin 1) (0 : Fin 1) l) := by
  refine (store_apply _ z s w u v p l).trans ?_
  show _ - (((((bitcast S32x256 8 (andi (shrui (bitcast S8x256 32 c bitcasts_S32x256_w8_S8x256_w32) (broadcast S8x256 4#32)) (broadcast S8x256 252645135#32))
      bitcasts_S8x256_w32_S32x256_w8 (ix2 p l) : BitVec 8)).toInt : ℝ) : EReal) - _) * _ = _
  rw [nib_hi]; rfl

section
variable (x0 : Vec Ideal S2x2048x256 .bf16) (x1 : Vec Ideal S2048x256 .i8) (x2 x3 : Vec Ideal S2x64x256 .bf16)

/-- The weight error over a block: the weight less the code's half, its zero point taken off, times its scale. -/
def errAt (h : Fin 2) (r : Fin 2048) (l : Fin 256) : EReal :=
  x0 (ix3 h r l) - (nib h.val (x1 (ix2 r l)) - x3 (ix3 h (⟨r.val / 32, by omega⟩ : Fin 64) l)) * x2 (ix3 h (⟨r.val / 32, by omega⟩ : Fin 64) l)

/-- The same, at an index of the output block. -/
def errBlk : S1x2x2048x256.Idx → EReal := fun y => errAt x0 x1 x2 x3 (y 1) (y 2) (y 3)

/-- One stored block of the low half holds the weight error of its rows. -/
theorem piece_lo (a g : ℕ) (hg : g < 64) (ha : a = 32 * g) (i0 i1 i2 i3)
    (y : S1x1x32x256.Idx) :
    lo (View.ld x1 (Rect.unit (s := S2048x256) ![a, 0] S32x256.size i1)) (View.ld x3 (Rect.unit (s := S2x64x256) ![0, g, 0] S1x1x256.size i2))
      (View.ld x2 (Rect.unit (s := S2x64x256) ![0, g, 0] S1x1x256.size i2)) (View.ld x0 (Rect.unit (s := S2x2048x256) ![0, a, 0] S1x32x256.size i0)) y
      = errBlk x0 x1 x2 x3 ((Rect.unit (s := S1x2x2048x256) ![0, 0, a, 0] S1x1x32x256.size i3).emb y) := by
  obtain ⟨u, v, p, l, rfl⟩ : ∃ (u v : Fin 1) (p : Fin 32) (l : Fin 256), y = ix4 u v p l := ⟨y 0, y 1, y 2, y 3, eq_ix4 y⟩
  have hv : v.val = 0 := by omega
  rw [lo_apply]
  have e0 : (Rect.unit (s := S2x2048x256) ![0, a, 0] S1x32x256.size i0).emb (ix3 (0 : Fin 1) p l) = ix3 (0 : Fin 2) (⟨a + p.val, by omega⟩ : Fin 2048) l :=
    funext fun c => Fin.ext (by
      rw [ValueKit.rect_emb_unit_val]
      match c with
      | ⟨0, _⟩ => rfl
      | ⟨1, _⟩ => rfl
      | ⟨2, _⟩ => exact Nat.zero_add _)
  have e1 : (Rect.unit (s := S2048x256) ![a, 0] S32x256.size i1).emb (ix2 p l) = ix2 (⟨a + p.val, by omega⟩ : Fin 2048) l :=
    funext fun c => Fin.ext (by
      rw [ValueKit.rect_emb_unit_val]
      match c with
      | ⟨0, _⟩ => rfl
      | ⟨1, _⟩ => exact Nat.zero_add _)
  have e2 : (Rect.unit (s := S2x64x256) ![0, g, 0] S1x1x256.size i2).emb (ix3 (0 : Fin 1) (0 : Fin 1) l) = ix3 (0 : Fin 2) (⟨g, hg⟩ : Fin 64) l :=
    funext fun c => Fin.ext (by
      rw [ValueKit.rect_emb_unit_val]
      match c with
      | ⟨0, _⟩ => rfl
      | ⟨1, _⟩ => rfl
      | ⟨2, _⟩ => exact Nat.zero_add _)
  have e3 : (Rect.unit (s := S1x2x2048x256) ![0, 0, a, 0] S1x1x32x256.size i3).emb (ix4 u v p l) = ix4 (0 : Fin 1) (0 : Fin 2) (⟨a + p.val, by omega⟩ : Fin 2048) l :=
    funext fun c => Fin.ext (by
      rw [ValueKit.rect_emb_unit_val]
      match c with
      | ⟨0, _⟩ => show 0 + u.val = 0; omega
      | ⟨1, _⟩ => show 0 + v.val = 0; omega
      | ⟨2, _⟩ => rfl
      | ⟨3, _⟩ => exact Nat.zero_add _)
  have eg : (⟨(a + p.val) / 32, by omega⟩ : Fin 64) = ⟨g, hg⟩ := Fin.ext (by show (a + p.val) / 32 = g; omega)
  rw [e3]
  show x0 (Rect.emb _ _) - (nib 0 (x1 (Rect.emb _ _)) - x3 (Rect.emb _ _)) * x2 (Rect.emb _ _)
    = x0 (ix3 (0 : Fin 2) (⟨a + p.val, _⟩ : Fin 2048) l) - (nib 0 (x1 (ix2 (⟨a + p.val, _⟩ : Fin 2048) l)) - x3 (ix3 (0 : Fin 2) (⟨(a + p.val) / 32, _⟩ : Fin 64) l)) * x2 (ix3 (0 : Fin 2) (⟨(a + p.val) / 32, _⟩ : Fin 64) l)
  rw [e0, e1, e2, eg]

/-- One stored block of the high half holds the weight error of its rows. -/
theorem piece_hi (a g : ℕ) (hg : g < 64) (ha : a = 32 * g) (i0 i1 i2 i3)
    (y : S1x1x32x256.Idx) :
    hi (View.ld x1 (Rect.unit (s := S2048x256) ![a, 0] S32x256.size i1)) (View.ld x3 (Rect.unit (s := S2x64x256) ![1, g, 0] S1x1x256.size i2))
      (View.ld x2 (Rect.unit (s := S2x64x256) ![1, g, 0] S1x1x256.size i2)) (View.ld x0 (Rect.unit (s := S2x2048x256) ![1, a, 0] S1x32x256.size i0)) y
      = errBlk x0 x1 x2 x3 ((Rect.unit (s := S1x2x2048x256) ![0, 1, a, 0] S1x1x32x256.size i3).emb y) := by
  obtain ⟨u, v, p, l, rfl⟩ : ∃ (u v : Fin 1) (p : Fin 32) (l : Fin 256), y = ix4 u v p l := ⟨y 0, y 1, y 2, y 3, eq_ix4 y⟩
  have hv : v.val = 0 := by omega
  rw [hi_apply]
  have e0 : (Rect.unit (s := S2x2048x256) ![1, a, 0] S1x32x256.size i0).emb (ix3 (0 : Fin 1) p l) = ix3 (1 : Fin 2) (⟨a + p.val, by omega⟩ : Fin 2048) l :=
    funext fun c => Fin.ext (by
      rw [ValueKit.rect_emb_unit_val]
      match c with
      | ⟨0, _⟩ => rfl
      | ⟨1, _⟩ => rfl
      | ⟨2, _⟩ => exact Nat.zero_add _)
  have e1 : (Rect.unit (s := S2048x256) ![a, 0] S32x256.size i1).emb (ix2 p l) = ix2 (⟨a + p.val, by omega⟩ : Fin 2048) l :=
    funext fun c => Fin.ext (by
      rw [ValueKit.rect_emb_unit_val]
      match c with
      | ⟨0, _⟩ => rfl
      | ⟨1, _⟩ => exact Nat.zero_add _)
  have e2 : (Rect.unit (s := S2x64x256) ![1, g, 0] S1x1x256.size i2).emb (ix3 (0 : Fin 1) (0 : Fin 1) l) = ix3 (1 : Fin 2) (⟨g, hg⟩ : Fin 64) l :=
    funext fun c => Fin.ext (by
      rw [ValueKit.rect_emb_unit_val]
      match c with
      | ⟨0, _⟩ => rfl
      | ⟨1, _⟩ => rfl
      | ⟨2, _⟩ => exact Nat.zero_add _)
  have e3 : (Rect.unit (s := S1x2x2048x256) ![0, 1, a, 0] S1x1x32x256.size i3).emb (ix4 u v p l) = ix4 (0 : Fin 1) (1 : Fin 2) (⟨a + p.val, by omega⟩ : Fin 2048) l :=
    funext fun c => Fin.ext (by
      rw [ValueKit.rect_emb_unit_val]
      match c with
      | ⟨0, _⟩ => show 0 + u.val = 0; omega
      | ⟨1, _⟩ => show 1 + v.val = 1; omega
      | ⟨2, _⟩ => rfl
      | ⟨3, _⟩ => exact Nat.zero_add _)
  have eg : (⟨(a + p.val) / 32, by omega⟩ : Fin 64) = ⟨g, hg⟩ := Fin.ext (by show (a + p.val) / 32 = g; omega)
  rw [e3]
  show x0 (Rect.emb _ _) - (nib 1 (x1 (Rect.emb _ _)) - x3 (Rect.emb _ _)) * x2 (Rect.emb _ _)
    = x0 (ix3 (1 : Fin 2) (⟨a + p.val, _⟩ : Fin 2048) l) - (nib 1 (x1 (ix2 (⟨a + p.val, _⟩ : Fin 2048) l)) - x3 (ix3 (1 : Fin 2) (⟨(a + p.val) / 32, _⟩ : Fin 64) l)) * x2 (ix3 (1 : Fin 2) (⟨(a + p.val) / 32, _⟩ : Fin 64) l)
  rw [e0, e1, e2, eg]

/-- The block's stores, the last first. -/
def pieces : List (View.Piece (Elt Ideal) S1x2x2048x256 .bf16) :=
  ⟨r0_447, hi (View.ld x1 r0_441) (View.ld x3 r0_445) (View.ld x2 r0_445) (View.ld x0 r0_446)⟩ ::
  ⟨r0_444, lo (View.ld x1 r0_441) (View.ld x3 r0_442) (View.ld x2 r0_442) (View.ld x0 r0_443)⟩ ::
  ⟨r0_440, hi (View.ld x1 r0_434) (View.ld x3 r0_438) (View.ld x2 r0_438) (View.ld x0 r0_439)⟩ ::
  ⟨r0_437, lo (View.ld x1 r0_434) (View.ld x3 r0_435) (View.ld x2 r0_435) (View.ld x0 r0_436)⟩ ::
  ⟨r0_433, hi (View.ld x1 r0_427) (View.ld x3 r0_431) (View.ld x2 r0_431) (View.ld x0 r0_432)⟩ ::
  ⟨r0_430, lo (View.ld x1 r0_427) (View.ld x3 r0_428) (View.ld x2 r0_428) (View.ld x0 r0_429)⟩ ::
  ⟨r0_426, hi (View.ld x1 r0_420) (View.ld x3 r0_424) (View.ld x2 r0_424) (View.ld x0 r0_425)⟩ ::
  ⟨r0_423, lo (View.ld x1 r0_420) (View.ld x3 r0_421) (View.ld x2 r0_421) (View.ld x0 r0_422)⟩ ::
  ⟨r0_419, hi (View.ld x1 r0_413) (View.ld x3 r0_417) (View.ld x2 r0_417) (View.ld x0 r0_418)⟩ ::
  ⟨r0_416, lo (View.ld x1 r0_413) (View.ld x3 r0_414) (View.ld x2 r0_414) (View.ld x0 r0_415)⟩ ::
  ⟨r0_412, hi (View.ld x1 r0_406) (View.ld x3 r0_410) (View.ld x2 r0_410) (View.ld x0 r0_411)⟩ ::
  ⟨r0_409, lo (View.ld x1 r0_406) (View.ld x3 r0_407) (View.ld x2 r0_407) (View.ld x0 r0_408)⟩ ::
  ⟨r0_405, hi (View.ld x1 r0_399) (View.ld x3 r0_403) (View.ld x2 r0_403) (View.ld x0 r0_404)⟩ ::
  ⟨r0_402, lo (View.ld x1 r0_399) (View.ld x3 r0_400) (View.ld x2 r0_400) (View.ld x0 r0_401)⟩ ::
  ⟨r0_398, hi (View.ld x1 r0_392) (View.ld x3 r0_396) (View.ld x2 r0_396) (View.ld x0 r0_397)⟩ ::
  ⟨r0_395, lo (View.ld x1 r0_392) (View.ld x3 r0_393) (View.ld x2 r0_393) (View.ld x0 r0_394)⟩ ::
  ⟨r0_391, hi (View.ld x1 r0_385) (View.ld x3 r0_389) (View.ld x2 r0_389) (View.ld x0 r0_390)⟩ ::
  ⟨r0_388, lo (View.ld x1 r0_385) (View.ld x3 r0_386) (View.ld x2 r0_386) (View.ld x0 r0_387)⟩ ::
  ⟨r0_384, hi (View.ld x1 r0_378) (View.ld x3 r0_382) (View.ld x2 r0_382) (View.ld x0 r0_383)⟩ ::
  ⟨r0_381, lo (View.ld x1 r0_378) (View.ld x3 r0_379) (View.ld x2 r0_379) (View.ld x0 r0_380)⟩ ::
  ⟨r0_377, hi (View.ld x1 r0_371) (View.ld x3 r0_375) (View.ld x2 r0_375) (View.ld x0 r0_376)⟩ ::
  ⟨r0_374, lo (View.ld x1 r0_371) (View.ld x3 r0_372) (View.ld x2 r0_372) (View.ld x0 r0_373)⟩ ::
  ⟨r0_370, hi (View.ld x1 r0_364) (View.ld x3 r0_368) (View.ld x2 r0_368) (View.ld x0 r0_369)⟩ ::
  ⟨r0_367, lo (View.ld x1 r0_364) (View.ld x3 r0_365) (View.ld x2 r0_365) (View.ld x0 r0_366)⟩ ::
  ⟨r0_363, hi (View.ld x1 r0_357) (View.ld x3 r0_361) (View.ld x2 r0_361) (View.ld x0 r0_362)⟩ ::
  ⟨r0_360, lo (View.ld x1 r0_357) (View.ld x3 r0_358) (View.ld x2 r0_358) (View.ld x0 r0_359)⟩ ::
  ⟨r0_356, hi (View.ld x1 r0_350) (View.ld x3 r0_354) (View.ld x2 r0_354) (View.ld x0 r0_355)⟩ ::
  ⟨r0_353, lo (View.ld x1 r0_350) (View.ld x3 r0_351) (View.ld x2 r0_351) (View.ld x0 r0_352)⟩ ::
  ⟨r0_349, hi (View.ld x1 r0_343) (View.ld x3 r0_347) (View.ld x2 r0_347) (View.ld x0 r0_348)⟩ ::
  ⟨r0_346, lo (View.ld x1 r0_343) (View.ld x3 r0_344) (View.ld x2 r0_344) (View.ld x0 r0_345)⟩ ::
  ⟨r0_342, hi (View.ld x1 r0_336) (View.ld x3 r0_340) (View.ld x2 r0_340) (View.ld x0 r0_341)⟩ ::
  ⟨r0_339, lo (View.ld x1 r0_336) (View.ld x3 r0_337) (View.ld x2 r0_337) (View.ld x0 r0_338)⟩ ::
  ⟨r0_335, hi (View.ld x1 r0_329) (View.ld x3 r0_333) (View.ld x2 r0_333) (View.ld x0 r0_334)⟩ ::
  ⟨r0_332, lo (View.ld x1 r0_329) (View.ld x3 r0_330) (View.ld x2 r0_330) (View.ld x0 r0_331)⟩ ::
  ⟨r0_328, hi (View.ld x1 r0_322) (View.ld x3 r0_326) (View.ld x2 r0_326) (View.ld x0 r0_327)⟩ ::
  ⟨r0_325, lo (View.ld x1 r0_322) (View.ld x3 r0_323) (View.ld x2 r0_323) (View.ld x0 r0_324)⟩ ::
  ⟨r0_321, hi (View.ld x1 r0_315) (View.ld x3 r0_319) (View.ld x2 r0_319) (View.ld x0 r0_320)⟩ ::
  ⟨r0_318, lo (View.ld x1 r0_315) (View.ld x3 r0_316) (View.ld x2 r0_316) (View.ld x0 r0_317)⟩ ::
  ⟨r0_314, hi (View.ld x1 r0_308) (View.ld x3 r0_312) (View.ld x2 r0_312) (View.ld x0 r0_313)⟩ ::
  ⟨r0_311, lo (View.ld x1 r0_308) (View.ld x3 r0_309) (View.ld x2 r0_309) (View.ld x0 r0_310)⟩ ::
  ⟨r0_307, hi (View.ld x1 r0_301) (View.ld x3 r0_305) (View.ld x2 r0_305) (View.ld x0 r0_306)⟩ ::
  ⟨r0_304, lo (View.ld x1 r0_301) (View.ld x3 r0_302) (View.ld x2 r0_302) (View.ld x0 r0_303)⟩ ::
  ⟨r0_300, hi (View.ld x1 r0_294) (View.ld x3 r0_298) (View.ld x2 r0_298) (View.ld x0 r0_299)⟩ ::
  ⟨r0_297, lo (View.ld x1 r0_294) (View.ld x3 r0_295) (View.ld x2 r0_295) (View.ld x0 r0_296)⟩ ::
  ⟨r0_293, hi (View.ld x1 r0_287) (View.ld x3 r0_291) (View.ld x2 r0_291) (View.ld x0 r0_292)⟩ ::
  ⟨r0_290, lo (View.ld x1 r0_287) (View.ld x3 r0_288) (View.ld x2 r0_288) (View.ld x0 r0_289)⟩ ::
  ⟨r0_286, hi (View.ld x1 r0_280) (View.ld x3 r0_284) (View.ld x2 r0_284) (View.ld x0 r0_285)⟩ ::
  ⟨r0_283, lo (View.ld x1 r0_280) (View.ld x3 r0_281) (View.ld x2 r0_281) (View.ld x0 r0_282)⟩ ::
  ⟨r0_279, hi (View.ld x1 r0_273) (View.ld x3 r0_277) (View.ld x2 r0_277) (View.ld x0 r0_278)⟩ ::
  ⟨r0_276, lo (View.ld x1 r0_273) (View.ld x3 r0_274) (View.ld x2 r0_274) (View.ld x0 r0_275)⟩ ::
  ⟨r0_272, hi (View.ld x1 r0_266) (View.ld x3 r0_270) (View.ld x2 r0_270) (View.ld x0 r0_271)⟩ ::
  ⟨r0_269, lo (View.ld x1 r0_266) (View.ld x3 r0_267) (View.ld x2 r0_267) (View.ld x0 r0_268)⟩ ::
  ⟨r0_265, hi (View.ld x1 r0_259) (View.ld x3 r0_263) (View.ld x2 r0_263) (View.ld x0 r0_264)⟩ ::
  ⟨r0_262, lo (View.ld x1 r0_259) (View.ld x3 r0_260) (View.ld x2 r0_260) (View.ld x0 r0_261)⟩ ::
  ⟨r0_258, hi (View.ld x1 r0_252) (View.ld x3 r0_256) (View.ld x2 r0_256) (View.ld x0 r0_257)⟩ ::
  ⟨r0_255, lo (View.ld x1 r0_252) (View.ld x3 r0_253) (View.ld x2 r0_253) (View.ld x0 r0_254)⟩ ::
  ⟨r0_251, hi (View.ld x1 r0_245) (View.ld x3 r0_249) (View.ld x2 r0_249) (View.ld x0 r0_250)⟩ ::
  ⟨r0_248, lo (View.ld x1 r0_245) (View.ld x3 r0_246) (View.ld x2 r0_246) (View.ld x0 r0_247)⟩ ::
  ⟨r0_244, hi (View.ld x1 r0_238) (View.ld x3 r0_242) (View.ld x2 r0_242) (View.ld x0 r0_243)⟩ ::
  ⟨r0_241, lo (View.ld x1 r0_238) (View.ld x3 r0_239) (View.ld x2 r0_239) (View.ld x0 r0_240)⟩ ::
  ⟨r0_237, hi (View.ld x1 r0_231) (View.ld x3 r0_235) (View.ld x2 r0_235) (View.ld x0 r0_236)⟩ ::
  ⟨r0_234, lo (View.ld x1 r0_231) (View.ld x3 r0_232) (View.ld x2 r0_232) (View.ld x0 r0_233)⟩ ::
  ⟨r0_230, hi (View.ld x1 r0_224) (View.ld x3 r0_228) (View.ld x2 r0_228) (View.ld x0 r0_229)⟩ ::
  ⟨r0_227, lo (View.ld x1 r0_224) (View.ld x3 r0_225) (View.ld x2 r0_225) (View.ld x0 r0_226)⟩ ::
  ⟨r0_223, hi (View.ld x1 r0_217) (View.ld x3 r0_221) (View.ld x2 r0_221) (View.ld x0 r0_222)⟩ ::
  ⟨r0_220, lo (View.ld x1 r0_217) (View.ld x3 r0_218) (View.ld x2 r0_218) (View.ld x0 r0_219)⟩ ::
  ⟨r0_216, hi (View.ld x1 r0_210) (View.ld x3 r0_214) (View.ld x2 r0_214) (View.ld x0 r0_215)⟩ ::
  ⟨r0_213, lo (View.ld x1 r0_210) (View.ld x3 r0_211) (View.ld x2 r0_211) (View.ld x0 r0_212)⟩ ::
  ⟨r0_209, hi (View.ld x1 r0_203) (View.ld x3 r0_207) (View.ld x2 r0_207) (View.ld x0 r0_208)⟩ ::
  ⟨r0_206, lo (View.ld x1 r0_203) (View.ld x3 r0_204) (View.ld x2 r0_204) (View.ld x0 r0_205)⟩ ::
  ⟨r0_202, hi (View.ld x1 r0_196) (View.ld x3 r0_200) (View.ld x2 r0_200) (View.ld x0 r0_201)⟩ ::
  ⟨r0_199, lo (View.ld x1 r0_196) (View.ld x3 r0_197) (View.ld x2 r0_197) (View.ld x0 r0_198)⟩ ::
  ⟨r0_195, hi (View.ld x1 r0_189) (View.ld x3 r0_193) (View.ld x2 r0_193) (View.ld x0 r0_194)⟩ ::
  ⟨r0_192, lo (View.ld x1 r0_189) (View.ld x3 r0_190) (View.ld x2 r0_190) (View.ld x0 r0_191)⟩ ::
  ⟨r0_188, hi (View.ld x1 r0_182) (View.ld x3 r0_186) (View.ld x2 r0_186) (View.ld x0 r0_187)⟩ ::
  ⟨r0_185, lo (View.ld x1 r0_182) (View.ld x3 r0_183) (View.ld x2 r0_183) (View.ld x0 r0_184)⟩ ::
  ⟨r0_181, hi (View.ld x1 r0_175) (View.ld x3 r0_179) (View.ld x2 r0_179) (View.ld x0 r0_180)⟩ ::
  ⟨r0_178, lo (View.ld x1 r0_175) (View.ld x3 r0_176) (View.ld x2 r0_176) (View.ld x0 r0_177)⟩ ::
  ⟨r0_174, hi (View.ld x1 r0_168) (View.ld x3 r0_172) (View.ld x2 r0_172) (View.ld x0 r0_173)⟩ ::
  ⟨r0_171, lo (View.ld x1 r0_168) (View.ld x3 r0_169) (View.ld x2 r0_169) (View.ld x0 r0_170)⟩ ::
  ⟨r0_167, hi (View.ld x1 r0_161) (View.ld x3 r0_165) (View.ld x2 r0_165) (View.ld x0 r0_166)⟩ ::
  ⟨r0_164, lo (View.ld x1 r0_161) (View.ld x3 r0_162) (View.ld x2 r0_162) (View.ld x0 r0_163)⟩ ::
  ⟨r0_160, hi (View.ld x1 r0_154) (View.ld x3 r0_158) (View.ld x2 r0_158) (View.ld x0 r0_159)⟩ ::
  ⟨r0_157, lo (View.ld x1 r0_154) (View.ld x3 r0_155) (View.ld x2 r0_155) (View.ld x0 r0_156)⟩ ::
  ⟨r0_153, hi (View.ld x1 r0_147) (View.ld x3 r0_151) (View.ld x2 r0_151) (View.ld x0 r0_152)⟩ ::
  ⟨r0_150, lo (View.ld x1 r0_147) (View.ld x3 r0_148) (View.ld x2 r0_148) (View.ld x0 r0_149)⟩ ::
  ⟨r0_146, hi (View.ld x1 r0_140) (View.ld x3 r0_144) (View.ld x2 r0_144) (View.ld x0 r0_145)⟩ ::
  ⟨r0_143, lo (View.ld x1 r0_140) (View.ld x3 r0_141) (View.ld x2 r0_141) (View.ld x0 r0_142)⟩ ::
  ⟨r0_139, hi (View.ld x1 r0_133) (View.ld x3 r0_137) (View.ld x2 r0_137) (View.ld x0 r0_138)⟩ ::
  ⟨r0_136, lo (View.ld x1 r0_133) (View.ld x3 r0_134) (View.ld x2 r0_134) (View.ld x0 r0_135)⟩ ::
  ⟨r0_132, hi (View.ld x1 r0_126) (View.ld x3 r0_130) (View.ld x2 r0_130) (View.ld x0 r0_131)⟩ ::
  ⟨r0_129, lo (View.ld x1 r0_126) (View.ld x3 r0_127) (View.ld x2 r0_127) (View.ld x0 r0_128)⟩ ::
  ⟨r0_125, hi (View.ld x1 r0_119) (View.ld x3 r0_123) (View.ld x2 r0_123) (View.ld x0 r0_124)⟩ ::
  ⟨r0_122, lo (View.ld x1 r0_119) (View.ld x3 r0_120) (View.ld x2 r0_120) (View.ld x0 r0_121)⟩ ::
  ⟨r0_118, hi (View.ld x1 r0_112) (View.ld x3 r0_116) (View.ld x2 r0_116) (View.ld x0 r0_117)⟩ ::
  ⟨r0_115, lo (View.ld x1 r0_112) (View.ld x3 r0_113) (View.ld x2 r0_113) (View.ld x0 r0_114)⟩ ::
  ⟨r0_111, hi (View.ld x1 r0_105) (View.ld x3 r0_109) (View.ld x2 r0_109) (View.ld x0 r0_110)⟩ ::
  ⟨r0_108, lo (View.ld x1 r0_105) (View.ld x3 r0_106) (View.ld x2 r0_106) (View.ld x0 r0_107)⟩ ::
  ⟨r0_104, hi (View.ld x1 r0_98) (View.ld x3 r0_102) (View.ld x2 r0_102) (View.ld x0 r0_103)⟩ ::
  ⟨r0_101, lo (View.ld x1 r0_98) (View.ld x3 r0_99) (View.ld x2 r0_99) (View.ld x0 r0_100)⟩ ::
  ⟨r0_97, hi (View.ld x1 r0_91) (View.ld x3 r0_95) (View.ld x2 r0_95) (View.ld x0 r0_96)⟩ ::
  ⟨r0_94, lo (View.ld x1 r0_91) (View.ld x3 r0_92) (View.ld x2 r0_92) (View.ld x0 r0_93)⟩ ::
  ⟨r0_90, hi (View.ld x1 r0_84) (View.ld x3 r0_88) (View.ld x2 r0_88) (View.ld x0 r0_89)⟩ ::
  ⟨r0_87, lo (View.ld x1 r0_84) (View.ld x3 r0_85) (View.ld x2 r0_85) (View.ld x0 r0_86)⟩ ::
  ⟨r0_83, hi (View.ld x1 r0_77) (View.ld x3 r0_81) (View.ld x2 r0_81) (View.ld x0 r0_82)⟩ ::
  ⟨r0_80, lo (View.ld x1 r0_77) (View.ld x3 r0_78) (View.ld x2 r0_78) (View.ld x0 r0_79)⟩ ::
  ⟨r0_76, hi (View.ld x1 r0_70) (View.ld x3 r0_74) (View.ld x2 r0_74) (View.ld x0 r0_75)⟩ ::
  ⟨r0_73, lo (View.ld x1 r0_70) (View.ld x3 r0_71) (View.ld x2 r0_71) (View.ld x0 r0_72)⟩ ::
  ⟨r0_69, hi (View.ld x1 r0_63) (View.ld x3 r0_67) (View.ld x2 r0_67) (View.ld x0 r0_68)⟩ ::
  ⟨r0_66, lo (View.ld x1 r0_63) (View.ld x3 r0_64) (View.ld x2 r0_64) (View.ld x0 r0_65)⟩ ::
  ⟨r0_62, hi (View.ld x1 r0_56) (View.ld x3 r0_60) (View.ld x2 r0_60) (View.ld x0 r0_61)⟩ ::
  ⟨r0_59, lo (View.ld x1 r0_56) (View.ld x3 r0_57) (View.ld x2 r0_57) (View.ld x0 r0_58)⟩ ::
  ⟨r0_55, hi (View.ld x1 r0_49) (View.ld x3 r0_53) (View.ld x2 r0_53) (View.ld x0 r0_54)⟩ ::
  ⟨r0_52, lo (View.ld x1 r0_49) (View.ld x3 r0_50) (View.ld x2 r0_50) (View.ld x0 r0_51)⟩ ::
  ⟨r0_48, hi (View.ld x1 r0_42) (View.ld x3 r0_46) (View.ld x2 r0_46) (View.ld x0 r0_47)⟩ ::
  ⟨r0_45, lo (View.ld x1 r0_42) (View.ld x3 r0_43) (View.ld x2 r0_43) (View.ld x0 r0_44)⟩ ::
  ⟨r0_41, hi (View.ld x1 r0_35) (View.ld x3 r0_39) (View.ld x2 r0_39) (View.ld x0 r0_40)⟩ ::
  ⟨r0_38, lo (View.ld x1 r0_35) (View.ld x3 r0_36) (View.ld x2 r0_36) (View.ld x0 r0_37)⟩ ::
  ⟨r0_34, hi (View.ld x1 r0_28) (View.ld x3 r0_32) (View.ld x2 r0_32) (View.ld x0 r0_33)⟩ ::
  ⟨r0_31, lo (View.ld x1 r0_28) (View.ld x3 r0_29) (View.ld x2 r0_29) (View.ld x0 r0_30)⟩ ::
  ⟨r0_27, hi (View.ld x1 r0_21) (View.ld x3 r0_25) (View.ld x2 r0_25) (View.ld x0 r0_26)⟩ ::
  ⟨r0_24, lo (View.ld x1 r0_21) (View.ld x3 r0_22) (View.ld x2 r0_22) (View.ld x0 r0_23)⟩ ::
  ⟨r0_20, hi (View.ld x1 r0_14) (View.ld x3 r0_18) (View.ld x2 r0_18) (View.ld x0 r0_19)⟩ ::
  ⟨r0_17, lo (View.ld x1 r0_14) (View.ld x3 r0_15) (View.ld x2 r0_15) (View.ld x0 r0_16)⟩ ::
  ⟨r0_13, hi (View.ld x1 r0_7) (View.ld x3 r0_11) (View.ld x2 r0_11) (View.ld x0 r0_12)⟩ ::
  ⟨r0_10, lo (View.ld x1 r0_7) (View.ld x3 r0_8) (View.ld x2 r0_8) (View.ld x0 r0_9)⟩ ::
  ⟨r0_6, hi (View.ld x1 r0_0) (View.ld x3 r0_4) (View.ld x2 r0_4) (View.ld x0 r0_5)⟩ ::
  ⟨r0_3, lo (View.ld x1 r0_0) (View.ld x3 r0_1) (View.ld x2 r0_1) (View.ld x0 r0_2)⟩ ::
  []

theorem out_eq : out0_4 (F := Ideal) x0 x1 x2 x3 = View.canon (pieces x0 x1 x2 x3) := rfl

theorem pieces_cover (y : S1x2x2048x256.Idx) : ∃ pc ∈ pieces x0 x1 x2 x3, y ∈ pc.1.set :=
  cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

/-- The block the first kernel leaves is the weight error of the blocks it read. -/
theorem out_apply (y : S1x2x2048x256.Idx) : out0_4 (F := Ideal) x0 x1 x2 x3 y = errBlk x0 x1 x2 x3 y := by
  rw [out_eq]
  refine View.canon_apply_of_pieces (Val := Elt Ideal) (errBlk x0 x1 x2 x3) _ ?_ y (pieces_cover x0 x1 x2 x3 y)
  unfold pieces
  refine List.forall_mem_cons.2 ⟨fun z => piece_hi x0 x1 x2 x3 2016 63 (by decide) rfl _ _ _ inb_S1x2x2048x256_S1x1x32x256_0_1_2016_0 z, ?_⟩
  refine List.forall_mem_cons.2 ⟨fun z => piece_lo x0 x1 x2 x3 2016 63 (by decide) rfl _ _ _ inb_S1x2x2048x256_S1x1x32x256_0_0_2016_0 z, ?_⟩
  refine List.forall_mem_cons.2 ⟨fun z => piece_hi x0 x1 x2 x3 1984 62 (by decide) rfl _ _ _ inb_S1x2x2048x256_S1x1x32x256_0_1_1984_0 z, ?_⟩
  refine List.forall_mem_cons.2 ⟨fun z => piece_lo x0 x1 x2 x3 1984 62 (by decide) rfl _ _ _ inb_S1x2x2048x256_S1x1x32x256_0_0_1984_0 z, ?_⟩
  refine List.forall_mem_cons.2 ⟨fun z => piece_hi x0 x1 x2 x3 1952 61 (by decide) rfl _ _ _ inb_S1x2x2048x256_S1x1x32x256_0_1_1952_0 z, ?_⟩
  refine List.forall_mem_cons.2 ⟨fun z => piece_lo x0 x1 x2 x3 1952 61 (by decide) rfl _ _ _ inb_S1x2x2048x256_S1x1x32x256_0_0_1952_0 z, ?_⟩
  refine List.forall_mem_cons.2 ⟨fun z => piece_hi x0 x1 x2 x3 1920 60 (by decide) rfl _ _ _ inb_S1x2x2048x256_S1x1x32x256_0_1_1920_0 z, ?_⟩
  refine List.forall_mem_cons.2 ⟨fun z => piece_lo x0 x1 x2 x3 1920 60 (by decide) rfl _ _ _ inb_S1x2x2048x256_S1x1x32x256_0_0_1920_0 z, ?_⟩
  refine List.forall_mem_cons.2 ⟨fun z => piece_hi x0 x1 x2 x3 1888 59 (by decide) rfl _ _ _ inb_S1x2x2048x256_S1x1x32x256_0_1_1888_0 z, ?_⟩
  refine List.forall_mem_cons.2 ⟨fun z => piece_lo x0 x1 x2 x3 1888 59 (by decide) rfl _ _ _ inb_S1x2x2048x256_S1x1x32x256_0_0_1888_0 z, ?_⟩
  refine List.forall_mem_cons.2 ⟨fun z => piece_hi x0 x1 x2 x3 1856 58 (by decide) rfl _ _ _ inb_S1x2x2048x256_S1x1x32x256_0_1_1856_0 z, ?_⟩
  refine List.forall_mem_cons.2 ⟨fun z => piece_lo x0 x1 x2 x3 1856 58 (by decide) rfl _ _ _ inb_S1x2x2048x256_S1x1x32x256_0_0_1856_0 z, ?_⟩
  refine List.forall_mem_cons.2 ⟨fun z => piece_hi x0 x1 x2 x3 1824 57 (by decide) rfl _ _ _ inb_S1x2x2048x256_S1x1x32x256_0_1_1824_0 z, ?_⟩
  refine List.forall_mem_cons.2 ⟨fun z => piece_lo x0 x1 x2 x3 1824 57 (by decide) rfl _ _ _ inb_S1x2x2048x256_S1x1x32x256_0_0_1824_0 z, ?_⟩
  refine List.forall_mem_cons.2 ⟨fun z => piece_hi x0 x1 x2 x3 1792 56 (by decide) rfl _ _ _ inb_S1x2x2048x256_S1x1x32x256_0_1_1792_0 z, ?_⟩
  refine List.forall_mem_cons.2 ⟨fun z => piece_lo x0 x1 x2 x3 1792 56 (by decide) rfl _ _ _ inb_S1x2x2048x256_S1x1x32x256_0_0_1792_0 z, ?_⟩
  refine List.forall_mem_cons.2 ⟨fun z => piece_hi x0 x1 x2 x3 1760 55 (by decide) rfl _ _ _ inb_S1x2x2048x256_S1x1x32x256_0_1_1760_0 z, ?_⟩
  refine List.forall_mem_cons.2 ⟨fun z => piece_lo x0 x1 x2 x3 1760 55 (by decide) rfl _ _ _ inb_S1x2x2048x256_S1x1x32x256_0_0_1760_0 z, ?_⟩
  refine List.forall_mem_cons.2 ⟨fun z => piece_hi x0 x1 x2 x3 1728 54 (by decide) rfl _ _ _ inb_S1x2x2048x256_S1x1x32x256_0_1_1728_0 z, ?_⟩
  refine List.forall_mem_cons.2 ⟨fun z => piece_lo x0 x1 x2 x3 1728 54 (by decide) rfl _ _ _ inb_S1x2x2048x256_S1x1x32x256_0_0_1728_0 z, ?_⟩
  refine List.forall_mem_cons.2 ⟨fun z => piece_hi x0 x1 x2 x3 1696 53 (by decide) rfl _ _ _ inb_S1x2x2048x256_S1x1x32x256_0_1_1696_0 z, ?_⟩
  refine List.forall_mem_cons.2 ⟨fun z => piece_lo x0 x1 x2 x3 1696 53 (by decide) rfl _ _ _ inb_S1x2x2048x256_S1x1x32x256_0_0_1696_0 z, ?_⟩
  refine List.forall_mem_cons.2 ⟨fun z => piece_hi x0 x1 x2 x3 1664 52 (by decide) rfl _ _ _ inb_S1x2x2048x256_S1x1x32x256_0_1_1664_0 z, ?_⟩
  refine List.forall_mem_cons.2 ⟨fun z => piece_lo x0 x1 x2 x3 1664 52 (by decide) rfl _ _ _ inb_S1x2x2048x256_S1x1x32x256_0_0_1664_0 z, ?_⟩
  refine List.forall_mem_cons.2 ⟨fun z => piece_hi x0 x1 x2 x3 1632 51 (by decide) rfl _ _ _ inb_S1x2x2048x256_S1x1x32x256_0_1_1632_0 z, ?_⟩
  refine List.forall_mem_cons.2 ⟨fun z => piece_lo x0 x1 x2 x3 1632 51 (by decide) rfl _ _ _ inb_S1x2x2048x256_S1x1x32x256_0_0_1632_0 z, ?_⟩
  refine List.forall_mem_cons.2 ⟨fun z => piece_hi x0 x1 x2 x3 1600 50 (by decide) rfl _ _ _ inb_S1x2x2048x256_S1x1x32x256_0_1_1600_0 z, ?_⟩
  refine List.forall_mem_cons.2 ⟨fun z => piece_lo x0 x1 x2 x3 1600 50 (by decide) rfl _ _ _ inb_S1x2x2048x256_S1x1x32x256_0_0_1600_0 z, ?_⟩
  refine List.forall_mem_cons.2 ⟨fun z => piece_hi x0 x1 x2 x3 1568 49 (by decide) rfl _ _ _ inb_S1x2x2048x256_S1x1x32x256_0_1_1568_0 z, ?_⟩
  refine List.forall_mem_cons.2 ⟨fun z => piece_lo x0 x1 x2 x3 1568 49 (by decide) rfl _ _ _ inb_S1x2x2048x256_S1x1x32x256_0_0_1568_0 z, ?_⟩
  refine List.forall_mem_cons.2 ⟨fun z => piece_hi x0 x1 x2 x3 1536 48 (by decide) rfl _ _ _ inb_S1x2x2048x256_S1x1x32x256_0_1_1536_0 z, ?_⟩
  refine List.forall_mem_cons.2 ⟨fun z => piece_lo x0 x1 x2 x3 1536 48 (by decide) rfl _ _ _ inb_S1x2x2048x256_S1x1x32x256_0_0_1536_0 z, ?_⟩
  refine List.forall_mem_cons.2 ⟨fun z => piece_hi x0 x1 x2 x3 1504 47 (by decide) rfl _ _ _ inb_S1x2x2048x256_S1x1x32x256_0_1_1504_0 z, ?_⟩
  refine List.forall_mem_cons.2 ⟨fun z => piece_lo x0 x1 x2 x3 1504 47 (by decide) rfl _ _ _ inb_S1x2x2048x256_S1x1x32x256_0_0_1504_0 z, ?_⟩
  refine List.forall_mem_cons.2 ⟨fun z => piece_hi x0 x1 x2 x3 1472 46 (by decide) rfl _ _ _ inb_S1x2x2048x256_S1x1x32x256_0_1_1472_0 z, ?_⟩
  refine List.forall_mem_cons.2 ⟨fun z => piece_lo x0 x1 x2 x3 1472 46 (by decide) rfl _ _ _ inb_S1x2x2048x256_S1x1x32x256_0_0_1472_0 z, ?_⟩
  refine List.forall_mem_cons.2 ⟨fun z => piece_hi x0 x1 x2 x3 1440 45 (by decide) rfl _ _ _ inb_S1x2x2048x256_S1x1x32x256_0_1_1440_0 z, ?_⟩
  refine List.forall_mem_cons.2 ⟨fun z => piece_lo x0 x1 x2 x3 1440 45 (by decide) rfl _ _ _ inb_S1x2x2048x256_S1x1x32x256_0_0_1440_0 z, ?_⟩
  refine List.forall_mem_cons.2 ⟨fun z => piece_hi x0 x1 x2 x3 1408 44 (by decide) rfl _ _ _ inb_S1x2x2048x256_S1x1x32x256_0_1_1408_0 z, ?_⟩
  refine List.forall_mem_cons.2 ⟨fun z => piece_lo x0 x1 x2 x3 1408 44 (by decide) rfl _ _ _ inb_S1x2x2048x256_S1x1x32x256_0_0_1408_0 z, ?_⟩
  refine List.forall_mem_cons.2 ⟨fun z => piece_hi x0 x1 x2 x3 1376 43 (by decide) rfl _ _ _ inb_S1x2x2048x256_S1x1x32x256_0_1_1376_0 z, ?_⟩
  refine List.forall_mem_cons.2 ⟨fun z => piece_lo x0 x1 x2 x3 1376 43 (by decide) rfl _ _ _ inb_S1x2x2048x256_S1x1x32x256_0_0_1376_0 z, ?_⟩
  refine List.forall_mem_cons.2 ⟨fun z => piece_hi x0 x1 x2 x3 1344 42 (by decide) rfl _ _ _ inb_S1x2x2048x256_S1x1x32x256_0_1_1344_0 z, ?_⟩
  refine List.forall_mem_cons.2 ⟨fun z => piece_lo x0 x1 x2 x3 1344 42 (by decide) rfl _ _ _ inb_S1x2x2048x256_S1x1x32x256_0_0_1344_0 z, ?_⟩
  refine List.forall_mem_cons.2 ⟨fun z => piece_hi x0 x1 x2 x3 1312 41 (by decide) rfl _ _ _ inb_S1x2x2048x256_S1x1x32x256_0_1_1312_0 z, ?_⟩
  refine List.forall_mem_cons.2 ⟨fun z => piece_lo x0 x1 x2 x3 1312 41 (by decide) rfl _ _ _ inb_S1x2x2048x256_S1x1x32x256_0_0_1312_0 z, ?_⟩
  refine List.forall_mem_cons.2 ⟨fun z => piece_hi x0 x1 x2 x3 1280 40 (by decide) rfl _ _ _ inb_S1x2x2048x256_S1x1x32x256_0_1_1280_0 z, ?_⟩
  refine List.forall_mem_cons.2 ⟨fun z => piece_lo x0 x1 x2 x3 1280 40 (by decide) rfl _ _ _ inb_S1x2x2048x256_S1x1x32x256_0_0_1280_0 z, ?_⟩
  refine List.forall_mem_cons.2 ⟨fun z => piece_hi x0 x1 x2 x3 1248 39 (by decide) rfl _ _ _ inb_S1x2x2048x256_S1x1x32x256_0_1_1248_0 z, ?_⟩
  refine List.forall_mem_cons.2 ⟨fun z => piece_lo x0 x1 x2 x3 1248 39 (by decide) rfl _ _ _ inb_S1x2x2048x256_S1x1x32x256_0_0_1248_0 z, ?_⟩
  refine List.forall_mem_cons.2 ⟨fun z => piece_hi x0 x1 x2 x3 1216 38 (by decide) rfl _ _ _ inb_S1x2x2048x256_S1x1x32x256_0_1_1216_0 z, ?_⟩
  refine List.forall_mem_cons.2 ⟨fun z => piece_lo x0 x1 x2 x3 1216 38 (by decide) rfl _ _ _ inb_S1x2x2048x256_S1x1x32x256_0_0_1216_0 z, ?_⟩
  refine List.forall_mem_cons.2 ⟨fun z => piece_hi x0 x1 x2 x3 1184 37 (by decide) rfl _ _ _ inb_S1x2x2048x256_S1x1x32x256_0_1_1184_0 z, ?_⟩
  refine List.forall_mem_cons.2 ⟨fun z => piece_lo x0 x1 x2 x3 1184 37 (by decide) rfl _ _ _ inb_S1x2x2048x256_S1x1x32x256_0_0_1184_0 z, ?_⟩
  refine List.forall_mem_cons.2 ⟨fun z => piece_hi x0 x1 x2 x3 1152 36 (by decide) rfl _ _ _ inb_S1x2x2048x256_S1x1x32x256_0_1_1152_0 z, ?_⟩
  refine List.forall_mem_cons.2 ⟨fun z => piece_lo x0 x1 x2 x3 1152 36 (by decide) rfl _ _ _ inb_S1x2x2048x256_S1x1x32x256_0_0_1152_0 z, ?_⟩
  refine List.forall_mem_cons.2 ⟨fun z => piece_hi x0 x1 x2 x3 1120 35 (by decide) rfl _ _ _ inb_S1x2x2048x256_S1x1x32x256_0_1_1120_0 z, ?_⟩
  refine List.forall_mem_cons.2 ⟨fun z => piece_lo x0 x1 x2 x3 1120 35 (by decide) rfl _ _ _ inb_S1x2x2048x256_S1x1x32x256_0_0_1120_0 z, ?_⟩
  refine List.forall_mem_cons.2 ⟨fun z => piece_hi x0 x1 x2 x3 1088 34 (by decide) rfl _ _ _ inb_S1x2x2048x256_S1x1x32x256_0_1_1088_0 z, ?_⟩
  refine List.forall_mem_cons.2 ⟨fun z => piece_lo x0 x1 x2 x3 1088 34 (by decide) rfl _ _ _ inb_S1x2x2048x256_S1x1x32x256_0_0_1088_0 z, ?_⟩
  refine List.forall_mem_cons.2 ⟨fun z => piece_hi x0 x1 x2 x3 1056 33 (by decide) rfl _ _ _ inb_S1x2x2048x256_S1x1x32x256_0_1_1056_0 z, ?_⟩
  refine List.forall_mem_cons.2 ⟨fun z => piece_lo x0 x1 x2 x3 1056 33 (by decide) rfl _ _ _ inb_S1x2x2048x256_S1x1x32x256_0_0_1056_0 z, ?_⟩
  refine List.forall_mem_cons.2 ⟨fun z => piece_hi x0 x1 x2 x3 1024 32 (by decide) rfl _ _ _ inb_S1x2x2048x256_S1x1x32x256_0_1_1024_0 z, ?_⟩
  refine List.forall_mem_cons.2 ⟨fun z => piece_lo x0 x1 x2 x3 1024 32 (by decide) rfl _ _ _ inb_S1x2x2048x256_S1x1x32x256_0_0_1024_0 z, ?_⟩
  refine List.forall_mem_cons.2 ⟨fun z => piece_hi x0 x1 x2 x3 992 31 (by decide) rfl _ _ _ inb_S1x2x2048x256_S1x1x32x256_0_1_992_0 z, ?_⟩
  refine List.forall_mem_cons.2 ⟨fun z => piece_lo x0 x1 x2 x3 992 31 (by decide) rfl _ _ _ inb_S1x2x2048x256_S1x1x32x256_0_0_992_0 z, ?_⟩
  refine List.forall_mem_cons.2 ⟨fun z => piece_hi x0 x1 x2 x3 960 30 (by decide) rfl _ _ _ inb_S1x2x2048x256_S1x1x32x256_0_1_960_0 z, ?_⟩
  refine List.forall_mem_cons.2 ⟨fun z => piece_lo x0 x1 x2 x3 960 30 (by decide) rfl _ _ _ inb_S1x2x2048x256_S1x1x32x256_0_0_960_0 z, ?_⟩
  refine List.forall_mem_cons.2 ⟨fun z => piece_hi x0 x1 x2 x3 928 29 (by decide) rfl _ _ _ inb_S1x2x2048x256_S1x1x32x256_0_1_928_0 z, ?_⟩
  refine List.forall_mem_cons.2 ⟨fun z => piece_lo x0 x1 x2 x3 928 29 (by decide) rfl _ _ _ inb_S1x2x2048x256_S1x1x32x256_0_0_928_0 z, ?_⟩
  refine List.forall_mem_cons.2 ⟨fun z => piece_hi x0 x1 x2 x3 896 28 (by decide) rfl _ _ _ inb_S1x2x2048x256_S1x1x32x256_0_1_896_0 z, ?_⟩
  refine List.forall_mem_cons.2 ⟨fun z => piece_lo x0 x1 x2 x3 896 28 (by decide) rfl _ _ _ inb_S1x2x2048x256_S1x1x32x256_0_0_896_0 z, ?_⟩
  refine List.forall_mem_cons.2 ⟨fun z => piece_hi x0 x1 x2 x3 864 27 (by decide) rfl _ _ _ inb_S1x2x2048x256_S1x1x32x256_0_1_864_0 z, ?_⟩
  refine List.forall_mem_cons.2 ⟨fun z => piece_lo x0 x1 x2 x3 864 27 (by decide) rfl _ _ _ inb_S1x2x2048x256_S1x1x32x256_0_0_864_0 z, ?_⟩
  refine List.forall_mem_cons.2 ⟨fun z => piece_hi x0 x1 x2 x3 832 26 (by decide) rfl _ _ _ inb_S1x2x2048x256_S1x1x32x256_0_1_832_0 z, ?_⟩
  refine List.forall_mem_cons.2 ⟨fun z => piece_lo x0 x1 x2 x3 832 26 (by decide) rfl _ _ _ inb_S1x2x2048x256_S1x1x32x256_0_0_832_0 z, ?_⟩
  refine List.forall_mem_cons.2 ⟨fun z => piece_hi x0 x1 x2 x3 800 25 (by decide) rfl _ _ _ inb_S1x2x2048x256_S1x1x32x256_0_1_800_0 z, ?_⟩
  refine List.forall_mem_cons.2 ⟨fun z => piece_lo x0 x1 x2 x3 800 25 (by decide) rfl _ _ _ inb_S1x2x2048x256_S1x1x32x256_0_0_800_0 z, ?_⟩
  refine List.forall_mem_cons.2 ⟨fun z => piece_hi x0 x1 x2 x3 768 24 (by decide) rfl _ _ _ inb_S1x2x2048x256_S1x1x32x256_0_1_768_0 z, ?_⟩
  refine List.forall_mem_cons.2 ⟨fun z => piece_lo x0 x1 x2 x3 768 24 (by decide) rfl _ _ _ inb_S1x2x2048x256_S1x1x32x256_0_0_768_0 z, ?_⟩
  refine List.forall_mem_cons.2 ⟨fun z => piece_hi x0 x1 x2 x3 736 23 (by decide) rfl _ _ _ inb_S1x2x2048x256_S1x1x32x256_0_1_736_0 z, ?_⟩
  refine List.forall_mem_cons.2 ⟨fun z => piece_lo x0 x1 x2 x3 736 23 (by decide) rfl _ _ _ inb_S1x2x2048x256_S1x1x32x256_0_0_736_0 z, ?_⟩
  refine List.forall_mem_cons.2 ⟨fun z => piece_hi x0 x1 x2 x3 704 22 (by decide) rfl _ _ _ inb_S1x2x2048x256_S1x1x32x256_0_1_704_0 z, ?_⟩
  refine List.forall_mem_cons.2 ⟨fun z => piece_lo x0 x1 x2 x3 704 22 (by decide) rfl _ _ _ inb_S1x2x2048x256_S1x1x32x256_0_0_704_0 z, ?_⟩
  refine List.forall_mem_cons.2 ⟨fun z => piece_hi x0 x1 x2 x3 672 21 (by decide) rfl _ _ _ inb_S1x2x2048x256_S1x1x32x256_0_1_672_0 z, ?_⟩
  refine List.forall_mem_cons.2 ⟨fun z => piece_lo x0 x1 x2 x3 672 21 (by decide) rfl _ _ _ inb_S1x2x2048x256_S1x1x32x256_0_0_672_0 z, ?_⟩
  refine List.forall_mem_cons.2 ⟨fun z => piece_hi x0 x1 x2 x3 640 20 (by decide) rfl _ _ _ inb_S1x2x2048x256_S1x1x32x256_0_1_640_0 z, ?_⟩
  refine List.forall_mem_cons.2 ⟨fun z => piece_lo x0 x1 x2 x3 640 20 (by decide) rfl _ _ _ inb_S1x2x2048x256_S1x1x32x256_0_0_640_0 z, ?_⟩
  refine List.forall_mem_cons.2 ⟨fun z => piece_hi x0 x1 x2 x3 608 19 (by decide) rfl _ _ _ inb_S1x2x2048x256_S1x1x32x256_0_1_608_0 z, ?_⟩
  refine List.forall_mem_cons.2 ⟨fun z => piece_lo x0 x1 x2 x3 608 19 (by decide) rfl _ _ _ inb_S1x2x2048x256_S1x1x32x256_0_0_608_0 z, ?_⟩
  refine List.forall_mem_cons.2 ⟨fun z => piece_hi x0 x1 x2 x3 576 18 (by decide) rfl _ _ _ inb_S1x2x2048x256_S1x1x32x256_0_1_576_0 z, ?_⟩
  refine List.forall_mem_cons.2 ⟨fun z => piece_lo x0 x1 x2 x3 576 18 (by decide) rfl _ _ _ inb_S1x2x2048x256_S1x1x32x256_0_0_576_0 z, ?_⟩
  refine List.forall_mem_cons.2 ⟨fun z => piece_hi x0 x1 x2 x3 544 17 (by decide) rfl _ _ _ inb_S1x2x2048x256_S1x1x32x256_0_1_544_0 z, ?_⟩
  refine List.forall_mem_cons.2 ⟨fun z => piece_lo x0 x1 x2 x3 544 17 (by decide) rfl _ _ _ inb_S1x2x2048x256_S1x1x32x256_0_0_544_0 z, ?_⟩
  refine List.forall_mem_cons.2 ⟨fun z => piece_hi x0 x1 x2 x3 512 16 (by decide) rfl _ _ _ inb_S1x2x2048x256_S1x1x32x256_0_1_512_0 z, ?_⟩
  refine List.forall_mem_cons.2 ⟨fun z => piece_lo x0 x1 x2 x3 512 16 (by decide) rfl _ _ _ inb_S1x2x2048x256_S1x1x32x256_0_0_512_0 z, ?_⟩
  refine List.forall_mem_cons.2 ⟨fun z => piece_hi x0 x1 x2 x3 480 15 (by decide) rfl _ _ _ inb_S1x2x2048x256_S1x1x32x256_0_1_480_0 z, ?_⟩
  refine List.forall_mem_cons.2 ⟨fun z => piece_lo x0 x1 x2 x3 480 15 (by decide) rfl _ _ _ inb_S1x2x2048x256_S1x1x32x256_0_0_480_0 z, ?_⟩
  refine List.forall_mem_cons.2 ⟨fun z => piece_hi x0 x1 x2 x3 448 14 (by decide) rfl _ _ _ inb_S1x2x2048x256_S1x1x32x256_0_1_448_0 z, ?_⟩
  refine List.forall_mem_cons.2 ⟨fun z => piece_lo x0 x1 x2 x3 448 14 (by decide) rfl _ _ _ inb_S1x2x2048x256_S1x1x32x256_0_0_448_0 z, ?_⟩
  refine List.forall_mem_cons.2 ⟨fun z => piece_hi x0 x1 x2 x3 416 13 (by decide) rfl _ _ _ inb_S1x2x2048x256_S1x1x32x256_0_1_416_0 z, ?_⟩
  refine List.forall_mem_cons.2 ⟨fun z => piece_lo x0 x1 x2 x3 416 13 (by decide) rfl _ _ _ inb_S1x2x2048x256_S1x1x32x256_0_0_416_0 z, ?_⟩
  refine List.forall_mem_cons.2 ⟨fun z => piece_hi x0 x1 x2 x3 384 12 (by decide) rfl _ _ _ inb_S1x2x2048x256_S1x1x32x256_0_1_384_0 z, ?_⟩
  refine List.forall_mem_cons.2 ⟨fun z => piece_lo x0 x1 x2 x3 384 12 (by decide) rfl _ _ _ inb_S1x2x2048x256_S1x1x32x256_0_0_384_0 z, ?_⟩
  refine List.forall_mem_cons.2 ⟨fun z => piece_hi x0 x1 x2 x3 352 11 (by decide) rfl _ _ _ inb_S1x2x2048x256_S1x1x32x256_0_1_352_0 z, ?_⟩
  refine List.forall_mem_cons.2 ⟨fun z => piece_lo x0 x1 x2 x3 352 11 (by decide) rfl _ _ _ inb_S1x2x2048x256_S1x1x32x256_0_0_352_0 z, ?_⟩
  refine List.forall_mem_cons.2 ⟨fun z => piece_hi x0 x1 x2 x3 320 10 (by decide) rfl _ _ _ inb_S1x2x2048x256_S1x1x32x256_0_1_320_0 z, ?_⟩
  refine List.forall_mem_cons.2 ⟨fun z => piece_lo x0 x1 x2 x3 320 10 (by decide) rfl _ _ _ inb_S1x2x2048x256_S1x1x32x256_0_0_320_0 z, ?_⟩
  refine List.forall_mem_cons.2 ⟨fun z => piece_hi x0 x1 x2 x3 288 9 (by decide) rfl _ _ _ inb_S1x2x2048x256_S1x1x32x256_0_1_288_0 z, ?_⟩
  refine List.forall_mem_cons.2 ⟨fun z => piece_lo x0 x1 x2 x3 288 9 (by decide) rfl _ _ _ inb_S1x2x2048x256_S1x1x32x256_0_0_288_0 z, ?_⟩
  refine List.forall_mem_cons.2 ⟨fun z => piece_hi x0 x1 x2 x3 256 8 (by decide) rfl _ _ _ inb_S1x2x2048x256_S1x1x32x256_0_1_256_0 z, ?_⟩
  refine List.forall_mem_cons.2 ⟨fun z => piece_lo x0 x1 x2 x3 256 8 (by decide) rfl _ _ _ inb_S1x2x2048x256_S1x1x32x256_0_0_256_0 z, ?_⟩
  refine List.forall_mem_cons.2 ⟨fun z => piece_hi x0 x1 x2 x3 224 7 (by decide) rfl _ _ _ inb_S1x2x2048x256_S1x1x32x256_0_1_224_0 z, ?_⟩
  refine List.forall_mem_cons.2 ⟨fun z => piece_lo x0 x1 x2 x3 224 7 (by decide) rfl _ _ _ inb_S1x2x2048x256_S1x1x32x256_0_0_224_0 z, ?_⟩
  refine List.forall_mem_cons.2 ⟨fun z => piece_hi x0 x1 x2 x3 192 6 (by decide) rfl _ _ _ inb_S1x2x2048x256_S1x1x32x256_0_1_192_0 z, ?_⟩
  refine List.forall_mem_cons.2 ⟨fun z => piece_lo x0 x1 x2 x3 192 6 (by decide) rfl _ _ _ inb_S1x2x2048x256_S1x1x32x256_0_0_192_0 z, ?_⟩
  refine List.forall_mem_cons.2 ⟨fun z => piece_hi x0 x1 x2 x3 160 5 (by decide) rfl _ _ _ inb_S1x2x2048x256_S1x1x32x256_0_1_160_0 z, ?_⟩
  refine List.forall_mem_cons.2 ⟨fun z => piece_lo x0 x1 x2 x3 160 5 (by decide) rfl _ _ _ inb_S1x2x2048x256_S1x1x32x256_0_0_160_0 z, ?_⟩
  refine List.forall_mem_cons.2 ⟨fun z => piece_hi x0 x1 x2 x3 128 4 (by decide) rfl _ _ _ inb_S1x2x2048x256_S1x1x32x256_0_1_128_0 z, ?_⟩
  refine List.forall_mem_cons.2 ⟨fun z => piece_lo x0 x1 x2 x3 128 4 (by decide) rfl _ _ _ inb_S1x2x2048x256_S1x1x32x256_0_0_128_0 z, ?_⟩
  refine List.forall_mem_cons.2 ⟨fun z => piece_hi x0 x1 x2 x3 96 3 (by decide) rfl _ _ _ inb_S1x2x2048x256_S1x1x32x256_0_1_96_0 z, ?_⟩
  refine List.forall_mem_cons.2 ⟨fun z => piece_lo x0 x1 x2 x3 96 3 (by decide) rfl _ _ _ inb_S1x2x2048x256_S1x1x32x256_0_0_96_0 z, ?_⟩
  refine List.forall_mem_cons.2 ⟨fun z => piece_hi x0 x1 x2 x3 64 2 (by decide) rfl _ _ _ inb_S1x2x2048x256_S1x1x32x256_0_1_64_0 z, ?_⟩
  refine List.forall_mem_cons.2 ⟨fun z => piece_lo x0 x1 x2 x3 64 2 (by decide) rfl _ _ _ inb_S1x2x2048x256_S1x1x32x256_0_0_64_0 z, ?_⟩
  refine List.forall_mem_cons.2 ⟨fun z => piece_hi x0 x1 x2 x3 32 1 (by decide) rfl _ _ _ inb_S1x2x2048x256_S1x1x32x256_0_1_32_0 z, ?_⟩
  refine List.forall_mem_cons.2 ⟨fun z => piece_lo x0 x1 x2 x3 32 1 (by decide) rfl _ _ _ inb_S1x2x2048x256_S1x1x32x256_0_0_32_0 z, ?_⟩
  refine List.forall_mem_cons.2 ⟨fun z => piece_hi x0 x1 x2 x3 0 0 (by decide) rfl _ _ _ inb_S1x2x2048x256_S1x1x32x256_0_1_0_0 z, ?_⟩
  refine List.forall_mem_cons.2 ⟨fun z => piece_lo x0 x1 x2 x3 0 0 (by decide) rfl _ _ _ inb_S1x2x2048x256_S1x1x32x256_0_0_0_0 z, ?_⟩
  exact fun p hp => absurd hp (List.not_mem_nil)

end

end Cert.KernelIdeal.ErrVal
-- ==== Proof.KernelIdeal.ErrArr.lean ====
/- What the weight-error kernel leaves in its result array, over the extended reals. -/
module

public import proofs.«01_k».proof.Proof.KernelIdeal.ErrVal

@[expose] public section

set_option maxRecDepth 16384

noncomputable section

namespace Cert.KernelIdeal.ErrArr

open Cert.KernelIdeal Cert.KernelIdeal.Gen Cert.KernelIdeal.Err Cert.KernelIdeal.ErrVal
open Idealize.ShloMosaic Idealize.ShloMosaic.ValueIdx Idealize.ShloMosaic.TcCoe
open Idealize.SL Idealize.SL.Sem

/-! The block a window is on at each point. -/

theorem ix0_0 : ∀ t : Fin cfg0.N, win0_0.index t = ![0, 0, t.val] := (by decide +kernel : ∀ t : Fin grid0.N, win0_0.index t = ![0, 0, t.val])
theorem ix0_1 : ∀ t : Fin cfg0.N, win0_1.index t = ![0, t.val] := (by decide +kernel : ∀ t : Fin grid0.N, win0_1.index t = ![0, t.val])
theorem ix0_2 : ∀ t : Fin cfg0.N, win0_2.index t = ![0, 0, t.val] := (by decide +kernel : ∀ t : Fin grid0.N, win0_2.index t = ![0, 0, t.val])
theorem ix0_3 : ∀ t : Fin cfg0.N, win0_3.index t = ![0, 0, t.val] := (by decide +kernel : ∀ t : Fin grid0.N, win0_3.index t = ![0, 0, t.val])
theorem ix0_4 : ∀ t : Fin cfg0.N, win0_4.index t = ![t.val, 0, 0, 0] := (by decide +kernel : ∀ t : Fin grid0.N, win0_4.index t = ![t.val, 0, 0, 0])

section
variable (W : ℕ → ℕ → ℕ → EReal) (C : ℕ → ℕ → BitVec 8) (S Z : ℕ → ℕ → ℕ → EReal)
variable (V : (c : Dev nD) → (b : Ref sig .tc) → Buf (Elt Ideal) ((c : Thread nD τ).loc b)) (c : Dev nD)

/-- The arrays the weight-error kernel reads hold the weights, the codes, the scales and the zeros. -/
structure Holds : Prop where
  w : ∀ (h : Fin 2) (r : Fin 2048) (n : Fin 11008), V c main_v0 (ix3 h r n) = W h r n
  q : ∀ (r : Fin 2048) (n : Fin 11008), V c main_arg2 (ix2 r n) = C r n
  s : ∀ (h : Fin 2) (k : Fin 64) (n : Fin 11008), V c main_v1 (ix3 h k n) = S h k n
  z : ∀ (h : Fin 2) (k : Fin 64) (n : Fin 11008), V c main_v2 (ix3 h k n) = Z h k n

/-- What the result array holds: by column block, half, row and lane. -/
def errArr : S43x2x2048x256.Idx → EReal := fun y =>
  W (y 1).val (y 2).val (256 * (y 0).val + (y 3).val)
    - (nib (y 1).val (C (y 2).val (256 * (y 0).val + (y 3).val)) - Z (y 1).val ((y 2).val / 32) (256 * (y 0).val + (y 3).val))
      * S (y 1).val ((y 2).val / 32) (256 * (y 0).val + (y 3).val)

variable {W C S Z V c}

theorem err_eq (H : Holds W C S Z V c) : (dat0 V c).arrAt 4 cfg0.N = errArr W C S Z := by
  refine (dat0 V c).arrAt_eq_of_covers 4 _ (by decide +kernel) fun t hf y => ?_
  blk_simp
  rw [after0_4]
  have ht : t.val < 43 := t.isLt
  have key : ∀ z : S1x2x2048x256.Idx, out0_4 (F := Ideal) (iblk0 V c 0 t) (iblk0 V c 1 t) (iblk0 V c 2 t) (iblk0 V c 3 t) z
      = W (z 1).val (z 2).val (256 * t.val + (z 3).val)
        - (nib (z 1).val (C (z 2).val (256 * t.val + (z 3).val)) - Z (z 1).val ((z 2).val / 32) (256 * t.val + (z 3).val))
          * S (z 1).val ((z 2).val / 32) (256 * t.val + (z 3).val) := by
    intro z
    obtain ⟨u, h, r, l, rfl⟩ : ∃ (u : Fin 1) (h : Fin 2) (r : Fin 2048) (l : Fin 256), z = ix4 u h r l := ⟨_, _, _, _, eq_ix4 z⟩
    refine (out_apply _ _ _ _ _).trans ?_
    show errAt _ _ _ _ h r l = _
    have hl := l.isLt
    have hr := r.isLt
    have hh := h.isLt
    have e0 : iblk0 V c 0 t (ix3 h r l) = W h r (256 * t.val + l) := by
      refine Eq.trans ?_ (H.w h r ⟨256 * t.val + l, by omega⟩)
      refine congrArg (V c main_v0) (?_ : (win0_0.blk t).view.emb (ix3 h r l) = _)
      blk_ext [ix0_0]
      show t.val * 256 + l.val = 256 * t.val + l.val; omega
    have e1 : iblk0 V c 1 t (ix2 r l) = C r (256 * t.val + l) := by
      refine Eq.trans ?_ (H.q r ⟨256 * t.val + l, by omega⟩)
      refine congrArg (V c main_arg2) (?_ : (win0_1.blk t).view.emb (ix2 r l) = _)
      blk_ext [ix0_1]
      show t.val * 256 + l.val = 256 * t.val + l.val; omega
    have e2 : ∀ k : Fin 64, iblk0 V c 2 t (ix3 h k l) = S h k (256 * t.val + l) := fun k => by
      refine Eq.trans ?_ (H.s h k ⟨256 * t.val + l, by omega⟩)
      refine congrArg (V c main_v1) (?_ : (win0_2.blk t).view.emb (ix3 h k l) = _)
      blk_ext [ix0_2]
      show t.val * 256 + l.val = 256 * t.val + l.val; omega
    have e3 : ∀ k : Fin 64, iblk0 V c 3 t (ix3 h k l) = Z h k (256 * t.val + l) := fun k => by
      refine Eq.trans ?_ (H.z h k ⟨256 * t.val + l, by omega⟩)
      refine congrArg (V c main_v2) (?_ : (win0_3.blk t).view.emb (ix3 h k l) = _)
      blk_ext [ix0_3]
      show t.val * 256 + l.val = 256 * t.val + l.val; omega
    unfold errAt
    rw [e0, e1, e2, e3]
  have f0 : ((win0_4.blk t).view.emb y 0 : ℕ) = t.val := by
    have h0 : (y 0).val < 1 := (y 0).isLt
    blk_simp [ix0_4] <;> omega
  have f1 : ((win0_4.blk t).view.emb y 1 : ℕ) = (y 1).val := by blk_simp [ix0_4] <;> omega
  have f2 : ((win0_4.blk t).view.emb y 2 : ℕ) = (y 2).val := by blk_simp [ix0_4] <;> omega
  have f3 : ((win0_4.blk t).view.emb y 3 : ℕ) = (y 3).val := by blk_simp [ix0_4] <;> omega
  unfold errArr
  rw [f0, f1, f2, f3]
  exact key y

end

end Cert.KernelIdeal.ErrArr
-- ==== Proof.KernelIdeal.Spec.lean ====
/- The problem's four results as functions of the arguments, by plain coordinates over the extended reals. -/
module

public import proofs.«01_k».proof.Proof.KernelIdeal.Pure
public import proofs.«01_k».proof.Proof.KernelIdeal.ErrVal

@[expose] public section

noncomputable section

namespace Cert.KernelIdeal.Spec

open Idealize.ShloMosaic Idealize.ShloMosaic.ValueIdx
open Cert.KernelIdeal.Pure Cert.KernelIdeal.ErrVal
open Finset

/-- A matrix at plain coordinates. -/
def at2 {α : Type} {M N : ℕ} [NeZero M] [NeZero N] (a : (⟨2, ![M, N]⟩ : Shape).Idx → α) (m n : ℕ) : α :=
  a (ix2 (Fin.ofNat M m) (Fin.ofNat N n))
/-- An array of three axes at plain coordinates. -/
def at3 {α : Type} {K M N : ℕ} [NeZero K] [NeZero M] [NeZero N] (a : (⟨3, ![K, M, N]⟩ : Shape).Idx → α) (k m n : ℕ) : α :=
  a (ix3 (Fin.ofNat K k) (Fin.ofNat M m) (Fin.ofNat N n))

theorem at2_eq {α : Type} {M N : ℕ} [NeZero M] [NeZero N] (a : (⟨2, ![M, N]⟩ : Shape).Idx → α) (i : (⟨2, ![M, N]⟩ : Shape).Idx) {m n : ℕ}
    (h0 : (i 0).val = m) (h1 : (i 1).val = n) : a i = at2 a m n := by
  subst h0 h1
  unfold at2
  congr 1
  funext b; apply Fin.ext
  match b with
  | ⟨0, _⟩ => exact (Nat.mod_eq_of_lt (i 0).isLt).symm
  | ⟨1, _⟩ => exact (Nat.mod_eq_of_lt (i 1).isLt).symm

theorem at3_eq {α : Type} {K M N : ℕ} [NeZero K] [NeZero M] [NeZero N] (a : (⟨3, ![K, M, N]⟩ : Shape).Idx → α) (i : (⟨3, ![K, M, N]⟩ : Shape).Idx) {k m n : ℕ}
    (h0 : (i 0).val = k) (h1 : (i 1).val = m) (h2 : (i 2).val = n) : a i = at3 a k m n := by
  subst h0 h1 h2
  unfold at3
  congr 1
  funext b; apply Fin.ext
  match b with
  | ⟨0, _⟩ => exact (Nat.mod_eq_of_lt (i 0).isLt).symm
  | ⟨1, _⟩ => exact (Nat.mod_eq_of_lt (i 1).isLt).symm
  | ⟨2, _⟩ => exact (Nat.mod_eq_of_lt (i 2).isLt).symm

section
variable (x0 : (⟨3, ![8, 2560, 4096]⟩ : Shape).Idx → EReal) (x1 : (⟨2, ![4096, 11008]⟩ : Shape).Idx → EReal)
  (x2 : (⟨2, ![2048, 11008]⟩ : Shape).Idx → BitVec 8) (x3 x4 : (⟨2, ![128, 11008]⟩ : Shape).Idx → EReal)
  (x5 : (⟨2, ![4096, 64]⟩ : Shape).Idx → EReal) (x6 : (⟨2, ![64, 11008]⟩ : Shape).Idx → EReal)

/-- Token `t`'s activation at feature `d`. -/
def X (t d : ℕ) : EReal := at3 x0 (t / 2560) (t % 2560) d
/-- The quantization error of the weight at row `d` and column `n`. -/
def E (d n : ℕ) : EReal :=
  at2 x1 d n - (nib (d / 2048) (at2 x2 (d % 2048) n) - at2 x4 (d / 32) n) * at2 x3 (d / 32) n

/-- A token's loss. -/
def lossOf (t : ℕ) : EReal :=
  ∑ n ∈ range 11008, Pure.R (X x0) (E x1 x2 x3 x4) (at2 x5) (at2 x6) t n * Pure.R (X x0) (E x1 x2 x3 x4) (at2 x5) (at2 x6) t n
/-- A token's gradient at a rank. -/
def gOf (t r : ℕ) : EReal :=
  ∑ n ∈ range 11008, Pure.R (X x0) (E x1 x2 x3 x4) (at2 x5) (at2 x6) t n * at2 x6 r n
/-- The first factor's gradient. -/
def daOf (d r : ℕ) : EReal :=
  Ideal.ofBits .f32 0xC0000000#32 * ∑ t ∈ range 20480, X x0 t d * gOf x0 x1 x2 x3 x4 x5 x6 t r
/-- The second factor's gradient. -/
def dbOf (r n : ℕ) : EReal :=
  Ideal.ofBits .f32 0xC0000000#32 * ∑ t ∈ range 20480, Pure.PB (X x0) (at2 x5) t r * Pure.R (X x0) (E x1 x2 x3 x4) (at2 x5) (at2 x6) t n

end

end Cert.KernelIdeal.Spec
-- ==== Proof.KernelIdeal.Value.lean ====
/- The whole program's four results over the extended reals: the host's reshapes and transposes around the two kernels' arrays. -/
module

public import proofs.«01_k».proof.Proof.KernelIdeal.Run
public import proofs.«01_k».proof.Proof.KernelIdeal.FitVal
public import proofs.«01_k».proof.Proof.KernelIdeal.ErrArr
public import proofs.«01_k».proof.Proof.KernelIdeal.Spec

@[expose] public section

set_option maxRecDepth 16384

noncomputable section

namespace Cert.KernelIdeal.Value

open Cert.KernelIdeal Cert.KernelIdeal.Gen Cert.KernelIdeal.Run Cert.KernelIdeal.Spec Cert.KernelIdeal.ErrVal
open Idealize.ShloMosaic Idealize.ShloMosaic.ValueIdx Idealize.ShloMosaic.TcCoe Idealize.ShloMosaic.StableHlo
open Idealize.SL Idealize.SL.Sem
open Finset

variable (m : (ℓ : Loc nD τ sig) → Buf (Elt Ideal) ℓ) (ρ : Dev nD → PrngReg) (c : Dev nD)

/-! The arguments. -/
abbrev a0 : S8x2560x4096.Idx → EReal := m ((c : Thread nD τ).loc main_arg0)
abbrev a1 : S4096x11008.Idx → EReal := m ((c : Thread nD τ).loc main_arg1)
abbrev a2 : S2048x11008.Idx → BitVec 8 := m ((c : Thread nD τ).loc main_arg2)
abbrev a3 : S128x11008.Idx → EReal := m ((c : Thread nD τ).loc main_arg3)
abbrev a4 : S128x11008.Idx → EReal := m ((c : Thread nD τ).loc main_arg4)
abbrev a5 : S4096x64.Idx → EReal := m ((c : Thread nD τ).loc main_arg5)
abbrev a6 : S64x11008.Idx → EReal := m ((c : Thread nD τ).loc main_arg6)

/-! What the host leaves before each kernel and after the last. -/

theorem W1_v0 : W1 m ρ c (Proc.devRef .tc main_v0) = shapeCast S2x2048x11008 (a1 m c) shapeCasts_S4096x11008_S2x2048x11008 := by
  show StableHlo.after hostOps0 (W0 m ρ c) (Proc.devRef .tc main_v0) = _
  after_results_simp <;> rfl
theorem W1_v1 : W1 m ρ c (Proc.devRef .tc main_v1) = shapeCast S2x64x11008 (a3 m c) shapeCasts_S128x11008_S2x64x11008 := by
  show StableHlo.after hostOps0 (W0 m ρ c) (Proc.devRef .tc main_v1) = _
  after_results_simp <;> rfl
theorem W1_v2 : W1 m ρ c (Proc.devRef .tc main_v2) = shapeCast S2x64x11008 (a4 m c) shapeCasts_S128x11008_S2x64x11008 := by
  show StableHlo.after hostOps0 (W0 m ρ c) (Proc.devRef .tc main_v2) = _
  after_results_simp <;> rfl

theorem W3_v4 : W3 m ρ c (Proc.devRef .tc main_v4) = shapeCast S43x4096x256 (W2 m ρ c (Proc.devRef .tc main_v3)) shapeCasts_S43x2x2048x256_S43x4096x256 := by
  show StableHlo.after hostOps1 (W2 m ρ c) (Proc.devRef .tc main_v4) = _
  after_results_simp <;> rfl
theorem W3_v6 : W3 m ρ c (Proc.devRef .tc main_v6)
    = transpose S43x64x256 [1, 0, 2] (shapeCast S64x43x256 (W2 m ρ c (Proc.devRef .tc main_arg6)) shapeCasts_S64x11008_S64x43x256) transposes_S64x43x256_S43x64x256_1_0_2 := by
  show StableHlo.after hostOps1 (W2 m ρ c) (Proc.devRef .tc main_v6) = _
  after_results_simp <;> rfl
theorem W3_v7 : W3 m ρ c (Proc.devRef .tc main_v7) = shapeCast S20480x4096 (W2 m ρ c (Proc.devRef .tc main_arg0)) shapeCasts_S8x2560x4096_S20480x4096 := by
  show StableHlo.after hostOps1 (W2 m ρ c) (Proc.devRef .tc main_v7) = _
  after_results_simp <;> rfl

theorem W5_v10 : W5 m ρ c (Proc.devRef .tc main_v10)
    = shapeCast S64x11008 (transpose S64x43x256 [1, 0, 2] (W4 m ρ c (Proc.devRef .tc main_v8_3)) transposes_S43x64x256_S64x43x256_1_0_2) shapeCasts_S64x43x256_S64x11008 := by
  show StableHlo.after hostOps2 (W4 m ρ c) (Proc.devRef .tc main_v10) = _
  after_results_simp <;> rfl
theorem W5_v11 : W5 m ρ c (Proc.devRef .tc main_v11) = shapeCast S8x2560 (W4 m ρ c (Proc.devRef .tc main_v8_0)) shapeCasts_S20x1x1024_S8x2560 := by
  show StableHlo.after hostOps2 (W4 m ρ c) (Proc.devRef .tc main_v11) = _
  after_results_simp <;> rfl
theorem W5_v12 : W5 m ρ c (Proc.devRef .tc main_v12) = shapeCast S8x2560x64 (W4 m ρ c (Proc.devRef .tc main_v8_1)) shapeCasts_S20480x64_S8x2560x64 := by
  show StableHlo.after hostOps2 (W4 m ρ c) (Proc.devRef .tc main_v12) = _
  after_results_simp <;> rfl

/-! A split or merged leading axis, read at coordinates. -/

theorem split_apply {α : Type} {H R N M : ℕ} [NeZero M] [NeZero N] (hM : M = H * R) (x : (⟨2, ![M, N]⟩ : Shape).Idx → α) (hc : Shape.ShapeCasts ⟨2, ![M, N]⟩ ⟨3, ![H, R, N]⟩)
    (h : Fin H) (r : Fin R) (n : Fin N) : shapeCast ⟨3, ![H, R, N]⟩ x hc (ix3 h r n) = at2 x (R * h.val + r.val) n.val := by
  have hlt : R * h.val + r.val < M := by
    have h1 := h.isLt; have h2 := r.isLt
    calc R * h.val + r.val < R * h.val + R := by omega
      _ = R * (h.val + 1) := by ring
      _ ≤ R * H := Nat.mul_le_mul_left _ h1
      _ = M := by rw [hM, Nat.mul_comm]
  refine (shapeCast_apply x hc (ix3 h r n) (ix2 (⟨R * h.val + r.val, hlt⟩ : Fin M) n) ?_).trans (at2_eq x _ rfl rfl)
  rw [Shape.rowMajor_val_two, Shape.rowMajor_val_three]
  show (R * h.val + r.val) * N + n.val = (h.val * R + r.val) * N + n.val
  rw [Nat.mul_comm R]

/-- The first kernel's arrays. -/
theorem holds0 : ErrArr.Holds (fun h r n => at2 (a1 m c) (2048 * h + r) n) (fun r n => at2 (a2 m c) r n)
    (fun h k n => at2 (a3 m c) (64 * h + k) n) (fun h k n => at2 (a4 m c) (64 * h + k) n) (V1 m ρ) c where
  w h r n := (congrFun (W1_v0 m ρ c) (ix3 h r n)).trans (split_apply (by norm_num) (a1 m c) _ h r n)
  q r n := (congrFun (W1_args m ρ c main_arg2 (by decide)) (ix2 r n)).trans (at2_eq (a2 m c) _ rfl rfl)
  s h k n := (congrFun (W1_v1 m ρ c) (ix3 h k n)).trans (split_apply (by norm_num) (a3 m c) _ h k n)
  z h k n := (congrFun (W1_v2 m ρ c) (ix3 h k n)).trans (split_apply (by norm_num) (a4 m c) _ h k n)

/-- The first kernel's result. -/
theorem W2_v3 : W2 m ρ c (Proc.devRef .tc main_v3) = ErrArr.errArr (fun h r n => at2 (a1 m c) (2048 * h + r) n) (fun r n => at2 (a2 m c) r n)
    (fun h k n => at2 (a3 m c) (64 * h + k) n) (fun h k n => at2 (a4 m c) (64 * h + k) n) :=
  (W2_arr m ρ c 4).trans (ErrArr.err_eq (holds0 m ρ c))

/-- The second kernel's arrays. -/
theorem holds1 : FitVal.Holds (X (a0 m c)) (E (a1 m c) (a2 m c) (a3 m c) (a4 m c)) (at2 (a5 m c)) (at2 (a6 m c)) (V3 m ρ) c where
  x t d := by
    have ht := t.isLt
    refine (congrFun (W3_v7 m ρ c) (ix2 t d)).trans ?_
    rw [W2_args m ρ c main_arg0 (by decide)]
    refine (shapeCast_apply (a0 m c) shapeCasts_S8x2560x4096_S20480x4096 (ix2 t d) (ix3 (⟨t.val / 2560, by omega⟩ : Fin 8) (⟨t.val % 2560, by omega⟩ : Fin 2560) d) ?_).trans (at3_eq (a0 m c) _ rfl rfl rfl)
    rw [Shape.rowMajor_val_two, Shape.rowMajor_val_three]
    show (t.val / 2560 * 2560 + t.val % 2560) * 4096 + d.val = t.val * 4096 + d.val
    omega
  e j d l := by
    have hd := d.isLt
    refine (congrFun (W3_v4 m ρ c) (ix3 j d l)).trans ?_
    rw [W2_v3]
    refine (shapeCast_apply _ shapeCasts_S43x2x2048x256_S43x4096x256 (ix3 j d l) (ix4 j (⟨d.val / 2048, by omega⟩ : Fin 2) (⟨d.val % 2048, by omega⟩ : Fin 2048) l) ?_).trans ?_
    · rw [Shape.rowMajor_val_four, Shape.rowMajor_val_three]
      show ((j.val * 2 + d.val / 2048) * 2048 + d.val % 2048) * 256 + l.val = (j.val * 4096 + d.val) * 256 + l.val
      omega
    · show at2 (a1 m c) (2048 * (d.val / 2048) + d.val % 2048) (256 * j.val + l.val)
          - (nib (d.val / 2048) (at2 (a2 m c) (d.val % 2048) (256 * j.val + l.val)) - at2 (a4 m c) (64 * (d.val / 2048) + d.val % 2048 / 32) (256 * j.val + l.val))
            * at2 (a3 m c) (64 * (d.val / 2048) + d.val % 2048 / 32) (256 * j.val + l.val) = _
      rw [show 2048 * (d.val / 2048) + d.val % 2048 = d.val by omega, show 64 * (d.val / 2048) + d.val % 2048 / 32 = d.val / 32 by omega]
      rfl
  a d r := (congrFun (W3_args m ρ c main_arg5 (by decide)) (ix2 d r)).trans (at2_eq (a5 m c) _ rfl rfl)
  b j r l := by
    have hj := j.isLt
    have hl := l.isLt
    refine (congrFun (W3_v6 m ρ c) (ix3 j r l)).trans ?_
    rw [W2_args m ρ c main_arg6 (by decide)]
    refine (transpose_apply [1, 0, 2] _ transposes_S64x43x256_S43x64x256_1_0_2 (ix3 j r l) (ix3 r j l) (fun b => match b with
      | ⟨0, _⟩ => rfl
      | ⟨1, _⟩ => rfl
      | ⟨2, _⟩ => rfl)).trans ?_
    refine (shapeCast_apply (a6 m c) shapeCasts_S64x11008_S64x43x256 (ix3 r j l) (ix2 r (⟨256 * j.val + l.val, by omega⟩ : Fin 11008)) ?_).trans (at2_eq (a6 m c) _ rfl rfl)
    rw [Shape.rowMajor_val_two, Shape.rowMajor_val_three]
    show r.val * 11008 + (256 * j.val + l.val) = (r.val * 43 + j.val) * 256 + l.val
    omega

/-! The results. -/

/-- The loss. -/
theorem res_loss : W5 m ρ c (Proc.devRef .tc main_v11)
    = fun i : S8x2560.Idx => lossOf (a0 m c) (a1 m c) (a2 m c) (a3 m c) (a4 m c) (a5 m c) (a6 m c) (2560 * (i 0).val + (i 1).val) := by
  rw [W5_v11]
  rw [show W4 m ρ c (Proc.devRef .tc main_v8_0) = _ from (W4_arr m ρ c 4).trans (FitVal.loss_eq (holds1 m ρ c))]
  funext i
  have h0 : (i 0).val < 8 := (i 0).isLt
  have h1 : (i 1).val < 2560 := (i 1).isLt
  refine (shapeCast_apply _ shapeCasts_S20x1x1024_S8x2560 i (ix3 (⟨(2560 * (i 0).val + (i 1).val) / 1024, by omega⟩ : Fin 20) (0 : Fin 1) (⟨(2560 * (i 0).val + (i 1).val) % 1024, by omega⟩ : Fin 1024)) ?_).trans ?_
  · rw [Shape.rowMajor_val_two, Shape.rowMajor_val_three]
    show ((2560 * (i 0).val + (i 1).val) / 1024 * 1 + 0) * 1024 + (2560 * (i 0).val + (i 1).val) % 1024 = (i 0).val * 2560 + (i 1).val
    omega
  · have e : 1024 * ((2560 * (i 0).val + (i 1).val) / 1024) + (2560 * (i 0).val + (i 1).val) % 1024 = 2560 * (i 0).val + (i 1).val := by omega
    exact congrArg (lossOf (a0 m c) (a1 m c) (a2 m c) (a3 m c) (a4 m c) (a5 m c) (a6 m c)) e

/-- The gradient. -/
theorem res_g : W5 m ρ c (Proc.devRef .tc main_v12)
    = fun i : S8x2560x64.Idx => gOf (a0 m c) (a1 m c) (a2 m c) (a3 m c) (a4 m c) (a5 m c) (a6 m c) (2560 * (i 0).val + (i 1).val) (i 2).val := by
  rw [W5_v12]
  rw [show W4 m ρ c (Proc.devRef .tc main_v8_1) = _ from (W4_arr m ρ c 5).trans (FitVal.g_eq (holds1 m ρ c))]
  funext i
  have h0 : (i 0).val < 8 := (i 0).isLt
  have h1 : (i 1).val < 2560 := (i 1).isLt
  refine (shapeCast_apply _ shapeCasts_S20480x64_S8x2560x64 i (ix2 (⟨2560 * (i 0).val + (i 1).val, by omega⟩ : Fin 20480) (⟨(i 2).val, (i 2).isLt⟩ : Fin 64)) ?_).trans rfl
  rw [Shape.rowMajor_val_two, Shape.rowMajor_val_three]
  show (2560 * (i 0).val + (i 1).val) * 64 + (i 2).val = ((i 0).val * 2560 + (i 1).val) * 64 + (i 2).val
  omega

/-- The first factor's gradient. -/
theorem res_da : W5 m ρ c (Proc.devRef .tc main_v8_2)
    = fun i : S4096x64.Idx => daOf (a0 m c) (a1 m c) (a2 m c) (a3 m c) (a4 m c) (a5 m c) (a6 m c) (i 0).val (i 1).val := by
  rw [W5_of m ρ c main_v8_2 (by decide)]
  exact (W4_arr m ρ c 6).trans (FitVal.da_eq (holds1 m ρ c))

/-- The second factor's gradient. -/
theorem res_db : W5 m ρ c (Proc.devRef .tc main_v10)
    = fun i : S64x11008.Idx => dbOf (a0 m c) (a1 m c) (a2 m c) (a3 m c) (a4 m c) (a5 m c) (a6 m c) (i 0).val (i 1).val := by
  rw [W5_v10]
  rw [show W4 m ρ c (Proc.devRef .tc main_v8_3) = _ from (W4_arr m ρ c 7).trans (FitVal.db_eq (holds1 m ρ c))]
  funext i
  obtain ⟨r, n, rfl⟩ : ∃ (r : Fin 64) (n : Fin 11008), i = ix2 r n := ⟨_, _, eq_ix2 i⟩
  have hn := n.isLt
  refine (shapeCast_apply _ shapeCasts_S64x43x256_S64x11008 (ix2 r n) (ix3 r (⟨n.val / 256, by omega⟩ : Fin 43) (⟨n.val % 256, by omega⟩ : Fin 256)) ?_).trans ?_
  · rw [Shape.rowMajor_val_two, Shape.rowMajor_val_three]
    show (r.val * 43 + n.val / 256) * 256 + n.val % 256 = r.val * 11008 + n.val
    omega
  · refine (transpose_apply [1, 0, 2] _ transposes_S43x64x256_S64x43x256_1_0_2 _ (ix3 (⟨n.val / 256, by omega⟩ : Fin 43) r (⟨n.val % 256, by omega⟩ : Fin 256)) (fun b => match b with
      | ⟨0, _⟩ => rfl
      | ⟨1, _⟩ => rfl
      | ⟨2, _⟩ => rfl)).trans ?_
    have e : 256 * (n.val / 256) + n.val % 256 = n.val := by omega
    exact congrArg (dbOf (a0 m c) (a1 m c) (a2 m c) (a3 m c) (a4 m c) (a5 m c) (a6 m c) r.val) e

end Cert.KernelIdeal.Value
-- ==== Proof.ReferenceIdeal.Val.lean ====
/- The reference's results over the extended reals, at plain coordinates. -/
module

public import proofs.«01_k».proof.Proof.Gen.ReferenceIdeal.Read
public import proofs.«01_k».proof.Proof.KernelIdeal.Spec
public import Idealize.ShloMosaic.Lib.MatmulPlain
public import Idealize.ShloMosaic.PureOps.Ideal.Laws

@[expose] public section

set_option maxRecDepth 16384

noncomputable section

namespace Cert.ReferenceIdeal.Val

open Cert.ReferenceIdeal Cert.ReferenceIdeal.Gen Cert.ReferenceIdeal.Read Idealize.ShloMosaic Idealize.ShloMosaic.ValueIdx
open Cert.KernelIdeal.Spec Cert.KernelIdeal.ErrVal Cert.KernelIdeal.Pure
open Finset

/-- A code's low four bits read after widening are those read before. -/
theorem lo_toInt : ∀ x : BitVec 8, (IntOp.andi (x.setWidth 32) (15#32)).toInt = (x &&& 15#8).toInt := by decide +kernel
/-- A code's high four bits read after widening are those read before. -/
theorem hi_toInt : ∀ x : BitVec 8, (IntOp.shrsi .host (x.setWidth 32) (4#32)).toInt = (x >>> 4).toInt := by decide +kernel

/-- The product of two arrays summed over batches and tokens, at an index: first pair of shapes. -/
theorem dot41_apply (L : FVec Ideal S8x2560x4096 .bf16) (R : FVec Ideal S8x2560x64 .bf16) (d : Fin 4096) (r : Fin 64) :
    Host.dotGeneral (F := Ideal) dot_S8x2560x4096_S8x2560x64_S4096x64_01_01_2_2_n_n none L R (ix2 d r) = ∑ b : Fin 8, ∑ s : Fin 2560, L (ix3 b s d) * R (ix3 b s r) := by
  let D := dot_S8x2560x4096_S8x2560x64_S4096x64_01_01_2_2_n_n
  have hr : D.contr.rank = 2 := rfl
  have c0 : D.contr.size ⟨0, by rw [hr]; omega⟩ = 8 := rfl
  have c1 : D.contr.size ⟨1, by rw [hr]; omega⟩ = 2560 := rfl
  simp only [Host.dotGeneral]
  rw [Ideal.dotGeneral_apply, ← Equiv.sum_comp (contrEquiv2 D 8 2560 hr c0 c1).symm, Fintype.sum_prod_type]
  refine Finset.sum_congr rfl fun ii _ => Finset.sum_congr rfl fun qq _ => ?_
  have h0 := contrEquiv2_symm_val0 D 8 2560 hr c0 c1 (ii, qq)
  have h1 := contrEquiv2_symm_val1 D 8 2560 hr c0 c1 (ii, qq)
  have el : D.lhsIdx (ix2 d r) ((contrEquiv2 D 8 2560 hr c0 c1).symm (ii, qq)) = ix3 ii qq d := by
    funext a; apply Fin.ext
    match a with
    | ⟨0, _⟩ => exact h0
    | ⟨1, _⟩ => exact h1
    | ⟨2, _⟩ => rfl
  have er : D.rhsIdx (ix2 d r) ((contrEquiv2 D 8 2560 hr c0 c1).symm (ii, qq)) = ix3 ii qq r := by
    funext a; apply Fin.ext
    match a with
    | ⟨0, _⟩ => exact h0
    | ⟨1, _⟩ => exact h1
    | ⟨2, _⟩ => rfl
  rw [el, er]

/-- The same at the second pair of shapes. -/
theorem dot44_apply (L : FVec Ideal S8x2560x64 .bf16) (R : FVec Ideal S8x2560x11008 .bf16) (r : Fin 64) (n : Fin 11008) :
    Host.dotGeneral (F := Ideal) dot_S8x2560x64_S8x2560x11008_S64x11008_01_01_2_2_n_n none L R (ix2 r n) = ∑ b : Fin 8, ∑ s : Fin 2560, L (ix3 b s r) * R (ix3 b s n) := by
  let D := dot_S8x2560x64_S8x2560x11008_S64x11008_01_01_2_2_n_n
  have hr : D.contr.rank = 2 := rfl
  have c0 : D.contr.size ⟨0, by rw [hr]; omega⟩ = 8 := rfl
  have c1 : D.contr.size ⟨1, by rw [hr]; omega⟩ = 2560 := rfl
  simp only [Host.dotGeneral]
  rw [Ideal.dotGeneral_apply, ← Equiv.sum_comp (contrEquiv2 D 8 2560 hr c0 c1).symm, Fintype.sum_prod_type]
  refine Finset.sum_congr rfl fun ii _ => Finset.sum_congr rfl fun qq _ => ?_
  have h0 := contrEquiv2_symm_val0 D 8 2560 hr c0 c1 (ii, qq)
  have h1 := contrEquiv2_symm_val1 D 8 2560 hr c0 c1 (ii, qq)
  have el : D.lhsIdx (ix2 r n) ((contrEquiv2 D 8 2560 hr c0 c1).symm (ii, qq)) = ix3 ii qq r := by
    funext a; apply Fin.ext
    match a with
    | ⟨0, _⟩ => exact h0
    | ⟨1, _⟩ => exact h1
    | ⟨2, _⟩ => rfl
  have er : D.rhsIdx (ix2 r n) ((contrEquiv2 D 8 2560 hr c0 c1).symm (ii, qq)) = ix3 ii qq n := by
    funext a; apply Fin.ext
    match a with
    | ⟨0, _⟩ => exact h0
    | ⟨1, _⟩ => exact h1
    | ⟨2, _⟩ => rfl
  rw [el, er]

/-- A sum over batches and tokens is the sum over all tokens. -/
theorem sum_tokens (f : ℕ → EReal) : ∑ b : Fin 8, ∑ s : Fin 2560, f (2560 * b.val + s.val) = ∑ t ∈ range 20480, f t := by
  rw [sum_fin 8 (fun b => ∑ s : Fin 2560, f (2560 * b + s.val)), ← sum_blocks 2560 f 8]
  exact sum_congr rfl fun b _ => sum_fin 2560 (fun s => f (2560 * b + s))

section
variable (x0 : (⟨S8x2560x4096, .bf16⟩ : BufTy).Contents (Elt Ideal)) (x1 : (⟨S4096x11008, .bf16⟩ : BufTy).Contents (Elt Ideal))
  (x2 : (⟨S2048x11008, .i8⟩ : BufTy).Contents (Elt Ideal)) (x3 x4 : (⟨S128x11008, .bf16⟩ : BufTy).Contents (Elt Ideal))
  (x5 : (⟨S4096x64, .bf16⟩ : BufTy).Contents (Elt Ideal)) (x6 : (⟨S64x11008, .bf16⟩ : BufTy).Contents (Elt Ideal))

/-- The upper half of the weight error. -/
theorem v15_eq (i : S2048x11008.Idx) : val_main_v15 (F := Ideal) x1 x2 x3 x4 i = E x1 x2 x3 x4 (i 0).val (i 1).val := by
  have h0 : (i 0).val < 2048 := (i 0).isLt
  have h1 : (i 1).val < 11008 := (i 1).isLt
  rw [val_main_v15_apply, val_main_v14_apply, val_main_v13_apply, val_main_v5_apply, val_main_v8_apply, val_main_v10_apply, val_main_v9_apply,
    val_main_v6_apply, val_main_v12_apply, val_main_v11_apply, val_main_v7_apply, val_main_v2_apply, val_main_v0_apply, val_main_v1_apply, val_main_c_apply]
  unfold E nib
  rw [if_pos (show (i 0).val / 2048 = 0 by omega)]
  rw [at2_eq x1 _ (m := (i 0).val) (n := (i 1).val) rfl rfl,
    at2_eq x4 _ (m := (i 0).val / 32) (n := (i 1).val) (by show ((i 0).val * 11008 + (i 1).val) / 352256 = _; omega) (by show ((i 0).val * 11008 + (i 1).val) % 11008 = _; omega),
    at2_eq x3 _ (m := (i 0).val / 32) (n := (i 1).val) (by show ((i 0).val * 11008 + (i 1).val) / 352256 = _; omega) (by show ((i 0).val * 11008 + (i 1).val) % 11008 = _; omega),
    ← at2_eq x2 i (m := (i 0).val % 2048) (n := (i 1).val) (by omega) rfl, ← lo_toInt]
  rfl

/-- The lower half of the weight error. -/
theorem v26_eq (i : S2048x11008.Idx) : val_main_v26 (F := Ideal) x1 x2 x3 x4 i = E x1 x2 x3 x4 (2048 + (i 0).val) (i 1).val := by
  have h0 : (i 0).val < 2048 := (i 0).isLt
  have h1 : (i 1).val < 11008 := (i 1).isLt
  rw [val_main_v26_apply, val_main_v25_apply, val_main_v24_apply, val_main_v16_apply, val_main_v19_apply, val_main_v21_apply, val_main_v20_apply,
    val_main_v17_apply, val_main_v23_apply, val_main_v22_apply, val_main_v18_apply, val_main_v4_apply, val_main_v0_apply, val_main_v3_apply, val_main_c_0_apply]
  unfold E nib
  rw [if_neg (show ¬(2048 + (i 0).val) / 2048 = 0 by omega)]
  rw [at2_eq x1 _ (m := 2048 + (i 0).val) (n := (i 1).val) rfl rfl,
    at2_eq x4 _ (m := (2048 + (i 0).val) / 32) (n := (i 1).val) (by show 64 + ((i 0).val * 11008 + (i 1).val) / 352256 = _; omega) (by show ((i 0).val * 11008 + (i 1).val) % 11008 = _; omega),
    at2_eq x3 _ (m := (2048 + (i 0).val) / 32) (n := (i 1).val) (by show 64 + ((i 0).val * 11008 + (i 1).val) / 352256 = _; omega) (by show ((i 0).val * 11008 + (i 1).val) % 11008 = _; omega),
    ← at2_eq x2 i (m := (2048 + (i 0).val) % 2048) (n := (i 1).val) (by omega) rfl, ← hi_toInt]
  rfl

/-- A token's rank-64 projection. -/
theorem v33_eq (i : S8x2560x64.Idx) : val_main_v33 (F := Ideal) x0 x5 i = PB (X x0) (at2 x5) (2560 * (i 0).val + (i 1).val) (i 2).val := by
  have h0 : (i 0).val < 8 := (i 0).isLt
  have h1 : (i 1).val < 2560 := (i 1).isLt
  rw [val_main_v33_apply]
  refine (val_main_v32_apply x0 x5 i).trans ?_
  unfold PB
  rw [← sum_fin]
  refine sum_congr rfl fun k _ => ?_
  unfold X
  rw [at3_eq x0 _ (k := (2560 * (i 0).val + (i 1).val) / 2560) (m := (2560 * (i 0).val + (i 1).val) % 2560) (n := k.val) (by show (i 0).val = _; omega) (by show (i 1).val = _; omega) rfl,
    at2_eq x5 _ (m := k.val) (n := (i 2).val) rfl rfl]

/-- A token's residual at a column. -/
theorem v35_eq (i : S8x2560x11008.Idx) : val_main_v35 (F := Ideal) x0 x1 x2 x3 x4 x5 x6 i
    = Cert.KernelIdeal.Pure.R (X x0) (E x1 x2 x3 x4) (at2 x5) (at2 x6) (2560 * (i 0).val + (i 1).val) (i 2).val := by
  have h0 : (i 0).val < 8 := (i 0).isLt
  have h1 : (i 1).val < 2560 := (i 1).isLt
  rw [val_main_v35_apply, val_main_v31_apply, val_main_v28_apply, val_main_v30_apply, val_main_v34_apply]
  unfold Cert.KernelIdeal.Pure.R
  show (_ + _) - _ = _
  congr 1
  · rw [show 4096 = 2048 + 2048 from rfl, sum_range_add, ← sum_fin, ← sum_fin]
    congr 1
    · refine sum_congr rfl fun k _ => ?_
      rw [val_main_v27_apply, v15_eq]
      unfold X
      rw [at3_eq x0 _ (k := (2560 * (i 0).val + (i 1).val) / 2560) (m := (2560 * (i 0).val + (i 1).val) % 2560) (n := k.val) (by show (i 0).val = _; omega) (by show (i 1).val = _; omega) rfl]
    · refine sum_congr rfl fun k _ => ?_
      rw [val_main_v29_apply, v26_eq]
      unfold X
      rw [at3_eq x0 _ (k := (2560 * (i 0).val + (i 1).val) / 2560) (m := (2560 * (i 0).val + (i 1).val) % 2560) (n := 2048 + k.val) (by show (i 0).val = _; omega) (by show (i 1).val = _; omega) rfl]
  · rw [← sum_fin]
    refine sum_congr rfl fun k _ => ?_
    rw [v33_eq, at2_eq x6 _ (m := k.val) (n := (i 2).val) rfl rfl]

/-- The loss. -/
theorem v37_eq (i : S8x2560.Idx) : val_main_v37 (F := Ideal) x0 x1 x2 x3 x4 x5 x6 i = lossOf x0 x1 x2 x3 x4 x5 x6 (2560 * (i 0).val + (i 1).val) := by
  rw [val_main_v37_apply]
  refine (congrArg₂ (· + ·) Ideal.ofBits_zero_f32 rfl).trans ((zero_add _).trans ?_)
  unfold lossOf
  rw [← sum_fin]
  refine sum_congr rfl fun k _ => ?_
  rw [val_main_v36_apply, v35_eq]
  rfl

/-- The gradient of a token at a rank. -/
theorem v39_eq (i : S8x2560x64.Idx) : val_main_v39 (F := Ideal) x0 x1 x2 x3 x4 x5 x6 i = gOf x0 x1 x2 x3 x4 x5 x6 (2560 * (i 0).val + (i 1).val) (i 2).val := by
  rw [val_main_v39_apply]
  unfold gOf
  rw [← sum_fin]
  refine sum_congr rfl fun k _ => ?_
  rw [val_main_v38_apply, at2_eq x6 _ (m := (i 2).val) (n := k.val) rfl rfl]
  refine congrArg (· * _) ?_
  exact v35_eq x0 x1 x2 x3 x4 x5 x6 _

/-- The first factor's gradient. -/
theorem v43_eq (i : S4096x64.Idx) : val_main_v43 (F := Ideal) x0 x1 x2 x3 x4 x5 x6 i = daOf x0 x1 x2 x3 x4 x5 x6 (i 0).val (i 1).val := by
  obtain ⟨d, r, rfl⟩ : ∃ (d : Fin 4096) (r : Fin 64), i = ix2 d r := ⟨_, _, eq_ix2 i⟩
  rw [val_main_v43_apply, val_main_v42_apply]
  unfold daOf
  refine congrArg (Ideal.ofBits .f32 0xC0000000#32 * ·) ?_
  unfold val_main_v41
  refine (dot41_apply _ _ d r).trans ?_
  rw [← sum_tokens]
  refine sum_congr rfl fun b _ => sum_congr rfl fun s _ => ?_
  have hb := b.isLt
  have hs := s.isLt
  unfold X
  refine congrArg₂ (· * ·) (at3_eq x0 _ (by show b.val = _; omega) (by show s.val = _; omega) rfl) ?_
  rw [val_main_v40_apply]
  exact v39_eq x0 x1 x2 x3 x4 x5 x6 (ix3 b s r)

/-- The second factor's gradient. -/
theorem v46_eq (i : S64x11008.Idx) : val_main_v46 (F := Ideal) x0 x1 x2 x3 x4 x5 x6 i = dbOf x0 x1 x2 x3 x4 x5 x6 (i 0).val (i 1).val := by
  obtain ⟨r, n, rfl⟩ : ∃ (r : Fin 64) (n : Fin 11008), i = ix2 r n := ⟨_, _, eq_ix2 i⟩
  rw [val_main_v46_apply, val_main_v45_apply]
  unfold dbOf
  refine congrArg (Ideal.ofBits .f32 0xC0000000#32 * ·) ?_
  unfold val_main_v44
  refine (dot44_apply _ _ r n).trans ?_
  rw [← sum_tokens]
  refine sum_congr rfl fun b _ => sum_congr rfl fun s _ => ?_
  rw [v33_eq, val_main_v38_apply]
  exact congrArg (_ * ·) (v35_eq x0 x1 x2 x3 x4 x5 x6 (ix3 b s n))

end

end Cert.ReferenceIdeal.Val
-- ==== Proof.ReferenceIdeal.Frame.lean ====
/- The reference over the extended reals: its frame, and its four results as the plain sums. -/
module

public import proofs.«01_k».proof.Proof.ReferenceIdeal.Val
public import proofs.«01_k».proof.Proof.Gen.ReferenceIdeal.Run
public import proofs.«01_k».proof.Proof.Gen.ReferenceIdeal.Read

@[expose] public section

set_option maxRecDepth 16384

noncomputable section

namespace Cert.ReferenceIdeal.Frame

open Cert.ReferenceIdeal Cert.ReferenceIdeal.Read Cert.KernelIdeal.Spec
open Idealize.ShloMosaic Idealize.ShloMosaic.ValueIdx Idealize.ShloMosaic.TcCoe
open Idealize.SL Idealize.SL.Sem

variable (m : (ℓ : Loc nD τ sig) → Buf (Elt Ideal) ℓ) (ρ : Dev nD → PrngReg)

/-- The reference has no semaphore. -/
theorem no_sem : ∀ _ : SemLoc sig, False := by decide

/-- The reference terminates without a fault, leaves its arguments, and no semaphore of it counts. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hs => ⟨fun c => (hs c).2.2.2.2, funext fun g => (no_sem g.2).elim⟩) (Cert.ReferenceIdeal.Value.run m ρ)

/-- What the four results of a run are, from the arguments `x0 … x6` on each device. -/
theorem values (x0 : Dev nD → S8x2560x4096.Idx → EReal) (x1 : Dev nD → S4096x11008.Idx → EReal) (x2 : Dev nD → S2048x11008.Idx → BitVec 8)
    (x3 x4 : Dev nD → S128x11008.Idx → EReal) (x5 : Dev nD → S4096x64.Idx → EReal) (x6 : Dev nD → S64x11008.Idx → EReal)
    (h : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c ∧ m ((c.tc : Thread nD τ).loc main_arg4) = x4 c
      ∧ m ((c.tc : Thread nD τ).loc main_arg5) = x5 c ∧ m ((c.tc : Thread nD τ).loc main_arg6) = x6 c) :
    θ_run (defs (F := Ideal)) (onTc (τ := τ) (main (F := Ideal))) ⟨m, fun _ => 0, ρ⟩ (fun r => ∀ c : Dev nD,
      r.2.mem ((c.tc : Thread nD τ).loc main_v37) = (fun i : S8x2560.Idx => lossOf (x0 c) (x1 c) (x2 c) (x3 c) (x4 c) (x5 c) (x6 c) (2560 * (i 0).val + (i 1).val))
      ∧ r.2.mem ((c.tc : Thread nD τ).loc main_v39) = (fun i : S8x2560x64.Idx => gOf (x0 c) (x1 c) (x2 c) (x3 c) (x4 c) (x5 c) (x6 c) (2560 * (i 0).val + (i 1).val) (i 2).val)
      ∧ r.2.mem ((c.tc : Thread nD τ).loc main_v43) = (fun i : S4096x64.Idx => daOf (x0 c) (x1 c) (x2 c) (x3 c) (x4 c) (x5 c) (x6 c) (i 0).val (i 1).val)
      ∧ r.2.mem ((c.tc : Thread nD τ).loc main_v46) = (fun i : S64x11008.Idx => dbOf (x0 c) (x1 c) (x2 c) (x3 c) (x4 c) (x5 c) (x6 c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r hs c => ?_) (Cert.ReferenceIdeal.Value.run m ρ)
  obtain ⟨h0, h1, h2, h3, h4, h5, h6⟩ := h c
  rw [← h0, ← h1, ← h2, ← h3, ← h4, ← h5, ← h6]
  exact ⟨((hs c).1.trans (val_main_v37_eq m c)).trans (funext fun i => Val.v37_eq _ _ _ _ _ _ _ i),
    ((hs c).2.1.trans (val_main_v39_eq _ _ _ _ _ _ _)).trans (funext fun i => Val.v39_eq _ _ _ _ _ _ _ i),
    ((hs c).2.2.1.trans (val_main_v43_eq _ _ _ _ _ _ _)).trans (funext fun i => Val.v43_eq _ _ _ _ _ _ _ i),
    ((hs c).2.2.2.1.trans (val_main_v46_eq _ _ _ _ _ _ _)).trans (funext fun i => Val.v46_eq _ _ _ _ _ _ _ i),
    (hs c).2.2.2.2⟩

end Cert.ReferenceIdeal.Frame
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Run
public import proofs.«01_k».proof.Proof.KernelIdeal.Value
public import proofs.«01_k».proof.Proof.ReferenceIdeal.Frame
public import Idealize.ShloMosaic.Adequacy
public import Idealize.ShloMosaic.Init

@[expose] public section

noncomputable section

namespace Cert.Proof

open Idealize.ShloMosaic Idealize.SL.Sem Cert.Kernel

/-- Over the extended reals the kernel's four results are the reference's: both are the plain sums `lossOf`, `gOf`, `daOf`, `dbOf` of the arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Run.W5 m g c (Proc.devRef .tc Cert.KernelIdeal.main_v11), fun c => Cert.KernelIdeal.Run.W5 m g c (Proc.devRef .tc Cert.KernelIdeal.main_v12),
    fun c => Cert.KernelIdeal.Run.W5 m g c (Proc.devRef .tc Cert.KernelIdeal.main_v8_2), fun c => Cert.KernelIdeal.Run.W5 m g c (Proc.devRef .tc Cert.KernelIdeal.main_v10), ?_, ?_⟩
  · refine (θ_run Cert.KernelIdeal.defs _ _).mono (fun s hs c => ?_) (Cert.KernelIdeal.Run.run_all m g)
    exact ⟨hs.1 c _ (Cert.KernelIdeal.Run.mem_uc Cert.KernelIdeal.main_v11 (by decide)),
      hs.1 c _ (Cert.KernelIdeal.Run.mem_uc Cert.KernelIdeal.main_v12 (by decide)),
      hs.1 c _ (Cert.KernelIdeal.Run.mem_uc Cert.KernelIdeal.main_v8_2 (by decide)),
      hs.1 c _ (Cert.KernelIdeal.Run.mem_uc Cert.KernelIdeal.main_v10 (by decide)),
      (hs.1 c _ (Cert.KernelIdeal.Run.mem_uc Cert.KernelIdeal.main_arg0 (by decide))).trans (Cert.KernelIdeal.Run.W5_main_arg0 m g c),
      (hs.1 c _ (Cert.KernelIdeal.Run.mem_uc Cert.KernelIdeal.main_arg1 (by decide))).trans (Cert.KernelIdeal.Run.W5_main_arg1 m g c),
      (hs.1 c _ (Cert.KernelIdeal.Run.mem_uc Cert.KernelIdeal.main_arg2 (by decide))).trans (Cert.KernelIdeal.Run.W5_main_arg2 m g c),
      (hs.1 c _ (Cert.KernelIdeal.Run.mem_uc Cert.KernelIdeal.main_arg3 (by decide))).trans (Cert.KernelIdeal.Run.W5_main_arg3 m g c),
      (hs.1 c _ (Cert.KernelIdeal.Run.mem_uc Cert.KernelIdeal.main_arg4 (by decide))).trans (Cert.KernelIdeal.Run.W5_main_arg4 m g c),
      (hs.1 c _ (Cert.KernelIdeal.Run.mem_uc Cert.KernelIdeal.main_arg5 (by decide))).trans (Cert.KernelIdeal.Run.W5_main_arg5 m g c),
      (hs.1 c _ (Cert.KernelIdeal.Run.mem_uc Cert.KernelIdeal.main_arg6 (by decide))).trans (Cert.KernelIdeal.Run.W5_main_arg6 m g c)⟩
  · refine (θ_run Cert.ReferenceIdeal.defs _ _).mono (fun s hs c => ?_) (Cert.ReferenceIdeal.Frame.values m' g' (Cert.KernelIdeal.Value.a0 m) (Cert.KernelIdeal.Value.a1 m)
      (Cert.KernelIdeal.Value.a2 m) (Cert.KernelIdeal.Value.a3 m) (Cert.KernelIdeal.Value.a4 m) (Cert.KernelIdeal.Value.a5 m) (Cert.KernelIdeal.Value.a6 m) hagree)
    obtain ⟨h0, h1, h2, h3, h4⟩ := hs c
    exact ⟨h0.trans (Cert.KernelIdeal.Value.res_loss m g c).symm, h1.trans (Cert.KernelIdeal.Value.res_g m g c).symm,
      h2.trans (Cert.KernelIdeal.Value.res_da m g c).symm, h3.trans (Cert.KernelIdeal.Value.res_db m g c).symm, h4⟩

/-- Every claim: the three frames, the kernel kept by its idealization, and the equality of the results. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Frame.frame m g, trivial, algebraic⟩

end Cert.Proof

end
